-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x63x64 : Shape := ⟨3, ![16, 63, 64]⟩
abbrev S16x32x62x16 : Shape := ⟨4, ![16, 32, 62, 16]⟩
abbrev S2x4000 : Shape := ⟨2, ![2, 4000]⟩
abbrev S32x1 : Shape := ⟨2, ![32, 1]⟩
abbrev S32 : Shape := ⟨1, ![32]⟩
abbrev S16x32x1x2 : Shape := ⟨4, ![16, 32, 1, 2]⟩
abbrev S16 : Shape := ⟨1, ![16]⟩
abbrev S16x16x1x2 : Shape := ⟨4, ![16, 16, 1, 2]⟩
abbrev S32x16 : Shape := ⟨2, ![32, 16]⟩
abbrev S1024x512 : Shape := ⟨2, ![1024, 512]⟩
abbrev S512 : Shape := ⟨1, ![512]⟩
abbrev S2x256 : Shape := ⟨2, ![2, 256]⟩
abbrev S1x8 : Shape := ⟨2, ![1, 8]⟩
abbrev S1 : Shape := ⟨1, ![1]⟩
abbrev S1x62 : Shape := ⟨2, ![1, 62]⟩
abbrev S16x62x64 : Shape := ⟨3, ![16, 62, 64]⟩
abbrev S_ : Shape := ⟨0, ![]⟩

class Facts : Prop where
  slices_S16x63x64_S16x62x64_0_0_0 : S16x63x64.Slices ![0, 0, 0] S16x62x64
  bcast_S_S2x4000 : S_.BroadcastsInDim S2x4000 (![] : Fin 0 → Fin S2x4000.rank)
  reducesTo_S2x4000_S_d0_1 : S2x4000.ReducesTo [0, 1] S_
  h_S_ : 0 < S_.numel
  bcast_S_S16x62x64 : S_.BroadcastsInDim S16x62x64 (![] : Fin 0 → Fin S16x62x64.rank)
  reducesTo_S16x62x64_S_d0_1_2 : S16x62x64.ReducesTo [0, 1, 2] S_
  bcast_S_S16x32x62x16 : S_.BroadcastsInDim S16x32x62x16 (![] : Fin 0 → Fin S16x32x62x16.rank)
  reducesTo_S16x32x62x16_S_d0_1_2_3 : S16x32x62x16.ReducesTo [0, 1, 2, 3] S_
  bcast_S_S32x1 : S_.BroadcastsInDim S32x1 (![] : Fin 0 → Fin S32x1.rank)
  reducesTo_S32x1_S_d0_1 : S32x1.ReducesTo [0, 1] S_
  bcast_S_S32 : S_.BroadcastsInDim S32 (![] : Fin 0 → Fin S32.rank)
  reducesTo_S32_S_d0 : S32.ReducesTo [0] S_
  bcast_S_S16x32x1x2 : S_.BroadcastsInDim S16x32x1x2 (![] : Fin 0 → Fin S16x32x1x2.rank)
  reducesTo_S16x32x1x2_S_d0_1_2_3 : S16x32x1x2.ReducesTo [0, 1, 2, 3] S_
  bcast_S_S16 : S_.BroadcastsInDim S16 (![] : Fin 0 → Fin S16.rank)
  reducesTo_S16_S_d0 : S16.ReducesTo [0] S_
  bcast_S_S16x16x1x2 : S_.BroadcastsInDim S16x16x1x2 (![] : Fin 0 → Fin S16x16x1x2.rank)
  reducesTo_S16x16x1x2_S_d0_1_2_3 : S16x16x1x2.ReducesTo [0, 1, 2, 3] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_
  bcast_S_S1x62 : S_.BroadcastsInDim S1x62 (![] : Fin 0 → Fin S1x62.rank)
  reducesTo_S1x62_S_d0_1 : S1x62.ReducesTo [0, 1] S_

variable [Facts]

def fn_part12 {F : FTy → Type} [FloatOps F] (main_v195 : IVec S_ 1) (main_v200 : IVec S1x62 1) (main_c_84 : IVec S_ 1) : IVec S_ 1 :=
  let main_v201 : IVec S_ 1 := (fun x v => Host.reduce IntOp.andi x v reducesTo_S1x62_S_d0_1 h_S_) main_v200 main_c_84
  let main_v202 : IVec S_ 1 := andi main_v195 main_v201
  main_v202

def fn_part11 {F : FTy → Type} [FloatOps F] (main_arg31 : FVec F S1x8 .f32) (main_arg32 : FVec F S1 .f32) (main_arg33 : FVec F S1x62 .f32) (main_v181 : IVec S_ 1) (main_v183 : IVec S1x8 1) (main_cst_77 : FVec F S_ .f32) : IVec S_ 1 :=
  let main_v184 : FVec F S1x8 .f32 := broadcastInDim S1x8 ![] bcast_S_S1x8 main_cst_77
  let main_v185 : IVec S1x8 1 := cmpf .ogt main_arg31 main_v184
  let main_v186 : IVec S1x8 1 := andi main_v183 main_v185
  let main_c_78 : IVec S_ 1 := constantI S_ 1 1#1
  let main_v187 : IVec S_ 1 := (fun x v => Host.reduce IntOp.andi x v reducesTo_S1x8_S_d0_1 h_S_) main_v186 main_c_78
  let main_v188 : IVec S_ 1 := andi main_v181 main_v187
  let main_cst_79 : FVec F S_ .f32 := constant S_ .f32 0x7F800000#32
  let main_v189 : FVec F S1 .f32 := broadcastInDim S1 ![] bcast_S_S1 main_cst_79
  let main_v190 : IVec S1 1 := cmpf .olt main_arg32 main_v189
  let main_cst_80 : FVec F S_ .f32 := constant S_ .f32 0xFF800000#32
  let main_v191 : FVec F S1 .f32 := broadcastInDim S1 ![] bcast_S_S1 main_cst_80
  let main_v192 : IVec S1 1 := cmpf .ogt main_arg32 main_v191
  let main_v193 : IVec S1 1 := andi main_v190 main_v192
  let main_c_81 : IVec S_ 1 := constantI S_ 1 1#1
  let main_v194 : IVec S_ 1 := (fun x v => Host.reduce IntOp.andi x v reducesTo_S1_S_d0 h_S_) main_v193 main_c_81
  let main_v195 : IVec S_ 1 := andi main_v188 main_v194
  let main_cst_82 : FVec F S_ .f32 := constant S_ .f32 0x7F800000#32
  let main_v196 : FVec F S1x62 .f32 := broadcastInDim S1x62 ![] bcast_S_S1x62 main_cst_82
  let main_v197 : IVec S1x62 1 := cmpf .olt main_arg33 main_v196
  let main_cst_83 : FVec F S_ .f32 := constant S_ .f32 0xFF800000#32
  let main_v198 : FVec F S1x62 .f32 := broadcastInDim S1x62 ![] bcast_S_S1x62 main_cst_83
  let main_v199 : IVec S1x62 1 := cmpf .ogt main_arg33 main_v198
  let main_v200 : IVec S1x62 1 := andi main_v197 main_v199
  let main_c_84 : IVec S_ 1 := constantI S_ 1 1#1
  fn_part12 (F := F) main_v195 main_v200 main_c_84

def fn_part10 {F : FTy → Type} [FloatOps F] (main_arg26 : FVec F S512 .f32) (main_arg30 : FVec F S512 .f32) (main_arg31 : FVec F S1x8 .f32) (main_arg32 : FVec F S1 .f32) (main_arg33 : FVec F S1x62 .f32) (main_v167 : IVec S_ 1) : IVec S_ 1 :=
  let main_cst_70 : FVec F S_ .f32 := constant S_ .f32 0x7F800000#32
  let main_v168 : FVec F S512 .f32 := broadcastInDim S512 ![] bcast_S_S512 main_cst_70
  let main_v169 : IVec S512 1 := cmpf .olt main_arg26 main_v168
  let main_cst_71 : FVec F S_ .f32 := constant S_ .f32 0xFF800000#32
  let main_v170 : FVec F S512 .f32 := broadcastInDim S512 ![] bcast_S_S512 main_cst_71
  let main_v171 : IVec S512 1 := cmpf .ogt main_arg26 main_v170
  let main_v172 : IVec S512 1 := andi main_v169 main_v171
  let main_c_72 : IVec S_ 1 := constantI S_ 1 1#1
  let main_v173 : IVec S_ 1 := (fun x v => Host.reduce IntOp.andi x v reducesTo_S512_S_d0 h_S_) main_v172 main_c_72
  let main_v174 : IVec S_ 1 := andi main_v167 main_v173
  let main_cst_73 : FVec F S_ .f32 := constant S_ .f32 0x7F800000#32
  let main_v175 : FVec F S512 .f32 := broadcastInDim S512 ![] bcast_S_S512 main_cst_73
  let main_v176 : IVec S512 1 := cmpf .olt main_arg30 main_v175
  let main_cst_74 : FVec F S_ .f32 := constant S_ .f32 0xFF800000#32
  let main_v177 : FVec F S512 .f32 := broadcastInDim S512 ![] bcast_S_S512 main_cst_74
  let main_v178 : IVec S512 1 := cmpf .ogt main_arg30 main_v177
  let main_v179 : IVec S512 1 := andi main_v176 main_v178
  let main_c_75 : IVec S_ 1 := constantI S_ 1 1#1
  let main_v180 : IVec S_ 1 := (fun x v => Host.reduce IntOp.andi x v reducesTo_S512_S_d0 h_S_) main_v179 main_c_75
  let main_v181 : IVec S_ 1 := andi main_v174 main_v180
  let main_cst_76 : FVec F S_ .f32 := constant S_ .f32 0x7F800000#32
  let main_v182 : FVec F S1x8 .f32 := broadcastInDim S1x8 ![] bcast_S_S1x8 main_cst_76
  let main_v183 : IVec S1x8 1 := cmpf .olt main_arg31 main_v182
  let main_cst_77 : FVec F S_ .f32 := constant S_ .f32 0xFF800000#32
  fn_part11 (F := F) main_arg31 main_arg32 main_arg33 main_v181 main_v183 main_cst_77

def fn_part9 {F : FTy → Type} [FloatOps F] (main_arg22 : FVec F S16 .f32) (main_arg25 : FVec F S1024x512 .f32) (main_arg26 : FVec F S512 .f32) (main_arg30 : FVec F S512 .f32) (main_arg31 : FVec F S1x8 .f32) (main_arg32 : FVec F S1 .f32) (main_arg33 : FVec F S1x62 .f32) (main_v146 : IVec S_ 1) (main_v148 : IVec S16x16x1x2 1) (main_v150 : IVec S16x16x1x2 1) : IVec S_ 1 :=
  let main_v151 : IVec S16x16x1x2 1 := andi main_v148 main_v150
  let main_c_63 : IVec S_ 1 := constantI S_ 1 1#1
  let main_v152 : IVec S_ 1 := (fun x v => Host.reduce IntOp.andi x v reducesTo_S16x16x1x2_S_d0_1_2_3 h_S_) main_v151 main_c_63
  let main_v153 : IVec S_ 1 := andi main_v146 main_v152
  let main_cst_64 : FVec F S_ .f32 := constant S_ .f32 0x7F800000#32
  let main_v154 : FVec F S16 .f32 := broadcastInDim S16 ![] bcast_S_S16 main_cst_64
  let main_v155 : IVec S16 1 := cmpf .olt main_arg22 main_v154
  let main_cst_65 : FVec F S_ .f32 := constant S_ .f32 0xFF800000#32
  let main_v156 : FVec F S16 .f32 := broadcastInDim S16 ![] bcast_S_S16 main_cst_65
  let main_v157 : IVec S16 1 := cmpf .ogt main_arg22 main_v156
  let main_v158 : IVec S16 1 := andi main_v155 main_v157
  let main_c_66 : IVec S_ 1 := constantI S_ 1 1#1
  let main_v159 : IVec S_ 1 := (fun x v => Host.reduce IntOp.andi x v reducesTo_S16_S_d0 h_S_) main_v158 main_c_66
  let main_v160 : IVec S_ 1 := andi main_v153 main_v159
  let main_cst_67 : FVec F S_ .f32 := constant S_ .f32 0x7F800000#32
  let main_v161 : FVec F S1024x512 .f32 := broadcastInDim S1024x512 ![] bcast_S_S1024x512 main_cst_67
  let main_v162 : IVec S1024x512 1 := cmpf .olt main_arg25 main_v161
  let main_cst_68 : FVec F S_ .f32 := constant S_ .f32 0xFF800000#32
  let main_v163 : FVec F S1024x512 .f32 := broadcastInDim S1024x512 ![] bcast_S_S1024x512 main_cst_68
  let main_v164 : IVec S1024x512 1 := cmpf .ogt main_arg25 main_v163
  let main_v165 : IVec S1024x512 1 := andi main_v162 main_v164
  let main_c_69 : IVec S_ 1 := constantI S_ 1 1#1
  let main_v166 : IVec S_ 1 := (fun x v => Host.reduce IntOp.andi x v reducesTo_S1024x512_S_d0_1 h_S_) main_v165 main_c_69
  let main_v167 : IVec S_ 1 := andi main_v160 main_v166
  fn_part10 (F := F) main_arg26 main_arg30 main_arg31 main_arg32 main_arg33 main_v167

def fn_part8 {F : FTy → Type} [FloatOps F] (main_arg19 : FVec F S16x16x1x2 .f32) (main_arg20 : FVec F S16 .f32) (main_arg21 : FVec F S16x16x1x2 .f32) (main_arg22 : FVec F S16 .f32) (main_arg25 : FVec F S1024x512 .f32) (main_arg26 : FVec F S512 .f32) (main_arg30 : FVec F S512 .f32) (main_arg31 : FVec F S1x8 .f32) (main_arg32 : FVec F S1 .f32) (main_arg33 : FVec F S1x62 .f32) (main_v132 : IVec S_ 1) (main_v133 : FVec F S16x16x1x2 .f32) : IVec S_ 1 :=
  let main_v134 : IVec S16x16x1x2 1 := cmpf .olt main_arg19 main_v133
  let main_cst_56 : FVec F S_ .f32 := constant S_ .f32 0xFF800000#32
  let main_v135 : FVec F S16x16x1x2 .f32 := broadcastInDim S16x16x1x2 ![] bcast_S_S16x16x1x2 main_cst_56
  let main_v136 : IVec S16x16x1x2 1 := cmpf .ogt main_arg19 main_v135
  let main_v137 : IVec S16x16x1x2 1 := andi main_v134 main_v136
  let main_c_57 : IVec S_ 1 := constantI S_ 1 1#1
  let main_v138 : IVec S_ 1 := (fun x v => Host.reduce IntOp.andi x v reducesTo_S16x16x1x2_S_d0_1_2_3 h_S_) main_v137 main_c_57
  let main_v139 : IVec S_ 1 := andi main_v132 main_v138
  let main_cst_58 : FVec F S_ .f32 := constant S_ .f32 0x7F800000#32
  let main_v140 : FVec F S16 .f32 := broadcastInDim S16 ![] bcast_S_S16 main_cst_58
  let main_v141 : IVec S16 1 := cmpf .olt main_arg20 main_v140
  let main_cst_59 : FVec F S_ .f32 := constant S_ .f32 0xFF800000#32
  let main_v142 : FVec F S16 .f32 := broadcastInDim S16 ![] bcast_S_S16 main_cst_59
  let main_v143 : IVec S16 1 := cmpf .ogt main_arg20 main_v142
  let main_v144 : IVec S16 1 := andi main_v141 main_v143
  let main_c_60 : IVec S_ 1 := constantI S_ 1 1#1
  let main_v145 : IVec S_ 1 := (fun x v => Host.reduce IntOp.andi x v reducesTo_S16_S_d0 h_S_) main_v144 main_c_60
  let main_v146 : IVec S_ 1 := andi main_v139 main_v145
  let main_cst_61 : FVec F S_ .f32 := constant S_ .f32 0x7F800000#32
  let main_v147 : FVec F S16x16x1x2 .f32 := broadcastInDim S16x16x1x2 ![] bcast_S_S16x16x1x2 main_cst_61
  let main_v148 : IVec S16x16x1x2 1 := cmpf .olt main_arg21 main_v147
  let main_cst_62 : FVec F S_ .f32 := constant S_ .f32 0xFF800000#32
  let main_v149 : FVec F S16x16x1x2 .f32 := broadcastInDim S16x16x1x2 ![] bcast_S_S16x16x1x2 main_cst_62
  let main_v150 : IVec S16x16x1x2 1 := cmpf .ogt main_arg21 main_v149
  fn_part9 (F := F) main_arg22 main_arg25 main_arg26 main_arg30 main_arg31 main_arg32 main_arg33 main_v146 main_v148 main_v150

def fn_part7 {F : FTy → Type} [FloatOps F] (main_arg17 : FVec F S16x32x1x2 .f32) (main_arg18 : FVec F S16 .f32) (main_arg19 : FVec F S16x16x1x2 .f32) (main_arg20 : FVec F S16 .f32) (main_arg21 : FVec F S16x16x1x2 .f32) (main_arg22 : FVec F S16 .f32) (main_arg25 : FVec F S1024x512 .f32) (main_arg26 : FVec F S512 .f32) (main_arg30 : FVec F S512 .f32) (main_arg31 : FVec F S1x8 .f32) (main_arg32 : FVec F S1 .f32) (main_arg33 : FVec F S1x62 .f32) (main_v111 : IVec S_ 1) (main_v116 : IVec S16 1) (main_c_48 : IVec S_ 1) : IVec S_ 1 :=
  let main_v117 : IVec S_ 1 := (fun x v => Host.reduce IntOp.andi x v reducesTo_S16_S_d0 h_S_) main_v116 main_c_48
  let main_v118 : IVec S_ 1 := andi main_v111 main_v117
  let main_cst_49 : FVec F S_ .f32 := constant S_ .f32 0x7F800000#32
  let main_v119 : FVec F S16x32x1x2 .f32 := broadcastInDim S16x32x1x2 ![] bcast_S_S16x32x1x2 main_cst_49
  let main_v120 : IVec S16x32x1x2 1 := cmpf .olt main_arg17 main_v119
  let main_cst_50 : FVec F S_ .f32 := constant S_ .f32 0xFF800000#32
  let main_v121 : FVec F S16x32x1x2 .f32 := broadcastInDim S16x32x1x2 ![] bcast_S_S16x32x1x2 main_cst_50
  let main_v122 : IVec S16x32x1x2 1 := cmpf .ogt main_arg17 main_v121
  let main_v123 : IVec S16x32x1x2 1 := andi main_v120 main_v122
  let main_c_51 : IVec S_ 1 := constantI S_ 1 1#1
  let main_v124 : IVec S_ 1 := (fun x v => Host.reduce IntOp.andi x v reducesTo_S16x32x1x2_S_d0_1_2_3 h_S_) main_v123 main_c_51
  let main_v125 : IVec S_ 1 := andi main_v118 main_v124
  let main_cst_52 : FVec F S_ .f32 := constant S_ .f32 0x7F800000#32
  let main_v126 : FVec F S16 .f32 := broadcastInDim S16 ![] bcast_S_S16 main_cst_52
  let main_v127 : IVec S16 1 := cmpf .olt main_arg18 main_v126
  let main_cst_53 : FVec F S_ .f32 := constant S_ .f32 0xFF800000#32
  let main_v128 : FVec F S16 .f32 := broadcastInDim S16 ![] bcast_S_S16 main_cst_53
  let main_v129 : IVec S16 1 := cmpf .ogt main_arg18 main_v128
  let main_v130 : IVec S16 1 := andi main_v127 main_v129
  let main_c_54 : IVec S_ 1 := constantI S_ 1 1#1
  let main_v131 : IVec S_ 1 := (fun x v => Host.reduce IntOp.andi x v reducesTo_S16_S_d0 h_S_) main_v130 main_c_54
  let main_v132 : IVec S_ 1 := andi main_v125 main_v131
  let main_cst_55 : FVec F S_ .f32 := constant S_ .f32 0x7F800000#32
  let main_v133 : FVec F S16x16x1x2 .f32 := broadcastInDim S16x16x1x2 ![] bcast_S_S16x16x1x2 main_cst_55
  fn_part8 (F := F) main_arg19 main_arg20 main_arg21 main_arg22 main_arg25 main_arg26 main_arg30 main_arg31 main_arg32 main_arg33 main_v132 main_v133

def fn_part6 {F : FTy → Type} [FloatOps F] (main_arg14 : FVec F S16 .f32) (main_arg15 : FVec F S16x16x1x2 .f32) (main_arg16 : FVec F S16 .f32) (main_arg17 : FVec F S16x32x1x2 .f32) (main_arg18 : FVec F S16 .f32) (main_arg19 : FVec F S16x16x1x2 .f32) (main_arg20 : FVec F S16 .f32) (main_arg21 : FVec F S16x16x1x2 .f32) (main_arg22 : FVec F S16 .f32) (main_arg25 : FVec F S1024x512 .f32) (main_arg26 : FVec F S512 .f32) (main_arg30 : FVec F S512 .f32) (main_arg31 : FVec F S1x8 .f32) (main_arg32 : FVec F S1 .f32) (main_arg33 : FVec F S1x62 .f32) (main_v97 : IVec S_ 1) (main_v99 : IVec S16 1) (main_cst_41 : FVec F S_ .f32) : IVec S_ 1 :=
  let main_v100 : FVec F S16 .f32 := broadcastInDim S16 ![] bcast_S_S16 main_cst_41
  let main_v101 : IVec S16 1 := cmpf .ogt main_arg14 main_v100
  let main_v102 : IVec S16 1 := andi main_v99 main_v101
  let main_c_42 : IVec S_ 1 := constantI S_ 1 1#1
  let main_v103 : IVec S_ 1 := (fun x v => Host.reduce IntOp.andi x v reducesTo_S16_S_d0 h_S_) main_v102 main_c_42
  let main_v104 : IVec S_ 1 := andi main_v97 main_v103
  let main_cst_43 : FVec F S_ .f32 := constant S_ .f32 0x7F800000#32
  let main_v105 : FVec F S16x16x1x2 .f32 := broadcastInDim S16x16x1x2 ![] bcast_S_S16x16x1x2 main_cst_43
  let main_v106 : IVec S16x16x1x2 1 := cmpf .olt main_arg15 main_v105
  let main_cst_44 : FVec F S_ .f32 := constant S_ .f32 0xFF800000#32
  let main_v107 : FVec F S16x16x1x2 .f32 := broadcastInDim S16x16x1x2 ![] bcast_S_S16x16x1x2 main_cst_44
  let main_v108 : IVec S16x16x1x2 1 := cmpf .ogt main_arg15 main_v107
  let main_v109 : IVec S16x16x1x2 1 := andi main_v106 main_v108
  let main_c_45 : IVec S_ 1 := constantI S_ 1 1#1
  let main_v110 : IVec S_ 1 := (fun x v => Host.reduce IntOp.andi x v reducesTo_S16x16x1x2_S_d0_1_2_3 h_S_) main_v109 main_c_45
  let main_v111 : IVec S_ 1 := andi main_v104 main_v110
  let main_cst_46 : FVec F S_ .f32 := constant S_ .f32 0x7F800000#32
  let main_v112 : FVec F S16 .f32 := broadcastInDim S16 ![] bcast_S_S16 main_cst_46
  let main_v113 : IVec S16 1 := cmpf .olt main_arg16 main_v112
  let main_cst_47 : FVec F S_ .f32 := constant S_ .f32 0xFF800000#32
  let main_v114 : FVec F S16 .f32 := broadcastInDim S16 ![] bcast_S_S16 main_cst_47
  let main_v115 : IVec S16 1 := cmpf .ogt main_arg16 main_v114
  let main_v116 : IVec S16 1 := andi main_v113 main_v115
  let main_c_48 : IVec S_ 1 := constantI S_ 1 1#1
  fn_part7 (F := F) main_arg17 main_arg18 main_arg19 main_arg20 main_arg21 main_arg22 main_arg25 main_arg26 main_arg30 main_arg31 main_arg32 main_arg33 main_v111 main_v116 main_c_48

def fn_part5 {F : FTy → Type} [FloatOps F] (main_arg12 : FVec F S16 .f32) (main_arg13 : FVec F S16x16x1x2 .f32) (main_arg14 : FVec F S16 .f32) (main_arg15 : FVec F S16x16x1x2 .f32) (main_arg16 : FVec F S16 .f32) (main_arg17 : FVec F S16x32x1x2 .f32) (main_arg18 : FVec F S16 .f32) (main_arg19 : FVec F S16x16x1x2 .f32) (main_arg20 : FVec F S16 .f32) (main_arg21 : FVec F S16x16x1x2 .f32) (main_arg22 : FVec F S16 .f32) (main_arg25 : FVec F S1024x512 .f32) (main_arg26 : FVec F S512 .f32) (main_arg30 : FVec F S512 .f32) (main_arg31 : FVec F S1x8 .f32) (main_arg32 : FVec F S1 .f32) (main_arg33 : FVec F S1x62 .f32) (main_v83 : IVec S_ 1) : IVec S_ 1 :=
  let main_cst_34 : FVec F S_ .f32 := constant S_ .f32 0x7F800000#32
  let main_v84 : FVec F S16 .f32 := broadcastInDim S16 ![] bcast_S_S16 main_cst_34
  let main_v85 : IVec S16 1 := cmpf .olt main_arg12 main_v84
  let main_cst_35 : FVec F S_ .f32 := constant S_ .f32 0xFF800000#32
  let main_v86 : FVec F S16 .f32 := broadcastInDim S16 ![] bcast_S_S16 main_cst_35
  let main_v87 : IVec S16 1 := cmpf .ogt main_arg12 main_v86
  let main_v88 : IVec S16 1 := andi main_v85 main_v87
  let main_c_36 : IVec S_ 1 := constantI S_ 1 1#1
  let main_v89 : IVec S_ 1 := (fun x v => Host.reduce IntOp.andi x v reducesTo_S16_S_d0 h_S_) main_v88 main_c_36
  let main_v90 : IVec S_ 1 := andi main_v83 main_v89
  let main_cst_37 : FVec F S_ .f32 := constant S_ .f32 0x7F800000#32
  let main_v91 : FVec F S16x16x1x2 .f32 := broadcastInDim S16x16x1x2 ![] bcast_S_S16x16x1x2 main_cst_37
  let main_v92 : IVec S16x16x1x2 1 := cmpf .olt main_arg13 main_v91
  let main_cst_38 : FVec F S_ .f32 := constant S_ .f32 0xFF800000#32
  let main_v93 : FVec F S16x16x1x2 .f32 := broadcastInDim S16x16x1x2 ![] bcast_S_S16x16x1x2 main_cst_38
  let main_v94 : IVec S16x16x1x2 1 := cmpf .ogt main_arg13 main_v93
  let main_v95 : IVec S16x16x1x2 1 := andi main_v92 main_v94
  let main_c_39 : IVec S_ 1 := constantI S_ 1 1#1
  let main_v96 : IVec S_ 1 := (fun x v => Host.reduce IntOp.andi x v reducesTo_S16x16x1x2_S_d0_1_2_3 h_S_) main_v95 main_c_39
  let main_v97 : IVec S_ 1 := andi main_v90 main_v96
  let main_cst_40 : FVec F S_ .f32 := constant S_ .f32 0x7F800000#32
  let main_v98 : FVec F S16 .f32 := broadcastInDim S16 ![] bcast_S_S16 main_cst_40
  let main_v99 : IVec S16 1 := cmpf .olt main_arg14 main_v98
  let main_cst_41 : FVec F S_ .f32 := constant S_ .f32 0xFF800000#32
  fn_part6 (F := F) main_arg14 main_arg15 main_arg16 main_arg17 main_arg18 main_arg19 main_arg20 main_arg21 main_arg22 main_arg25 main_arg26 main_arg30 main_arg31 main_arg32 main_arg33 main_v97 main_v99 main_cst_41

def fn_part4 {F : FTy → Type} [FloatOps F] (main_arg10 : FVec F S16 .f32) (main_arg11 : FVec F S16x32x1x2 .f32) (main_arg12 : FVec F S16 .f32) (main_arg13 : FVec F S16x16x1x2 .f32) (main_arg14 : FVec F S16 .f32) (main_arg15 : FVec F S16x16x1x2 .f32) (main_arg16 : FVec F S16 .f32) (main_arg17 : FVec F S16x32x1x2 .f32) (main_arg18 : FVec F S16 .f32) (main_arg19 : FVec F S16x16x1x2 .f32) (main_arg20 : FVec F S16 .f32) (main_arg21 : FVec F S16x16x1x2 .f32) (main_arg22 : FVec F S16 .f32) (main_arg25 : FVec F S1024x512 .f32) (main_arg26 : FVec F S512 .f32) (main_arg30 : FVec F S512 .f32) (main_arg31 : FVec F S1x8 .f32) (main_arg32 : FVec F S1 .f32) (main_arg33 : FVec F S1x62 .f32) (main_v62 : IVec S_ 1) (main_v64 : IVec S16x16x1x2 1) (main_v66 : IVec S16x16x1x2 1) : IVec S_ 1 :=
  let main_v67 : IVec S16x16x1x2 1 := andi main_v64 main_v66
  let main_c_27 : IVec S_ 1 := constantI S_ 1 1#1
  let main_v68 : IVec S_ 1 := (fun x v => Host.reduce IntOp.andi x v reducesTo_S16x16x1x2_S_d0_1_2_3 h_S_) main_v67 main_c_27
  let main_v69 : IVec S_ 1 := andi main_v62 main_v68
  let main_cst_28 : FVec F S_ .f32 := constant S_ .f32 0x7F800000#32
  let main_v70 : FVec F S16 .f32 := broadcastInDim S16 ![] bcast_S_S16 main_cst_28
  let main_v71 : IVec S16 1 := cmpf .olt main_arg10 main_v70
  let main_cst_29 : FVec F S_ .f32 := constant S_ .f32 0xFF800000#32
  let main_v72 : FVec F S16 .f32 := broadcastInDim S16 ![] bcast_S_S16 main_cst_29
  let main_v73 : IVec S16 1 := cmpf .ogt main_arg10 main_v72
  let main_v74 : IVec S16 1 := andi main_v71 main_v73
  let main_c_30 : IVec S_ 1 := constantI S_ 1 1#1
  let main_v75 : IVec S_ 1 := (fun x v => Host.reduce IntOp.andi x v reducesTo_S16_S_d0 h_S_) main_v74 main_c_30
  let main_v76 : IVec S_ 1 := andi main_v69 main_v75
  let main_cst_31 : FVec F S_ .f32 := constant S_ .f32 0x7F800000#32
  let main_v77 : FVec F S16x32x1x2 .f32 := broadcastInDim S16x32x1x2 ![] bcast_S_S16x32x1x2 main_cst_31
  let main_v78 : IVec S16x32x1x2 1 := cmpf .olt main_arg11 main_v77
  let main_cst_32 : FVec F S_ .f32 := constant S_ .f32 0xFF800000#32
  let main_v79 : FVec F S16x32x1x2 .f32 := broadcastInDim S16x32x1x2 ![] bcast_S_S16x32x1x2 main_cst_32
  let main_v80 : IVec S16x32x1x2 1 := cmpf .ogt main_arg11 main_v79
  let main_v81 : IVec S16x32x1x2 1 := andi main_v78 main_v80
  let main_c_33 : IVec S_ 1 := constantI S_ 1 1#1
  let main_v82 : IVec S_ 1 := (fun x v => Host.reduce IntOp.andi x v reducesTo_S16x32x1x2_S_d0_1_2_3 h_S_) main_v81 main_c_33
  let main_v83 : IVec S_ 1 := andi main_v76 main_v82
  fn_part5 (F := F) main_arg12 main_arg13 main_arg14 main_arg15 main_arg16 main_arg17 main_arg18 main_arg19 main_arg20 main_arg21 main_arg22 main_arg25 main_arg26 main_arg30 main_arg31 main_arg32 main_arg33 main_v83

def fn_part3 {F : FTy → Type} [FloatOps F] (main_arg7 : FVec F S16x16x1x2 .f32) (main_arg8 : FVec F S16 .f32) (main_arg9 : FVec F S16x16x1x2 .f32) (main_arg10 : FVec F S16 .f32) (main_arg11 : FVec F S16x32x1x2 .f32) (main_arg12 : FVec F S16 .f32) (main_arg13 : FVec F S16x16x1x2 .f32) (main_arg14 : FVec F S16 .f32) (main_arg15 : FVec F S16x16x1x2 .f32) (main_arg16 : FVec F S16 .f32) (main_arg17 : FVec F S16x32x1x2 .f32) (main_arg18 : FVec F S16 .f32) (main_arg19 : FVec F S16x16x1x2 .f32) (main_arg20 : FVec F S16 .f32) (main_arg21 : FVec F S16x16x1x2 .f32) (main_arg22 : FVec F S16 .f32) (main_arg25 : FVec F S1024x512 .f32) (main_arg26 : FVec F S512 .f32) (main_arg30 : FVec F S512 .f32) (main_arg31 : FVec F S1x8 .f32) (main_arg32 : FVec F S1 .f32) (main_arg33 : FVec F S1x62 .f32) (main_v48 : IVec S_ 1) (main_v49 : FVec F S16x16x1x2 .f32) : IVec S_ 1 :=
  let main_v50 : IVec S16x16x1x2 1 := cmpf .olt main_arg7 main_v49
  let main_cst_20 : FVec F S_ .f32 := constant S_ .f32 0xFF800000#32
  let main_v51 : FVec F S16x16x1x2 .f32 := broadcastInDim S16x16x1x2 ![] bcast_S_S16x16x1x2 main_cst_20
  let main_v52 : IVec S16x16x1x2 1 := cmpf .ogt main_arg7 main_v51
  let main_v53 : IVec S16x16x1x2 1 := andi main_v50 main_v52
  let main_c_21 : IVec S_ 1 := constantI S_ 1 1#1
  let main_v54 : IVec S_ 1 := (fun x v => Host.reduce IntOp.andi x v reducesTo_S16x16x1x2_S_d0_1_2_3 h_S_) main_v53 main_c_21
  let main_v55 : IVec S_ 1 := andi main_v48 main_v54
  let main_cst_22 : FVec F S_ .f32 := constant S_ .f32 0x7F800000#32
  let main_v56 : FVec F S16 .f32 := broadcastInDim S16 ![] bcast_S_S16 main_cst_22
  let main_v57 : IVec S16 1 := cmpf .olt main_arg8 main_v56
  let main_cst_23 : FVec F S_ .f32 := constant S_ .f32 0xFF800000#32
  let main_v58 : FVec F S16 .f32 := broadcastInDim S16 ![] bcast_S_S16 main_cst_23
  let main_v59 : IVec S16 1 := cmpf .ogt main_arg8 main_v58
  let main_v60 : IVec S16 1 := andi main_v57 main_v59
  let main_c_24 : IVec S_ 1 := constantI S_ 1 1#1
  let main_v61 : IVec S_ 1 := (fun x v => Host.reduce IntOp.andi x v reducesTo_S16_S_d0 h_S_) main_v60 main_c_24
  let main_v62 : IVec S_ 1 := andi main_v55 main_v61
  let main_cst_25 : FVec F S_ .f32 := constant S_ .f32 0x7F800000#32
  let main_v63 : FVec F S16x16x1x2 .f32 := broadcastInDim S16x16x1x2 ![] bcast_S_S16x16x1x2 main_cst_25
  let main_v64 : IVec S16x16x1x2 1 := cmpf .olt main_arg9 main_v63
  let main_cst_26 : FVec F S_ .f32 := constant S_ .f32 0xFF800000#32
  let main_v65 : FVec F S16x16x1x2 .f32 := broadcastInDim S16x16x1x2 ![] bcast_S_S16x16x1x2 main_cst_26
  let main_v66 : IVec S16x16x1x2 1 := cmpf .ogt main_arg9 main_v65
  fn_part4 (F := F) main_arg10 main_arg11 main_arg12 main_arg13 main_arg14 main_arg15 main_arg16 main_arg17 main_arg18 main_arg19 main_arg20 main_arg21 main_arg22 main_arg25 main_arg26 main_arg30 main_arg31 main_arg32 main_arg33 main_v62 main_v64 main_v66

def fn_part2 {F : FTy → Type} [FloatOps F] (main_arg5 : FVec F S16x32x1x2 .f32) (main_arg6 : FVec F S16 .f32) (main_arg7 : FVec F S16x16x1x2 .f32) (main_arg8 : FVec F S16 .f32) (main_arg9 : FVec F S16x16x1x2 .f32) (main_arg10 : FVec F S16 .f32) (main_arg11 : FVec F S16x32x1x2 .f32) (main_arg12 : FVec F S16 .f32) (main_arg13 : FVec F S16x16x1x2 .f32) (main_arg14 : FVec F S16 .f32) (main_arg15 : FVec F S16x16x1x2 .f32) (main_arg16 : FVec F S16 .f32) (main_arg17 : FVec F S16x32x1x2 .f32) (main_arg18 : FVec F S16 .f32) (main_arg19 : FVec F S16x16x1x2 .f32) (main_arg20 : FVec F S16 .f32) (main_arg21 : FVec F S16x16x1x2 .f32) (main_arg22 : FVec F S16 .f32) (main_arg25 : FVec F S1024x512 .f32) (main_arg26 : FVec F S512 .f32) (main_arg30 : FVec F S512 .f32) (main_arg31 : FVec F S1x8 .f32) (main_arg32 : FVec F S1 .f32) (main_arg33 : FVec F S1x62 .f32) (main_v27 : IVec S_ 1) (main_v32 : IVec S32 1) (main_c_12 : IVec S_ 1) : IVec S_ 1 :=
  let main_v33 : IVec S_ 1 := (fun x v => Host.reduce IntOp.andi x v reducesTo_S32_S_d0 h_S_) main_v32 main_c_12
  let main_v34 : IVec S_ 1 := andi main_v27 main_v33
  let main_cst_13 : FVec F S_ .f32 := constant S_ .f32 0x7F800000#32
  let main_v35 : FVec F S16x32x1x2 .f32 := broadcastInDim S16x32x1x2 ![] bcast_S_S16x32x1x2 main_cst_13
  let main_v36 : IVec S16x32x1x2 1 := cmpf .olt main_arg5 main_v35
  let main_cst_14 : FVec F S_ .f32 := constant S_ .f32 0xFF800000#32
  let main_v37 : FVec F S16x32x1x2 .f32 := broadcastInDim S16x32x1x2 ![] bcast_S_S16x32x1x2 main_cst_14
  let main_v38 : IVec S16x32x1x2 1 := cmpf .ogt main_arg5 main_v37
  let main_v39 : IVec S16x32x1x2 1 := andi main_v36 main_v38
  let main_c_15 : IVec S_ 1 := constantI S_ 1 1#1
  let main_v40 : IVec S_ 1 := (fun x v => Host.reduce IntOp.andi x v reducesTo_S16x32x1x2_S_d0_1_2_3 h_S_) main_v39 main_c_15
  let main_v41 : IVec S_ 1 := andi main_v34 main_v40
  let main_cst_16 : FVec F S_ .f32 := constant S_ .f32 0x7F800000#32
  let main_v42 : FVec F S16 .f32 := broadcastInDim S16 ![] bcast_S_S16 main_cst_16
  let main_v43 : IVec S16 1 := cmpf .olt main_arg6 main_v42
  let main_cst_17 : FVec F S_ .f32 := constant S_ .f32 0xFF800000#32
  let main_v44 : FVec F S16 .f32 := broadcastInDim S16 ![] bcast_S_S16 main_cst_17
  let main_v45 : IVec S16 1 := cmpf .ogt main_arg6 main_v44
  let main_v46 : IVec S16 1 := andi main_v43 main_v45
  let main_c_18 : IVec S_ 1 := constantI S_ 1 1#1
  let main_v47 : IVec S_ 1 := (fun x v => Host.reduce IntOp.andi x v reducesTo_S16_S_d0 h_S_) main_v46 main_c_18
  let main_v48 : IVec S_ 1 := andi main_v41 main_v47
  let main_cst_19 : FVec F S_ .f32 := constant S_ .f32 0x7F800000#32
  let main_v49 : FVec F S16x16x1x2 .f32 := broadcastInDim S16x16x1x2 ![] bcast_S_S16x16x1x2 main_cst_19
  fn_part3 (F := F) main_arg7 main_arg8 main_arg9 main_arg10 main_arg11 main_arg12 main_arg13 main_arg14 main_arg15 main_arg16 main_arg17 main_arg18 main_arg19 main_arg20 main_arg21 main_arg22 main_arg25 main_arg26 main_arg30 main_arg31 main_arg32 main_arg33 main_v48 main_v49

def fn_part1 {F : FTy → Type} [FloatOps F] (main_arg1 : FVec F S16x32x62x16 .f32) (main_arg3 : FVec F S32x1 .f32) (main_arg4 : FVec F S32 .f32) (main_arg5 : FVec F S16x32x1x2 .f32) (main_arg6 : FVec F S16 .f32) (main_arg7 : FVec F S16x16x1x2 .f32) (main_arg8 : FVec F S16 .f32) (main_arg9 : FVec F S16x16x1x2 .f32) (main_arg10 : FVec F S16 .f32) (main_arg11 : FVec F S16x32x1x2 .f32) (main_arg12 : FVec F S16 .f32) (main_arg13 : FVec F S16x16x1x2 .f32) (main_arg14 : FVec F S16 .f32) (main_arg15 : FVec F S16x16x1x2 .f32) (main_arg16 : FVec F S16 .f32) (main_arg17 : FVec F S16x32x1x2 .f32) (main_arg18 : FVec F S16 .f32) (main_arg19 : FVec F S16x16x1x2 .f32) (main_arg20 : FVec F S16 .f32) (main_arg21 : FVec F S16x16x1x2 .f32) (main_arg22 : FVec F S16 .f32) (main_arg25 : FVec F S1024x512 .f32) (main_arg26 : FVec F S512 .f32) (main_arg30 : FVec F S512 .f32) (main_arg31 : FVec F S1x8 .f32) (main_arg32 : FVec F S1 .f32) (main_arg33 : FVec F S1x62 .f32) (main_v13 : IVec S_ 1) (main_v15 : IVec S16x32x62x16 1) (main_cst_5 : FVec F S_ .f32) : IVec S_ 1 :=
  let main_v16 : FVec F S16x32x62x16 .f32 := broadcastInDim S16x32x62x16 ![] bcast_S_S16x32x62x16 main_cst_5
  let main_v17 : IVec S16x32x62x16 1 := cmpf .ogt main_arg1 main_v16
  let main_v18 : IVec S16x32x62x16 1 := andi main_v15 main_v17
  let main_c_6 : IVec S_ 1 := constantI S_ 1 1#1
  let main_v19 : IVec S_ 1 := (fun x v => Host.reduce IntOp.andi x v reducesTo_S16x32x62x16_S_d0_1_2_3 h_S_) main_v18 main_c_6
  let main_v20 : IVec S_ 1 := andi main_v13 main_v19
  let main_cst_7 : FVec F S_ .f32 := constant S_ .f32 0x7F800000#32
  let main_v21 : FVec F S32x1 .f32 := broadcastInDim S32x1 ![] bcast_S_S32x1 main_cst_7
  let main_v22 : IVec S32x1 1 := cmpf .olt main_arg3 main_v21
  let main_cst_8 : FVec F S_ .f32 := constant S_ .f32 0xFF800000#32
  let main_v23 : FVec F S32x1 .f32 := broadcastInDim S32x1 ![] bcast_S_S32x1 main_cst_8
  let main_v24 : IVec S32x1 1 := cmpf .ogt main_arg3 main_v23
  let main_v25 : IVec S32x1 1 := andi main_v22 main_v24
  let main_c_9 : IVec S_ 1 := constantI S_ 1 1#1
  let main_v26 : IVec S_ 1 := (fun x v => Host.reduce IntOp.andi x v reducesTo_S32x1_S_d0_1 h_S_) main_v25 main_c_9
  let main_v27 : IVec S_ 1 := andi main_v20 main_v26
  let main_cst_10 : FVec F S_ .f32 := constant S_ .f32 0x7F800000#32
  let main_v28 : FVec F S32 .f32 := broadcastInDim S32 ![] bcast_S_S32 main_cst_10
  let main_v29 : IVec S32 1 := cmpf .olt main_arg4 main_v28
  let main_cst_11 : FVec F S_ .f32 := constant S_ .f32 0xFF800000#32
  let main_v30 : FVec F S32 .f32 := broadcastInDim S32 ![] bcast_S_S32 main_cst_11
  let main_v31 : IVec S32 1 := cmpf .ogt main_arg4 main_v30
  let main_v32 : IVec S32 1 := andi main_v29 main_v31
  let main_c_12 : IVec S_ 1 := constantI S_ 1 1#1
  fn_part2 (F := F) main_arg5 main_arg6 main_arg7 main_arg8 main_arg9 main_arg10 main_arg11 main_arg12 main_arg13 main_arg14 main_arg15 main_arg16 main_arg17 main_arg18 main_arg19 main_arg20 main_arg21 main_arg22 main_arg25 main_arg26 main_arg30 main_arg31 main_arg32 main_arg33 main_v27 main_v32 main_c_12

def fn {F : FTy → Type} [FloatOps F] (main_arg0 : FVec F S16x63x64 .f32) (main_arg1 : FVec F S16x32x62x16 .f32) (main_arg2 : IVec S2x4000 32) (main_arg3 : FVec F S32x1 .f32) (main_arg4 : FVec F S32 .f32) (main_arg5 : FVec F S16x32x1x2 .f32) (main_arg6 : FVec F S16 .f32) (main_arg7 : FVec F S16x16x1x2 .f32) (main_arg8 : FVec F S16 .f32) (main_arg9 : FVec F S16x16x1x2 .f32) (main_arg10 : FVec F S16 .f32) (main_arg11 : FVec F S16x32x1x2 .f32) (main_arg12 : FVec F S16 .f32) (main_arg13 : FVec F S16x16x1x2 .f32) (main_arg14 : FVec F S16 .f32) (main_arg15 : FVec F S16x16x1x2 .f32) (main_arg16 : FVec F S16 .f32) (main_arg17 : FVec F S16x32x1x2 .f32) (main_arg18 : FVec F S16 .f32) (main_arg19 : FVec F S16x16x1x2 .f32) (main_arg20 : FVec F S16 .f32) (main_arg21 : FVec F S16x16x1x2 .f32) (main_arg22 : FVec F S16 .f32) (main_arg23 : FVec F S32x16 .f32) (main_arg24 : FVec F S32 .f32) (main_arg25 : FVec F S1024x512 .f32) (main_arg26 : FVec F S512 .f32) (main_arg27 : FVec F S1024x512 .f32) (main_arg28 : FVec F S512 .f32) (main_arg29 : FVec F S2x256 .f32) (main_arg30 : FVec F S512 .f32) (main_arg31 : FVec F S1x8 .f32) (main_arg32 : FVec F S1 .f32) (main_arg33 : FVec F S1x62 .f32) (main_arg34 : FVec F S1 .f32) : IVec S_ 1 :=
  let main_v0 : FVec F S16x62x64 .f32 := (extractStridedSlice S16x62x64 ![0, 0, 0] · slices_S16x63x64_S16x62x64_0_0_0) main_arg0
  let main_c : IVec S_ 32 := constantI S_ 32 0#32
  let main_v1 : IVec S2x4000 32 := broadcastInDim S2x4000 ![] bcast_S_S2x4000 main_c
  let main_v2 : IVec S2x4000 1 := cmpi .sge main_arg2 main_v1
  let main_c_0 : IVec S_ 32 := constantI S_ 32 62#32
  let main_v3 : IVec S2x4000 32 := broadcastInDim S2x4000 ![] bcast_S_S2x4000 main_c_0
  let main_v4 : IVec S2x4000 1 := cmpi .slt main_arg2 main_v3
  let main_v5 : IVec S2x4000 1 := andi main_v2 main_v4
  let main_c_1 : IVec S_ 1 := constantI S_ 1 1#1
  let main_v6 : IVec S_ 1 := (fun x v => Host.reduce IntOp.andi x v reducesTo_S2x4000_S_d0_1 h_S_) main_v5 main_c_1
  let main_cst : FVec F S_ .f32 := constant S_ .f32 0x7F800000#32
  let main_v7 : FVec F S16x62x64 .f32 := broadcastInDim S16x62x64 ![] bcast_S_S16x62x64 main_cst
  let main_v8 : IVec S16x62x64 1 := cmpf .olt main_v0 main_v7
  let main_cst_2 : FVec F S_ .f32 := constant S_ .f32 0xFF800000#32
  let main_v9 : FVec F S16x62x64 .f32 := broadcastInDim S16x62x64 ![] bcast_S_S16x62x64 main_cst_2
  let main_v10 : IVec S16x62x64 1 := cmpf .ogt main_v0 main_v9
  let main_v11 : IVec S16x62x64 1 := andi main_v8 main_v10
  let main_c_3 : IVec S_ 1 := constantI S_ 1 1#1
  let main_v12 : IVec S_ 1 := (fun x v => Host.reduce IntOp.andi x v reducesTo_S16x62x64_S_d0_1_2 h_S_) main_v11 main_c_3
  let main_v13 : IVec S_ 1 := andi main_v6 main_v12
  let main_cst_4 : FVec F S_ .f32 := constant S_ .f32 0x7F800000#32
  let main_v14 : FVec F S16x32x62x16 .f32 := broadcastInDim S16x32x62x16 ![] bcast_S_S16x32x62x16 main_cst_4
  let main_v15 : IVec S16x32x62x16 1 := cmpf .olt main_arg1 main_v14
  let main_cst_5 : FVec F S_ .f32 := constant S_ .f32 0xFF800000#32
  fn_part1 (F := F) main_arg1 main_arg3 main_arg4 main_arg5 main_arg6 main_arg7 main_arg8 main_arg9 main_arg10 main_arg11 main_arg12 main_arg13 main_arg14 main_arg15 main_arg16 main_arg17 main_arg18 main_arg19 main_arg20 main_arg21 main_arg22 main_arg25 main_arg26 main_arg30 main_arg31 main_arg32 main_arg33 main_v13 main_v15 main_cst_5
-- ==== Kernel.lean ====
abbrev S16x63x64 : Shape := ⟨3, ![16, 63, 64]⟩
abbrev S16x32x62x16 : Shape := ⟨4, ![16, 32, 62, 16]⟩
abbrev S2x4000 : Shape := ⟨2, ![2, 4000]⟩
abbrev S32x1 : Shape := ⟨2, ![32, 1]⟩
abbrev S32 : Shape := ⟨1, ![32]⟩
abbrev S16x32x1x2 : Shape := ⟨4, ![16, 32, 1, 2]⟩
abbrev S16 : Shape := ⟨1, ![16]⟩
abbrev S16x16x1x2 : Shape := ⟨4, ![16, 16, 1, 2]⟩
abbrev S32x16 : Shape := ⟨2, ![32, 16]⟩
abbrev S1024x512 : Shape := ⟨2, ![1024, 512]⟩
abbrev S512 : Shape := ⟨1, ![512]⟩
abbrev S2x256 : Shape := ⟨2, ![2, 256]⟩
abbrev S1x8 : Shape := ⟨2, ![1, 8]⟩
abbrev S1 : Shape := ⟨1, ![1]⟩
abbrev S1x62 : Shape := ⟨2, ![1, 62]⟩
abbrev S16x62x64 : Shape := ⟨3, ![16, 62, 64]⟩
abbrev S16x1x64 : Shape := ⟨3, ![16, 1, 64]⟩
abbrev S992x64 : Shape := ⟨2, ![992, 64]⟩
abbrev S16x62x32x16 : Shape := ⟨4, ![16, 62, 32, 16]⟩
abbrev S992x512 : Shape := ⟨2, ![992, 512]⟩
abbrev S16x64 : Shape := ⟨2, ![16, 64]⟩
abbrev S16x32 : Shape := ⟨2, ![16, 32]⟩
abbrev S16x1 : Shape := ⟨2, ![16, 1]⟩
abbrev S1x1 : Shape := ⟨2, ![1, 1]⟩
abbrev S8x64 : Shape := ⟨2, ![8, 64]⟩
abbrev S64x1024 : Shape := ⟨2, ![64, 1024]⟩
abbrev S512x256 : Shape := ⟨2, ![512, 256]⟩
abbrev S8x256 : Shape := ⟨2, ![8, 256]⟩
abbrev S16x16 : Shape := ⟨2, ![16, 16]⟩
abbrev S256x512 : Shape := ⟨2, ![256, 512]⟩
abbrev S1x512 : Shape := ⟨2, ![1, 512]⟩
abbrev S512x64 : Shape := ⟨2, ![512, 64]⟩
abbrev S1x64 : Shape := ⟨2, ![1, 64]⟩
abbrev S62x62 : Shape := ⟨2, ![62, 62]⟩
abbrev S64x32 : Shape := ⟨2, ![64, 32]⟩
abbrev S1x80 : Shape := ⟨2, ![1, 80]⟩
abbrev S16x1024 : Shape := ⟨2, ![16, 1024]⟩
abbrev S16x256 : Shape := ⟨2, ![16, 256]⟩
abbrev S512x32 : Shape := ⟨2, ![512, 32]⟩
abbrev S16x128 : Shape := ⟨2, ![16, 128]⟩
abbrev S32x128 : Shape := ⟨2, ![32, 128]⟩
abbrev S16x80 : Shape := ⟨2, ![16, 80]⟩
abbrev S32x32 : Shape := ⟨2, ![32, 32]⟩
abbrev S1x16 : Shape := ⟨2, ![1, 16]⟩
abbrev S1x1024 : Shape := ⟨2, ![1, 1024]⟩
abbrev S512x16 : Shape := ⟨2, ![512, 16]⟩
abbrev S1x256 : Shape := ⟨2, ![1, 256]⟩
abbrev S256x16 : Shape := ⟨2, ![256, 16]⟩
abbrev S256x32 : Shape := ⟨2, ![256, 32]⟩
abbrev S32x512 : Shape := ⟨2, ![32, 512]⟩
abbrev S512x8 : Shape := ⟨2, ![512, 8]⟩
abbrev S512x1 : Shape := ⟨2, ![512, 1]⟩
abbrev S1x4000 : Shape := ⟨2, ![1, 4000]⟩
abbrev S62x4000 : Shape := ⟨2, ![62, 4000]⟩
abbrev S992x8 : Shape := ⟨2, ![992, 8]⟩
abbrev S992x1024 : Shape := ⟨2, ![992, 1024]⟩
abbrev S992x256 : Shape := ⟨2, ![992, 256]⟩
abbrev S16x62x512 : Shape := ⟨3, ![16, 62, 512]⟩
abbrev S1x62x512 : Shape := ⟨3, ![1, 62, 512]⟩
abbrev S1x1x64 : Shape := ⟨3, ![1, 1, 64]⟩
abbrev S62x512 : Shape := ⟨2, ![62, 512]⟩
abbrev S62x256 : Shape := ⟨2, ![62, 256]⟩
abbrev S256 : Shape := ⟨1, ![256]⟩
abbrev S1x1x256 : Shape := ⟨3, ![1, 1, 256]⟩
abbrev S1x62x256 : Shape := ⟨3, ![1, 62, 256]⟩
abbrev S62x1x256 : Shape := ⟨3, ![62, 1, 256]⟩
abbrev S62x62x256 : Shape := ⟨3, ![62, 62, 256]⟩
abbrev S62 : Shape := ⟨1, ![62]⟩
abbrev S62x1 : Shape := ⟨2, ![62, 1]⟩

abbrev nBuf : Space → Nat
  | .hbm => 99
  | .vmem => 85
  | .smem => 0
  | _ => 0

abbrev bufTy : (tb : Table) → Fin (tcTables nBuf tb) → BufTy
  | .hbm, ⟨0, _⟩ => ⟨S16x63x64, .f32⟩
  | .hbm, ⟨1, _⟩ => ⟨S16x32x62x16, .f32⟩
  | .hbm, ⟨2, _⟩ => ⟨S2x4000, .i32⟩
  | .hbm, ⟨3, _⟩ => ⟨S32x1, .f32⟩
  | .hbm, ⟨4, _⟩ => ⟨S32, .f32⟩
  | .hbm, ⟨5, _⟩ => ⟨S16x32x1x2, .f32⟩
  | .hbm, ⟨6, _⟩ => ⟨S16, .f32⟩
  | .hbm, ⟨7, _⟩ => ⟨S16x16x1x2, .f32⟩
  | .hbm, ⟨8, _⟩ => ⟨S16, .f32⟩
  | .hbm, ⟨9, _⟩ => ⟨S16x16x1x2, .f32⟩
  | .hbm, ⟨10, _⟩ => ⟨S16, .f32⟩
  | .hbm, ⟨11, _⟩ => ⟨S16x32x1x2, .f32⟩
  | .hbm, ⟨12, _⟩ => ⟨S16, .f32⟩
  | .hbm, ⟨13, _⟩ => ⟨S16x16x1x2, .f32⟩
  | .hbm, ⟨14, _⟩ => ⟨S16, .f32⟩
  | .hbm, ⟨15, _⟩ => ⟨S16x16x1x2, .f32⟩
  | .hbm, ⟨16, _⟩ => ⟨S16, .f32⟩
  | .hbm, ⟨17, _⟩ => ⟨S16x32x1x2, .f32⟩
  | .hbm, ⟨18, _⟩ => ⟨S16, .f32⟩
  | .hbm, ⟨19, _⟩ => ⟨S16x16x1x2, .f32⟩
  | .hbm, ⟨20, _⟩ => ⟨S16, .f32⟩
  | .hbm, ⟨21, _⟩ => ⟨S16x16x1x2, .f32⟩
  | .hbm, ⟨22, _⟩ => ⟨S16, .f32⟩
  | .hbm, ⟨23, _⟩ => ⟨S32x16, .f32⟩
  | .hbm, ⟨24, _⟩ => ⟨S32, .f32⟩
  | .hbm, ⟨25, _⟩ => ⟨S1024x512, .f32⟩
  | .hbm, ⟨26, _⟩ => ⟨S512, .f32⟩
  | .hbm, ⟨27, _⟩ => ⟨S1024x512, .f32⟩
  | .hbm, ⟨28, _⟩ => ⟨S512, .f32⟩
  | .hbm, ⟨29, _⟩ => ⟨S2x256, .f32⟩
  | .hbm, ⟨30, _⟩ => ⟨S512, .f32⟩
  | .hbm, ⟨31, _⟩ => ⟨S1x8, .f32⟩
  | .hbm, ⟨32, _⟩ => ⟨S1, .f32⟩
  | .hbm, ⟨33, _⟩ => ⟨S1x62, .f32⟩
  | .hbm, ⟨34, _⟩ => ⟨S1, .f32⟩
  | .hbm, ⟨35, _⟩ => ⟨S16x62x64, .f32⟩
  | .hbm, ⟨36, _⟩ => ⟨S16x1x64, .f32⟩
  | .hbm, ⟨37, _⟩ => ⟨S992x64, .f32⟩
  | .hbm, ⟨38, _⟩ => ⟨S16x62x32x16, .f32⟩
  | .hbm, ⟨39, _⟩ => ⟨S992x512, .f32⟩
  | .hbm, ⟨40, _⟩ => ⟨S16x64, .f32⟩
  | .hbm, ⟨41, _⟩ => ⟨S16x64, .f32⟩
  | .hbm, ⟨42, _⟩ => ⟨S16x64, .f32⟩
  | .hbm, ⟨43, _⟩ => ⟨S16x32, .f32⟩
  | .hbm, ⟨44, _⟩ => ⟨S16x32, .f32⟩
  | .hbm, ⟨45, _⟩ => ⟨S16x32, .f32⟩
  | .hbm, ⟨46, _⟩ => ⟨S16x32, .f32⟩
  | .hbm, ⟨47, _⟩ => ⟨S16x32, .f32⟩
  | .hbm, ⟨48, _⟩ => ⟨S16x32, .f32⟩
  | .hbm, ⟨49, _⟩ => ⟨S16x1, .f32⟩
  | .hbm, ⟨50, _⟩ => ⟨S16x1, .f32⟩
  | .hbm, ⟨51, _⟩ => ⟨S16x1, .f32⟩
  | .hbm, ⟨52, _⟩ => ⟨S16x1, .f32⟩
  | .hbm, ⟨53, _⟩ => ⟨S16x1, .f32⟩
  | .hbm, ⟨54, _⟩ => ⟨S16x1, .f32⟩
  | .hbm, ⟨55, _⟩ => ⟨S16x1, .f32⟩
  | .hbm, ⟨56, _⟩ => ⟨S16x1, .f32⟩
  | .hbm, ⟨57, _⟩ => ⟨S16x1, .f32⟩
  | .hbm, ⟨58, _⟩ => ⟨S32x1, .f32⟩
  | .hbm, ⟨59, _⟩ => ⟨S32x1, .f32⟩
  | .hbm, ⟨60, _⟩ => ⟨S1x1, .f32⟩
  | .hbm, ⟨61, _⟩ => ⟨S1x1, .f32⟩
  | .hbm, ⟨62, _⟩ => ⟨S8x64, .f32⟩
  | .hbm, ⟨63, _⟩ => ⟨S64x1024, .f32⟩
  | .hbm, ⟨64, _⟩ => ⟨S64x1024, .f32⟩
  | .hbm, ⟨65, _⟩ => ⟨S64x1024, .f32⟩
  | .hbm, ⟨66, _⟩ => ⟨S16x64, .f32⟩
  | .hbm, ⟨67, _⟩ => ⟨S16x64, .f32⟩
  | .hbm, ⟨68, _⟩ => ⟨S16x64, .f32⟩
  | .hbm, ⟨69, _⟩ => ⟨S512x256, .f32⟩
  | .hbm, ⟨70, _⟩ => ⟨S512x256, .f32⟩
  | .hbm, ⟨71, _⟩ => ⟨S512x256, .f32⟩
  | .hbm, ⟨72, _⟩ => ⟨S8x256, .f32⟩
  | .hbm, ⟨73, _⟩ => ⟨S8x256, .f32⟩
  | .hbm, ⟨74, _⟩ => ⟨S8x256, .f32⟩
  | .hbm, ⟨75, _⟩ => ⟨S16x16, .f32⟩
  | .hbm, ⟨76, _⟩ => ⟨S16x16, .f32⟩
  | .hbm, ⟨77, _⟩ => ⟨S16x16, .f32⟩
  | .hbm, ⟨78, _⟩ => ⟨S256x512, .f32⟩
  | .hbm, ⟨79, _⟩ => ⟨S1x512, .f32⟩
  | .hbm, ⟨80, _⟩ => ⟨S512x64, .f32⟩
  | .hbm, ⟨81, _⟩ => ⟨S1x64, .f32⟩
  | .hbm, ⟨82, _⟩ => ⟨S62x62, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x256, .f32⟩
  | .hbm, ⟨87, _⟩ => ⟨S1x256, .f32⟩
  | .hbm, ⟨88, _⟩ => ⟨S1x256, .f32⟩
  | .hbm, ⟨89, _⟩ => ⟨S1x512, .f32⟩
  | .hbm, ⟨90, _⟩ => ⟨S1x512, .f32⟩
  | .hbm, ⟨91, _⟩ => ⟨S992x512, .f32⟩
  | .hbm, ⟨92, _⟩ => ⟨S992x512, .f32⟩
  | .hbm, ⟨93, _⟩ => ⟨S992x512, .f32⟩
  | .hbm, ⟨94, _⟩ => ⟨S16x62x512, .f32⟩
  | .hbm, ⟨95, _⟩ => ⟨S16x62x512, .f32⟩
  | .hbm, ⟨96, _⟩ => ⟨S16x1x64, .f32⟩
  | .hbm, ⟨97, _⟩ => ⟨S16x62x32x16, .f32⟩
  | .hbm, ⟨98, _⟩ => ⟨S16x32x62x16, .f32⟩
  | .local _ .vmem, ⟨0, _⟩ => ⟨S16x64, .f32⟩
  | .local _ .vmem, ⟨1, _⟩ => ⟨S16x64, .f32⟩
  | .local _ .vmem, ⟨2, _⟩ => ⟨S16x64, .f32⟩
  | .local _ .vmem, ⟨3, _⟩ => ⟨S16x1, .f32⟩
  | .local _ .vmem, ⟨4, _⟩ => ⟨S16x1, .f32⟩
  | .local _ .vmem, ⟨5, _⟩ => ⟨S16x1, .f32⟩
  | .local _ .vmem, ⟨6, _⟩ => ⟨S16x32, .f32⟩
  | .local _ .vmem, ⟨7, _⟩ => ⟨S16x32, .f32⟩
  | .local _ .vmem, ⟨8, _⟩ => ⟨S16x32, .f32⟩
  | .local _ .vmem, ⟨9, _⟩ => ⟨S16x1, .f32⟩
  | .local _ .vmem, ⟨10, _⟩ => ⟨S16x1, .f32⟩
  | .local _ .vmem, ⟨11, _⟩ => ⟨S16x1, .f32⟩
  | .local _ .vmem, ⟨12, _⟩ => ⟨S16x32, .f32⟩
  | .local _ .vmem, ⟨13, _⟩ => ⟨S16x32, .f32⟩
  | .local _ .vmem, ⟨14, _⟩ => ⟨S16x32, .f32⟩
  | .local _ .vmem, ⟨15, _⟩ => ⟨S16x1, .f32⟩
  | .local _ .vmem, ⟨16, _⟩ => ⟨S16x1, .f32⟩
  | .local _ .vmem, ⟨17, _⟩ => ⟨S16x1, .f32⟩
  | .local _ .vmem, ⟨18, _⟩ => ⟨S32x1, .f32⟩
  | .local _ .vmem, ⟨19, _⟩ => ⟨S32x1, .f32⟩
  | .local _ .vmem, ⟨20, _⟩ => ⟨S32x16, .f32⟩
  | .local _ .vmem, ⟨21, _⟩ => ⟨S32x1, .f32⟩
  | .local _ .vmem, ⟨22, _⟩ => ⟨S1x8, .f32⟩
  | .local _ .vmem, ⟨23, _⟩ => ⟨S1x1, .f32⟩
  | .local _ .vmem, ⟨24, _⟩ => ⟨S1x62, .f32⟩
  | .local _ .vmem, ⟨25, _⟩ => ⟨S1x1, .f32⟩
  | .local _ .vmem, ⟨26, _⟩ => ⟨S8x64, .f32⟩
  | .local _ .vmem, ⟨27, _⟩ => ⟨S2x4000, .i32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S16x64, .f32⟩
  | .local _ .vmem, ⟨32, _⟩ => ⟨S16x64, .f32⟩
  | .local _ .vmem, ⟨33, _⟩ => ⟨S16x64, .f32⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S8x256, .f32⟩
  | .local _ .vmem, ⟨38, _⟩ => ⟨S8x256, .f32⟩
  | .local _ .vmem, ⟨39, _⟩ => ⟨S8x256, .f32⟩
  | .local _ .vmem, ⟨40, _⟩ => ⟨S16x16, .f32⟩
  | .local _ .vmem, ⟨41, _⟩ => ⟨S16x16, .f32⟩
  | .local _ .vmem, ⟨42, _⟩ => ⟨S16x16, .f32⟩
  | .local _ .vmem, ⟨43, _⟩ => ⟨S256x512, .f32⟩
  | .local _ .vmem, ⟨44, _⟩ => ⟨S1x512, .f32⟩
  | .local _ .vmem, ⟨45, _⟩ => ⟨S512x64, .f32⟩
  | .local _ .vmem, ⟨46, _⟩ => ⟨S1x64, .f32⟩
  | .local _ .vmem, ⟨47, _⟩ => ⟨S62x62, .f32⟩
  | .local _ .vmem, ⟨48, _⟩ => ⟨S992x64, .f32⟩
  | .local _ .vmem, ⟨49, _⟩ => ⟨S992x512, .f32⟩
  | .local _ .vmem, ⟨50, _⟩ => ⟨S64x1024, .f32⟩
  | .local _ .vmem, ⟨51, _⟩ => ⟨S64x1024, .f32⟩
  | .local _ .vmem, ⟨52, _⟩ => ⟨S64x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S512x256, .f32⟩
  | .local _ .vmem, ⟨57, _⟩ => ⟨S512x256, .f32⟩
  | .local _ .vmem, ⟨58, _⟩ => ⟨S512x256, .f32⟩
  | .local _ .vmem, ⟨59, _⟩ => ⟨S8x256, .f32⟩
  | .local _ .vmem, ⟨60, _⟩ => ⟨S8x256, .f32⟩
  | .local _ .vmem, ⟨61, _⟩ => ⟨S8x256, .f32⟩
  | .local _ .vmem, ⟨62, _⟩ => ⟨S1x256, .f32⟩
  | .local _ .vmem, ⟨63, _⟩ => ⟨S1x256, .f32⟩
  | .local _ .vmem, ⟨64, _⟩ => ⟨S1x256, .f32⟩
  | .local _ .vmem, ⟨65, _⟩ => ⟨S256x512, .f32⟩
  | .local _ .vmem, ⟨66, _⟩ => ⟨S1x512, .f32⟩
  | .local _ .vmem, ⟨67, _⟩ => ⟨S1024x512, .f32⟩
  | .local _ .vmem, ⟨68, _⟩ => ⟨S1x512, .f32⟩
  | .local _ .vmem, ⟨69, _⟩ => ⟨S1024x512, .f32⟩
  | .local _ .vmem, ⟨70, _⟩ => ⟨S1x512, .f32⟩
  | .local _ .vmem, ⟨71, _⟩ => ⟨S992x512, .f32⟩
  | .local _ .vmem, ⟨72, _⟩ => ⟨S992x512, .f32⟩
  | .local _ .vmem, ⟨73, _⟩ => ⟨S992x512, .f32⟩
  | .local _ .vmem, ⟨74, _⟩ => ⟨S1x62x512, .f32⟩
  | .local _ .vmem, ⟨75, _⟩ => ⟨S1x62x512, .f32⟩
  | .local _ .vmem, ⟨76, _⟩ => ⟨S1x62x512, .f32⟩
  | .local _ .vmem, ⟨77, _⟩ => ⟨S1x62x512, .f32⟩
  | .local _ .vmem, ⟨78, _⟩ => ⟨S2x256, .f32⟩
  | .local _ .vmem, ⟨79, _⟩ => ⟨S62x62, .f32⟩
  | .local _ .vmem, ⟨80, _⟩ => ⟨S1x62, .f32⟩
  | .local _ .vmem, ⟨81, _⟩ => ⟨S512x64, .f32⟩
  | .local _ .vmem, ⟨82, _⟩ => ⟨S1x64, .f32⟩
  | .local _ .vmem, ⟨83, _⟩ => ⟨S1x1x64, .f32⟩
  | .local _ .vmem, ⟨84, _⟩ => ⟨S1x1x64, .f32⟩
  | _, _ => ⟨S16x63x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28_0 : Ref sig .tc := ⟨.hbm, 63, rfl⟩
abbrev main_v28_1 : Ref sig .tc := ⟨.hbm, 64, rfl⟩
abbrev main_v28_2 : Ref sig .tc := ⟨.hbm, 65, rfl⟩
abbrev main_v28_3 : Ref sig .tc := ⟨.hbm, 66, rfl⟩
abbrev main_v28_4 : Ref sig .tc := ⟨.hbm, 67, rfl⟩
abbrev main_v28_5 : Ref sig .tc := ⟨.hbm, 68, rfl⟩
abbrev main_v28_6 : Ref sig .tc := ⟨.hbm, 69, rfl⟩
abbrev main_v28_7 : Ref sig .tc := ⟨.hbm, 70, rfl⟩
abbrev main_v28_8 : Ref sig .tc := ⟨.hbm, 71, rfl⟩
abbrev main_v28_9 : Ref sig .tc := ⟨.hbm, 72, rfl⟩
abbrev main_v28_10 : Ref sig .tc := ⟨.hbm, 73, rfl⟩
abbrev main_v28_11 : Ref sig .tc := ⟨.hbm, 74, rfl⟩
abbrev main_v28_12 : Ref sig .tc := ⟨.hbm, 75, rfl⟩
abbrev main_v28_13 : Ref sig .tc := ⟨.hbm, 76, rfl⟩
abbrev main_v28_14 : Ref sig .tc := ⟨.hbm, 77, rfl⟩
abbrev main_v28_15 : Ref sig .tc := ⟨.hbm, 78, rfl⟩
abbrev main_v28_16 : Ref sig .tc := ⟨.hbm, 79, rfl⟩
abbrev main_v28_17 : Ref sig .tc := ⟨.hbm, 80, rfl⟩
abbrev main_v28_18 : Ref sig .tc := ⟨.hbm, 81, rfl⟩
abbrev main_v28_19 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37_0 : Ref sig .tc := ⟨.hbm, 91, rfl⟩
abbrev main_v37_1 : Ref sig .tc := ⟨.hbm, 92, rfl⟩
abbrev main_v37_2 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc1_stg0_0 : Ref sig .tc := ⟨.vmem, 48, rfl⟩
abbrev cc1_stg1_0 : Ref sig .tc := ⟨.vmem, 49, rfl⟩
abbrev cc1_stg2_0 : Ref sig .tc := ⟨.vmem, 50, rfl⟩
abbrev cc1_stg3_0 : Ref sig .tc := ⟨.vmem, 51, rfl⟩
abbrev cc1_stg4_0 : Ref sig .tc := ⟨.vmem, 52, rfl⟩
abbrev cc1_stg5_0 : Ref sig .tc := ⟨.vmem, 53, rfl⟩
abbrev cc1_stg6_0 : Ref sig .tc := ⟨.vmem, 54, rfl⟩
abbrev cc1_stg7_0 : Ref sig .tc := ⟨.vmem, 55, rfl⟩
abbrev cc1_stg8_0 : Ref sig .tc := ⟨.vmem, 56, rfl⟩
abbrev cc1_stg9_0 : Ref sig .tc := ⟨.vmem, 57, rfl⟩
abbrev cc1_stg10_0 : Ref sig .tc := ⟨.vmem, 58, rfl⟩
abbrev cc1_stg11_0 : Ref sig .tc := ⟨.vmem, 59, rfl⟩
abbrev cc1_stg12_0 : Ref sig .tc := ⟨.vmem, 60, rfl⟩
abbrev cc1_stg13_0 : Ref sig .tc := ⟨.vmem, 61, rfl⟩
abbrev cc1_stg14_0 : Ref sig .tc := ⟨.vmem, 62, rfl⟩
abbrev cc1_stg15_0 : Ref sig .tc := ⟨.vmem, 63, rfl⟩
abbrev cc1_stg16_0 : Ref sig .tc := ⟨.vmem, 64, rfl⟩
abbrev cc1_stg17_0 : Ref sig .tc := ⟨.vmem, 65, rfl⟩
abbrev cc1_stg18_0 : Ref sig .tc := ⟨.vmem, 66, rfl⟩
abbrev cc1_stg19_0 : Ref sig .tc := ⟨.vmem, 67, rfl⟩
abbrev cc1_stg20_0 : Ref sig .tc := ⟨.vmem, 68, rfl⟩
abbrev cc1_stg21_0 : Ref sig .tc := ⟨.vmem, 69, rfl⟩
abbrev cc1_stg22_0 : Ref sig .tc := ⟨.vmem, 70, rfl⟩
abbrev cc1_stg23_0 : Ref sig .tc := ⟨.vmem, 71, rfl⟩
abbrev cc1_stg24_0 : Ref sig .tc := ⟨.vmem, 72, rfl⟩
abbrev cc1_stg25_0 : Ref sig .tc := ⟨.vmem, 73, rfl⟩
abbrev cc2_stg0_0 : Ref sig .tc := ⟨.vmem, 74, rfl⟩
abbrev cc2_stg0_1 : Ref sig .tc := ⟨.vmem, 75, rfl⟩
abbrev cc2_stg1_0 : Ref sig .tc := ⟨.vmem, 76, rfl⟩
abbrev cc2_stg1_1 : Ref sig .tc := ⟨.vmem, 77, rfl⟩
abbrev cc2_stg2_0 : Ref sig .tc := ⟨.vmem, 78, rfl⟩
abbrev cc2_stg3_0 : Ref sig .tc := ⟨.vmem, 79, rfl⟩
abbrev cc2_stg4_0 : Ref sig .tc := ⟨.vmem, 80, rfl⟩
abbrev cc2_stg5_0 : Ref sig .tc := ⟨.vmem, 81, rfl⟩
abbrev cc2_stg6_0 : Ref sig .tc := ⟨.vmem, 82, rfl⟩
abbrev cc2_stg7_0 : Ref sig .tc := ⟨.vmem, 83, rfl⟩
abbrev cc2_stg7_1 : Ref sig .tc := ⟨.vmem, 84, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc1_sem0_0 : DmaSem sig := 48
abbrev cc1_sem1_0 : DmaSem sig := 49
abbrev cc1_sem2_0 : DmaSem sig := 50
abbrev cc1_sem3_0 : DmaSem sig := 51
abbrev cc1_sem4_0 : DmaSem sig := 52
abbrev cc1_sem5_0 : DmaSem sig := 53
abbrev cc1_sem6_0 : DmaSem sig := 54
abbrev cc1_sem7_0 : DmaSem sig := 55
abbrev cc1_sem8_0 : DmaSem sig := 56
abbrev cc1_sem9_0 : DmaSem sig := 57
abbrev cc1_sem10_0 : DmaSem sig := 58
abbrev cc1_sem11_0 : DmaSem sig := 59
abbrev cc1_sem12_0 : DmaSem sig := 60
abbrev cc1_sem13_0 : DmaSem sig := 61
abbrev cc1_sem14_0 : DmaSem sig := 62
abbrev cc1_sem15_0 : DmaSem sig := 63
abbrev cc1_sem16_0 : DmaSem sig := 64
abbrev cc1_sem17_0 : DmaSem sig := 65
abbrev cc1_sem18_0 : DmaSem sig := 66
abbrev cc1_sem19_0 : DmaSem sig := 67
abbrev cc1_sem20_0 : DmaSem sig := 68
abbrev cc1_sem21_0 : DmaSem sig := 69
abbrev cc1_sem22_0 : DmaSem sig := 70
abbrev cc1_sem23_0 : DmaSem sig := 71
abbrev cc1_sem24_0 : DmaSem sig := 72
abbrev cc1_sem25_0 : DmaSem sig := 73
abbrev cc2_sem0_0 : DmaSem sig := 74
abbrev cc2_sem0_1 : DmaSem sig := 75
abbrev cc2_sem1_0 : DmaSem sig := 76
abbrev cc2_sem1_1 : DmaSem sig := 77
abbrev cc2_sem2_0 : DmaSem sig := 78
abbrev cc2_sem3_0 : DmaSem sig := 79
abbrev cc2_sem4_0 : DmaSem sig := 80
abbrev cc2_sem5_0 : DmaSem sig := 81
abbrev cc2_sem6_0 : DmaSem sig := 82
abbrev cc2_sem7_0 : DmaSem sig := 83
abbrev cc2_sem7_1 : DmaSem sig := 84

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S32x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S32x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S32x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x8 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x62 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S8x64 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x4000 .i32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S64x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S64x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S64x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S16x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S16x64 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S16x64 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S512x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S512x256 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S512x256 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S8x256 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S8x256 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S8x256 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S16x16 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S16x16 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S16x16 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S256x512 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x512 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S512x64 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x64 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S62x62 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev grid1 : Pipeline.Grid := .none

abbrev stage1_0 : Fin 1 → Memref sig .tc .vmem S992x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S992x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S512x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S512x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S512x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S8x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S8x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S8x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev stage1_14 : Fin 1 → Memref sig .tc .vmem S1x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))

abbrev stage1_15 : Fin 1 → Memref sig .tc .vmem S1x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))

abbrev stage1_17 : Fin 1 → Memref sig .tc .vmem S256x512 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))

abbrev stage1_18 : Fin 1 → Memref sig .tc .vmem S1x512 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))

abbrev stage1_19 : Fin 1 → Memref sig .tc .vmem S1024x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))

abbrev stage1_20 : Fin 1 → Memref sig .tc .vmem S1x512 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))

abbrev stage1_21 : Fin 1 → Memref sig .tc .vmem S1024x512 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))

abbrev stage1_22 : Fin 1 → Memref sig .tc .vmem S1x512 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))

abbrev stage1_23 : Fin 1 → Memref sig .tc .vmem S992x512 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))

abbrev stage1_24 : Fin 1 → Memref sig .tc .vmem S992x512 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))

abbrev stage1_25 : Fin 1 → Memref sig .tc .vmem S992x512 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x62x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x62x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S62x62 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x62 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x1x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S16x63x64 : Shape := ⟨3, ![16, 63, 64]⟩
abbrev S16x32x62x16 : Shape := ⟨4, ![16, 32, 62, 16]⟩
abbrev S2x4000 : Shape := ⟨2, ![2, 4000]⟩
abbrev S32x1 : Shape := ⟨2, ![32, 1]⟩
abbrev S32 : Shape := ⟨1, ![32]⟩
abbrev S16x32x1x2 : Shape := ⟨4, ![16, 32, 1, 2]⟩
abbrev S16 : Shape := ⟨1, ![16]⟩
abbrev S16x16x1x2 : Shape := ⟨4, ![16, 16, 1, 2]⟩
abbrev S32x16 : Shape := ⟨2, ![32, 16]⟩
abbrev S1024x512 : Shape := ⟨2, ![1024, 512]⟩
abbrev S512 : Shape := ⟨1, ![512]⟩
abbrev S2x256 : Shape := ⟨2, ![2, 256]⟩
abbrev S1x8 : Shape := ⟨2, ![1, 8]⟩
abbrev S1 : Shape := ⟨1, ![1]⟩
abbrev S1x62 : Shape := ⟨2, ![1, 62]⟩
abbrev S16x62x64 : Shape := ⟨3, ![16, 62, 64]⟩
abbrev S16x1x64 : Shape := ⟨3, ![16, 1, 64]⟩
abbrev S16x1x62x64 : Shape := ⟨4, ![16, 1, 62, 64]⟩
abbrev S1x32x1x1 : Shape := ⟨4, ![1, 32, 1, 1]⟩
abbrev S16x32x62x64 : Shape := ⟨4, ![16, 32, 62, 64]⟩
abbrev S16x32x62x80 : Shape := ⟨4, ![16, 32, 62, 80]⟩
abbrev S_ : Shape := ⟨0, ![]⟩
abbrev S16x32x62x81 : Shape := ⟨4, ![16, 32, 62, 81]⟩
abbrev S16x32x1x1 : Shape := ⟨4, ![16, 32, 1, 1]⟩
abbrev S16x32 : Shape := ⟨2, ![16, 32]⟩
abbrev S16x16x62x80 : Shape := ⟨4, ![16, 16, 62, 80]⟩
abbrev S1x16x1x1 : Shape := ⟨4, ![1, 16, 1, 1]⟩
abbrev S16x16x62x82 : Shape := ⟨4, ![16, 16, 62, 82]⟩
abbrev S16x16x1x1 : Shape := ⟨4, ![16, 16, 1, 1]⟩
abbrev S16x16 : Shape := ⟨2, ![16, 16]⟩
abbrev S16x16x62x84 : Shape := ⟨4, ![16, 16, 62, 84]⟩
abbrev S16x16x62x64 : Shape := ⟨4, ![16, 16, 62, 64]⟩
abbrev S16x16x62x16 : Shape := ⟨4, ![16, 16, 62, 16]⟩
abbrev S16x62x16x16 : Shape := ⟨4, ![16, 62, 16, 16]⟩
abbrev S16x62x16x32 : Shape := ⟨4, ![16, 62, 16, 32]⟩
abbrev S1x1x1x32 : Shape := ⟨4, ![1, 1, 1, 32]⟩
abbrev S62 : Shape := ⟨1, ![62]⟩
abbrev S1x4000 : Shape := ⟨2, ![1, 4000]⟩
abbrev S4000 : Shape := ⟨1, ![4000]⟩
abbrev S4062 : Shape := ⟨1, ![4062]⟩
abbrev S16x62x16x64 : Shape := ⟨4, ![16, 62, 16, 64]⟩
abbrev S16x62x1024 : Shape := ⟨3, ![16, 62, 1024]⟩
abbrev S16x62x512 : Shape := ⟨3, ![16, 62, 512]⟩
abbrev S1x1x512 : Shape := ⟨3, ![1, 1, 512]⟩
abbrev S4062x1 : Shape := ⟨2, ![4062, 1]⟩
abbrev S16x4062x512 : Shape := ⟨3, ![16, 4062, 512]⟩
abbrev S16x4062x2x256 : Shape := ⟨4, ![16, 4062, 2, 256]⟩
abbrev S1x1x2x256 : Shape := ⟨4, ![1, 1, 2, 256]⟩
abbrev S16x4062x2 : Shape := ⟨3, ![16, 4062, 2]⟩
abbrev S1x4062 : Shape := ⟨2, ![1, 4062]⟩
abbrev S62x1 : Shape := ⟨2, ![62, 1]⟩
abbrev S62x4062 : Shape := ⟨2, ![62, 4062]⟩
abbrev S1x62x4062x1 : Shape := ⟨4, ![1, 62, 4062, 1]⟩
abbrev S16x1x4062x2 : Shape := ⟨4, ![16, 1, 4062, 2]⟩
abbrev S16x62x4062x2 : Shape := ⟨4, ![16, 62, 4062, 2]⟩
abbrev S16x62x2 : Shape := ⟨3, ![16, 62, 2]⟩
abbrev S16x4062x2x1 : Shape := ⟨4, ![16, 4062, 2, 1]⟩
abbrev S16x62x8x64 : Shape := ⟨4, ![16, 62, 8, 64]⟩
abbrev S16x64x62x8 : Shape := ⟨4, ![16, 64, 62, 8]⟩
abbrev S8x1 : Shape := ⟨2, ![8, 1]⟩
abbrev S16x64x62x1 : Shape := ⟨4, ![16, 64, 62, 1]⟩
abbrev S1x1x1x1 : Shape := ⟨4, ![1, 1, 1, 1]⟩
abbrev S16x64x62 : Shape := ⟨3, ![16, 64, 62]⟩
abbrev S16x64x1 : Shape := ⟨3, ![16, 64, 1]⟩
abbrev S1x1x1 : Shape := ⟨3, ![1, 1, 1]⟩
abbrev S16x64 : Shape := ⟨2, ![16, 64]⟩

abbrev nBuf : Space → Nat
  | .hbm => 355
  | .vmem => 0
  | .smem => 0
  | _ => 0

abbrev hbmTy0_0 (i : Nat) : BufTy := match i % 128 with
  | 0 => ⟨S16x63x64, .f32⟩
  | 1 => ⟨S16x32x62x16, .f32⟩
  | 2 => ⟨S2x4000, .i32⟩
  | 3 => ⟨S32x1, .f32⟩
  | 4 => ⟨S32, .f32⟩
  | 5 => ⟨S16x32x1x2, .f32⟩
  | 6 => ⟨S16, .f32⟩
  | 7 => ⟨S16x16x1x2, .f32⟩
  | 8 => ⟨S16, .f32⟩
  | 9 => ⟨S16x16x1x2, .f32⟩
  | 10 => ⟨S16, .f32⟩
  | 11 => ⟨S16x32x1x2, .f32⟩
  | 12 => ⟨S16, .f32⟩
  | 13 => ⟨S16x16x1x2, .f32⟩
  | 14 => ⟨S16, .f32⟩
  | 15 => ⟨S16x16x1x2, .f32⟩
  | 16 => ⟨S16, .f32⟩
  | 17 => ⟨S16x32x1x2, .f32⟩
  | 18 => ⟨S16, .f32⟩
  | 19 => ⟨S16x16x1x2, .f32⟩
  | 20 => ⟨S16, .f32⟩
  | 21 => ⟨S16x16x1x2, .f32⟩
  | 22 => ⟨S16, .f32⟩
  | 23 => ⟨S32x16, .f32⟩
  | 24 => ⟨S32, .f32⟩
  | 25 => ⟨S1024x512, .f32⟩
  | 26 => ⟨S512, .f32⟩
  | 27 => ⟨S1024x512, .f32⟩
  | 28 => ⟨S512, .f32⟩
  | 29 => ⟨S2x256, .f32⟩
  | 30 => ⟨S512, .f32⟩
  | 31 => ⟨S1x8, .f32⟩
  | 32 => ⟨S1, .f32⟩
  | 33 => ⟨S1x62, .f32⟩
  | 34 => ⟨S1, .f32⟩
  | 35 => ⟨S16x62x64, .f32⟩
  | 36 => ⟨S16x1x64, .f32⟩
  | 37 => ⟨S16x1x62x64, .f32⟩
  | 38 => ⟨S32, .f32⟩
  | 39 => ⟨S1x32x1x1, .f32⟩
  | 40 => ⟨S16x32x62x64, .f32⟩
  | 41 => ⟨S16x32x62x64, .f32⟩
  | 42 => ⟨S16x32x62x64, .f32⟩
  | 43 => ⟨S1x32x1x1, .f32⟩
  | 44 => ⟨S16x32x62x64, .f32⟩
  | 45 => ⟨S16x32x62x64, .f32⟩
  | 46 => ⟨S16x32x62x80, .f32⟩
  | 47 => ⟨S_, .i32⟩
  | 48 => ⟨S_, .f32⟩
  | 49 => ⟨S16x32x62x81, .f32⟩
  | 50 => ⟨S16x32x62x80, .f32⟩
  | 51 => ⟨S16x32x1x1, .f32⟩
  | 52 => ⟨S16x32, .f32⟩
  | 53 => ⟨S16x16x62x80, .f32⟩
  | 54 => ⟨S16x16x62x80, .f32⟩
  | 55 => ⟨S16x32x1x1, .f32⟩
  | 56 => ⟨S16x32, .f32⟩
  | 57 => ⟨S16x16x62x80, .f32⟩
  | 58 => ⟨S16x16x62x80, .f32⟩
  | 59 => ⟨S16x16x62x80, .f32⟩
  | 60 => ⟨S1x16x1x1, .f32⟩
  | 61 => ⟨S16x16x62x80, .f32⟩
  | 62 => ⟨S16x16x62x80, .f32⟩
  | 63 => ⟨S_, .i32⟩
  | 64 => ⟨S_, .f32⟩
  | 65 => ⟨S16x16x62x82, .f32⟩
  | 66 => ⟨S16x16x62x80, .f32⟩
  | 67 => ⟨S16x16x1x1, .f32⟩
  | 68 => ⟨S16x16, .f32⟩
  | 69 => ⟨S16x16x62x80, .f32⟩
  | 70 => ⟨S16x16x62x80, .f32⟩
  | 71 => ⟨S16x16x1x1, .f32⟩
  | 72 => ⟨S16x16, .f32⟩
  | 73 => ⟨S16x16x62x80, .f32⟩
  | 74 => ⟨S16x16x62x80, .f32⟩
  | 75 => ⟨S16x16x62x80, .f32⟩
  | 76 => ⟨S1x16x1x1, .f32⟩
  | 77 => ⟨S16x16x62x80, .f32⟩
  | 78 => ⟨S16x16x62x80, .f32⟩
  | 79 => ⟨S_, .i32⟩
  | 80 => ⟨S_, .f32⟩
  | 81 => ⟨S16x16x62x84, .f32⟩
  | 82 => ⟨S16x16x62x80, .f32⟩
  | 83 => ⟨S16x16x1x1, .f32⟩
  | 84 => ⟨S16x16, .f32⟩
  | 85 => ⟨S16x16x62x80, .f32⟩
  | 86 => ⟨S16x16x62x80, .f32⟩
  | 87 => ⟨S16x16x1x1, .f32⟩
  | 88 => ⟨S16x16, .f32⟩
  | 89 => ⟨S16x16x62x80, .f32⟩
  | 90 => ⟨S16x16x62x80, .f32⟩
  | 91 => ⟨S16x16x62x80, .f32⟩
  | 92 => ⟨S1x16x1x1, .f32⟩
  | 93 => ⟨S16x16x62x80, .f32⟩
  | 94 => ⟨S16x16x62x80, .f32⟩
  | 95 => ⟨S_, .i32⟩
  | 96 => ⟨S_, .f32⟩
  | 97 => ⟨S16x32x62x81, .f32⟩
  | 98 => ⟨S16x32x62x80, .f32⟩
  | 99 => ⟨S16x32x1x1, .f32⟩
  | 100 => ⟨S16x32, .f32⟩
  | 101 => ⟨S16x16x62x80, .f32⟩
  | 102 => ⟨S16x16x62x80, .f32⟩
  | 103 => ⟨S16x32x1x1, .f32⟩
  | 104 => ⟨S16x32, .f32⟩
  | 105 => ⟨S16x16x62x80, .f32⟩
  | 106 => ⟨S16x16x62x80, .f32⟩
  | 107 => ⟨S16x16x62x80, .f32⟩
  | 108 => ⟨S1x16x1x1, .f32⟩
  | 109 => ⟨S16x16x62x80, .f32⟩
  | 110 => ⟨S16x16x62x80, .f32⟩
  | 111 => ⟨S_, .i32⟩
  | 112 => ⟨S_, .f32⟩
  | 113 => ⟨S16x16x62x82, .f32⟩
  | 114 => ⟨S16x16x62x80, .f32⟩
  | 115 => ⟨S16x16x1x1, .f32⟩
  | 116 => ⟨S16x16, .f32⟩
  | 117 => ⟨S16x16x62x80, .f32⟩
  | 118 => ⟨S16x16x62x80, .f32⟩
  | 119 => ⟨S16x16x1x1, .f32⟩
  | 120 => ⟨S16x16, .f32⟩
  | 121 => ⟨S16x16x62x80, .f32⟩
  | 122 => ⟨S16x16x62x80, .f32⟩
  | 123 => ⟨S16x16x62x80, .f32⟩
  | 124 => ⟨S1x16x1x1, .f32⟩
  | 125 => ⟨S16x16x62x80, .f32⟩
  | 126 => ⟨S16x16x62x80, .f32⟩
  | 127 => ⟨S_, .i32⟩
  | _ => ⟨S16x63x64, .f32⟩

abbrev hbmTy0_1 (i : Nat) : BufTy := match i % 128 with
  | 0 => ⟨S_, .f32⟩
  | 1 => ⟨S16x16x62x84, .f32⟩
  | 2 => ⟨S16x16x62x80, .f32⟩
  | 3 => ⟨S16x16x1x1, .f32⟩
  | 4 => ⟨S16x16, .f32⟩
  | 5 => ⟨S16x16x62x80, .f32⟩
  | 6 => ⟨S16x16x62x80, .f32⟩
  | 7 => ⟨S16x16x1x1, .f32⟩
  | 8 => ⟨S16x16, .f32⟩
  | 9 => ⟨S16x16x62x80, .f32⟩
  | 10 => ⟨S16x16x62x80, .f32⟩
  | 11 => ⟨S16x16x62x80, .f32⟩
  | 12 => ⟨S1x16x1x1, .f32⟩
  | 13 => ⟨S16x16x62x80, .f32⟩
  | 14 => ⟨S16x16x62x80, .f32⟩
  | 15 => ⟨S_, .i32⟩
  | 16 => ⟨S_, .f32⟩
  | 17 => ⟨S16x32x62x81, .f32⟩
  | 18 => ⟨S16x32x62x80, .f32⟩
  | 19 => ⟨S16x32x1x1, .f32⟩
  | 20 => ⟨S16x32, .f32⟩
  | 21 => ⟨S16x16x62x80, .f32⟩
  | 22 => ⟨S16x16x62x80, .f32⟩
  | 23 => ⟨S16x32x1x1, .f32⟩
  | 24 => ⟨S16x32, .f32⟩
  | 25 => ⟨S16x16x62x80, .f32⟩
  | 26 => ⟨S16x16x62x80, .f32⟩
  | 27 => ⟨S16x16x62x80, .f32⟩
  | 28 => ⟨S1x16x1x1, .f32⟩
  | 29 => ⟨S16x16x62x80, .f32⟩
  | 30 => ⟨S16x16x62x80, .f32⟩
  | 31 => ⟨S_, .i32⟩
  | 32 => ⟨S_, .f32⟩
  | 33 => ⟨S16x16x62x82, .f32⟩
  | 34 => ⟨S16x16x62x80, .f32⟩
  | 35 => ⟨S16x16x1x1, .f32⟩
  | 36 => ⟨S16x16, .f32⟩
  | 37 => ⟨S16x16x62x80, .f32⟩
  | 38 => ⟨S16x16x62x80, .f32⟩
  | 39 => ⟨S16x16x1x1, .f32⟩
  | 40 => ⟨S16x16, .f32⟩
  | 41 => ⟨S16x16x62x80, .f32⟩
  | 42 => ⟨S16x16x62x80, .f32⟩
  | 43 => ⟨S16x16x62x80, .f32⟩
  | 44 => ⟨S1x16x1x1, .f32⟩
  | 45 => ⟨S16x16x62x80, .f32⟩
  | 46 => ⟨S16x16x62x80, .f32⟩
  | 47 => ⟨S_, .i32⟩
  | 48 => ⟨S_, .f32⟩
  | 49 => ⟨S16x16x62x84, .f32⟩
  | 50 => ⟨S16x16x62x80, .f32⟩
  | 51 => ⟨S16x16x1x1, .f32⟩
  | 52 => ⟨S16x16, .f32⟩
  | 53 => ⟨S16x16x62x80, .f32⟩
  | 54 => ⟨S16x16x62x80, .f32⟩
  | 55 => ⟨S16x16x1x1, .f32⟩
  | 56 => ⟨S16x16, .f32⟩
  | 57 => ⟨S16x16x62x80, .f32⟩
  | 58 => ⟨S16x16x62x80, .f32⟩
  | 59 => ⟨S16x16x62x80, .f32⟩
  | 60 => ⟨S1x16x1x1, .f32⟩
  | 61 => ⟨S16x16x62x80, .f32⟩
  | 62 => ⟨S16x16x62x80, .f32⟩
  | 63 => ⟨S16x16x62x80, .f32⟩
  | 64 => ⟨S16x16x62x80, .f32⟩
  | 65 => ⟨S16x16x62x80, .f32⟩
  | 66 => ⟨S_, .f32⟩
  | 67 => ⟨S16x16x62x80, .f32⟩
  | 68 => ⟨S16x16x62x80, .f32⟩
  | 69 => ⟨S_, .f32⟩
  | 70 => ⟨S16x16x62x80, .f32⟩
  | 71 => ⟨S16x16x62x80, .f32⟩
  | 72 => ⟨S16x16x62x80, .f32⟩
  | 73 => ⟨S16x16x62x80, .f32⟩
  | 74 => ⟨S_, .f32⟩
  | 75 => ⟨S16x16x62x80, .f32⟩
  | 76 => ⟨S16x16x62x80, .f32⟩
  | 77 => ⟨S16x16x62x64, .f32⟩
  | 78 => ⟨S16x16x62x16, .f32⟩
  | 79 => ⟨S16x62x16x16, .f32⟩
  | 80 => ⟨S16x32, .f32⟩
  | 81 => ⟨S16x62x16x32, .f32⟩
  | 82 => ⟨S1x1x1x32, .f32⟩
  | 83 => ⟨S16x62x16x32, .f32⟩
  | 84 => ⟨S16x62x16x32, .f32⟩
  | 85 => ⟨S16x32x62x16, .f32⟩
  | 86 => ⟨S62, .i32⟩
  | 87 => ⟨S1x4000, .i32⟩
  | 88 => ⟨S4000, .i32⟩
  | 89 => ⟨S4062, .i32⟩
  | 90 => ⟨S1x4000, .i32⟩
  | 91 => ⟨S4000, .i32⟩
  | 92 => ⟨S4062, .i32⟩
  | 93 => ⟨S16x62x16x64, .f32⟩
  | 94 => ⟨S16x62x1024, .f32⟩
  | 95 => ⟨S16x62x512, .f32⟩
  | 96 => ⟨S1x1x512, .f32⟩
  | 97 => ⟨S16x62x512, .f32⟩
  | 98 => ⟨S16x62x512, .f32⟩
  | 99 => ⟨S16x62x512, .f32⟩
  | 100 => ⟨S1x1x512, .f32⟩
  | 101 => ⟨S16x62x512, .f32⟩
  | 102 => ⟨S16x62x512, .f32⟩
  | 103 => ⟨S_, .i32⟩
  | 104 => ⟨S4062, .i32⟩
  | 105 => ⟨S4062, .i1⟩
  | 106 => ⟨S_, .i32⟩
  | 107 => ⟨S4062, .i32⟩
  | 108 => ⟨S4062, .i32⟩
  | 109 => ⟨S4062, .i32⟩
  | 110 => ⟨S4062x1, .i32⟩
  | 111 => ⟨S16x4062x512, .f32⟩
  | 112 => ⟨S_, .i32⟩
  | 113 => ⟨S4062, .i32⟩
  | 114 => ⟨S4062, .i1⟩
  | 115 => ⟨S_, .i32⟩
  | 116 => ⟨S4062, .i32⟩
  | 117 => ⟨S4062, .i32⟩
  | 118 => ⟨S4062, .i32⟩
  | 119 => ⟨S4062x1, .i32⟩
  | 120 => ⟨S16x4062x512, .f32⟩
  | 121 => ⟨S16x4062x512, .f32⟩
  | 122 => ⟨S16x4062x2x256, .f32⟩
  | 123 => ⟨S_, .f32⟩
  | 124 => ⟨S16x4062x2x256, .f32⟩
  | 125 => ⟨S16x4062x2x256, .i1⟩
  | 126 => ⟨S_, .f32⟩
  | 127 => ⟨S16x4062x2x256, .f32⟩
  | _ => ⟨S16x63x64, .f32⟩

abbrev hbmTy0_2 (i : Nat) : BufTy := match i % 128 with
  | 0 => ⟨S16x4062x2x256, .f32⟩
  | 1 => ⟨S16x4062x2x256, .f32⟩
  | 2 => ⟨S1x1x2x256, .f32⟩
  | 3 => ⟨S16x4062x2x256, .f32⟩
  | 4 => ⟨S16x4062x2x256, .f32⟩
  | 5 => ⟨S_, .f32⟩
  | 6 => ⟨S16x4062x2, .f32⟩
  | 7 => ⟨S1x4062, .i32⟩
  | 8 => ⟨S62x1, .i32⟩
  | 9 => ⟨S62x4062, .i32⟩
  | 10 => ⟨S62x4062, .i32⟩
  | 11 => ⟨S62x4062, .i1⟩
  | 12 => ⟨S1x62x4062x1, .i1⟩
  | 13 => ⟨S16x1x4062x2, .f32⟩
  | 14 => ⟨S_, .f32⟩
  | 15 => ⟨S_, .f32⟩
  | 16 => ⟨S16x62x4062x2, .i1⟩
  | 17 => ⟨S16x62x4062x2, .f32⟩
  | 18 => ⟨S16x62x4062x2, .f32⟩
  | 19 => ⟨S16x62x4062x2, .f32⟩
  | 20 => ⟨S_, .f32⟩
  | 21 => ⟨S16x62x2, .f32⟩
  | 22 => ⟨S_, .i32⟩
  | 23 => ⟨S4062, .i32⟩
  | 24 => ⟨S4062, .i1⟩
  | 25 => ⟨S_, .i32⟩
  | 26 => ⟨S4062, .i32⟩
  | 27 => ⟨S4062, .i32⟩
  | 28 => ⟨S4062, .i32⟩
  | 29 => ⟨S4062x1, .i32⟩
  | 30 => ⟨S16x4062x2, .f32⟩
  | 31 => ⟨S16x4062x2, .f32⟩
  | 32 => ⟨S16x4062x2, .f32⟩
  | 33 => ⟨S_, .f32⟩
  | 34 => ⟨S16x62x2, .f32⟩
  | 35 => ⟨S_, .i32⟩
  | 36 => ⟨S4062, .i32⟩
  | 37 => ⟨S4062, .i1⟩
  | 38 => ⟨S_, .i32⟩
  | 39 => ⟨S4062, .i32⟩
  | 40 => ⟨S4062, .i32⟩
  | 41 => ⟨S4062, .i32⟩
  | 42 => ⟨S4062x1, .i32⟩
  | 43 => ⟨S16x62x2, .f32⟩
  | 44 => ⟨S_, .i32⟩
  | 45 => ⟨S4062, .i32⟩
  | 46 => ⟨S4062, .i1⟩
  | 47 => ⟨S_, .i32⟩
  | 48 => ⟨S4062, .i32⟩
  | 49 => ⟨S4062, .i32⟩
  | 50 => ⟨S4062, .i32⟩
  | 51 => ⟨S4062x1, .i32⟩
  | 52 => ⟨S16x4062x2, .f32⟩
  | 53 => ⟨S_, .f32⟩
  | 54 => ⟨S16x4062x2, .f32⟩
  | 55 => ⟨S16x4062x2, .f32⟩
  | 56 => ⟨S16x4062x2, .f32⟩
  | 57 => ⟨S16x4062x2x1, .f32⟩
  | 58 => ⟨S16x4062x2x256, .f32⟩
  | 59 => ⟨S16x4062x2x256, .f32⟩
  | 60 => ⟨S16x4062x2x256, .f32⟩
  | 61 => ⟨S16x4062x512, .f32⟩
  | 62 => ⟨S_, .f32⟩
  | 63 => ⟨S16x62x512, .f32⟩
  | 64 => ⟨S_, .i32⟩
  | 65 => ⟨S4062, .i32⟩
  | 66 => ⟨S4062, .i1⟩
  | 67 => ⟨S_, .i32⟩
  | 68 => ⟨S4062, .i32⟩
  | 69 => ⟨S4062, .i32⟩
  | 70 => ⟨S4062, .i32⟩
  | 71 => ⟨S4062x1, .i32⟩
  | 72 => ⟨S16x62x512, .f32⟩
  | 73 => ⟨S1x1x512, .f32⟩
  | 74 => ⟨S16x62x512, .f32⟩
  | 75 => ⟨S16x62x512, .f32⟩
  | 76 => ⟨S16x62x8x64, .f32⟩
  | 77 => ⟨S16x64x62x8, .f32⟩
  | 78 => ⟨S8x1, .f32⟩
  | 79 => ⟨S16x64x62x1, .f32⟩
  | 80 => ⟨S1x1x1x1, .f32⟩
  | 81 => ⟨S16x64x62x1, .f32⟩
  | 82 => ⟨S16x64x62x1, .f32⟩
  | 83 => ⟨S16x64x62, .f32⟩
  | 84 => ⟨S62x1, .f32⟩
  | 85 => ⟨S16x64x1, .f32⟩
  | 86 => ⟨S1x1x1, .f32⟩
  | 87 => ⟨S16x64x1, .f32⟩
  | 88 => ⟨S16x64x1, .f32⟩
  | 89 => ⟨S16x64, .f32⟩
  | 90 => ⟨S16x64, .f32⟩
  | 91 => ⟨S16x64, .f32⟩
  | 92 => ⟨S_, .f32⟩
  | 93 => ⟨S16x64, .f32⟩
  | 94 => ⟨S16x64, .f32⟩
  | 95 => ⟨S_, .f32⟩
  | 96 => ⟨S16x64, .f32⟩
  | 97 => ⟨S16x64, .f32⟩
  | 98 => ⟨S16x1x64, .f32⟩
  | _ => ⟨S16x63x64, .f32⟩

abbrev hbmTy (i : Nat) : BufTy := match i / 128 with
  | 0 => hbmTy0_0 i
  | 1 => hbmTy0_1 i
  | 2 => hbmTy0_2 i
  | _ => ⟨S16x63x64, .f32⟩

abbrev bufTy : (tb : Table) → Fin (tcTables nBuf tb) → BufTy
  | .hbm, ⟨i, _⟩ => hbmTy i
  | _, _ => ⟨S16x63x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_c : Ref sig .tc := ⟨.hbm, 47, rfl⟩
abbrev main_call0_v0 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_0 : Ref sig .tc := ⟨.hbm, 63, rfl⟩
abbrev main_call1_v0 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_c_1 : Ref sig .tc := ⟨.hbm, 79, rfl⟩
abbrev main_call2_v0 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_2 : Ref sig .tc := ⟨.hbm, 95, rfl⟩
abbrev main_call3_v0 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_3 : Ref sig .tc := ⟨.hbm, 111, rfl⟩
abbrev main_call4_v0 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_4 : Ref sig .tc := ⟨.hbm, 127, rfl⟩
abbrev main_call5_v0 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_c_5 : Ref sig .tc := ⟨.hbm, 143, rfl⟩
abbrev main_call6_v0 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c_6 : Ref sig .tc := ⟨.hbm, 159, rfl⟩
abbrev main_call7_v0 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_c_7 : Ref sig .tc := ⟨.hbm, 175, rfl⟩
abbrev main_call8_v0 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst : Ref sig .tc := ⟨.hbm, 194, rfl⟩
abbrev main_v141 : Ref sig .tc := ⟨.hbm, 195, rfl⟩
abbrev main_v142 : Ref sig .tc := ⟨.hbm, 196, rfl⟩
abbrev main_cst_8 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_9 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_c_10 : Ref sig .tc := ⟨.hbm, 231, rfl⟩
abbrev main_v175 : Ref sig .tc := ⟨.hbm, 232, rfl⟩
abbrev main_v176 : Ref sig .tc := ⟨.hbm, 233, rfl⟩
abbrev main_c_11 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_c_12 : Ref sig .tc := ⟨.hbm, 240, rfl⟩
abbrev main_v182 : Ref sig .tc := ⟨.hbm, 241, rfl⟩
abbrev main_v183 : Ref sig .tc := ⟨.hbm, 242, rfl⟩
abbrev main_c_13 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_cst_14 : Ref sig .tc := ⟨.hbm, 251, rfl⟩
abbrev main_v191 : Ref sig .tc := ⟨.hbm, 252, rfl⟩
abbrev main_v192 : Ref sig .tc := ⟨.hbm, 253, rfl⟩
abbrev main_cst_15 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_cst_16 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_17 : Ref sig .tc := ⟨.hbm, 270, rfl⟩
abbrev main_call10_v0 : Ref sig .tc := ⟨.hbm, 271, rfl⟩
abbrev main_call10_v1 : Ref sig .tc := ⟨.hbm, 272, rfl⟩
abbrev main_call10_v2 : Ref sig .tc := ⟨.hbm, 273, rfl⟩
abbrev main_call10_v3 : Ref sig .tc := ⟨.hbm, 274, rfl⟩
abbrev main_v207 : Ref sig .tc := ⟨.hbm, 275, rfl⟩
abbrev main_cst_18 : Ref sig .tc := ⟨.hbm, 276, rfl⟩
abbrev main_v208 : Ref sig .tc := ⟨.hbm, 277, rfl⟩
abbrev main_c_19 : Ref sig .tc := ⟨.hbm, 278, rfl⟩
abbrev main_v209 : Ref sig .tc := ⟨.hbm, 279, rfl⟩
abbrev main_v210 : Ref sig .tc := ⟨.hbm, 280, rfl⟩
abbrev main_c_20 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_cst_21 : Ref sig .tc := ⟨.hbm, 289, rfl⟩
abbrev main_v218 : Ref sig .tc := ⟨.hbm, 290, rfl⟩
abbrev main_c_22 : Ref sig .tc := ⟨.hbm, 291, rfl⟩
abbrev main_v219 : Ref sig .tc := ⟨.hbm, 292, rfl⟩
abbrev main_v220 : Ref sig .tc := ⟨.hbm, 293, rfl⟩
abbrev main_c_23 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_c_24 : Ref sig .tc := ⟨.hbm, 300, rfl⟩
abbrev main_v226 : Ref sig .tc := ⟨.hbm, 301, rfl⟩
abbrev main_v227 : Ref sig .tc := ⟨.hbm, 302, rfl⟩
abbrev main_c_25 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_cst_26 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_cst_27 : Ref sig .tc := ⟨.hbm, 318, rfl⟩
abbrev main_v241 : Ref sig .tc := ⟨.hbm, 319, rfl⟩
abbrev main_c_28 : Ref sig .tc := ⟨.hbm, 320, rfl⟩
abbrev main_v242 : Ref sig .tc := ⟨.hbm, 321, rfl⟩
abbrev main_v243 : Ref sig .tc := ⟨.hbm, 322, rfl⟩
abbrev main_c_29 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩
abbrev main_v259 : Ref sig .tc := ⟨.hbm, 339, rfl⟩
abbrev main_v260 : Ref sig .tc := ⟨.hbm, 340, rfl⟩
abbrev main_v261 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_cst_30 : Ref sig .tc := ⟨.hbm, 348, rfl⟩
abbrev main_v268 : Ref sig .tc := ⟨.hbm, 349, rfl⟩
abbrev main_v269 : Ref sig .tc := ⟨.hbm, 350, rfl⟩
abbrev main_cst_31 : Ref sig .tc := ⟨.hbm, 351, rfl⟩
abbrev main_v270 : Ref sig .tc := ⟨.hbm, 352, rfl⟩
abbrev main_v271 : Ref sig .tc := ⟨.hbm, 353, rfl⟩
abbrev main_v272 : Ref sig .tc := ⟨.hbm, 354, rfl⟩

abbrev nD : Nat := 1
abbrev τ : Topo := Topo.v7x

variable {F : FTy → Type} [FloatOps F]
-- ==== Proof.Weights.lean ====
/- What the first launch writes, as plain functions of the blocks that it reads.

   Each branch has three strided convolutions.  Composed, they are eight taps (`tap`), and the launch lays the
   taps out as banded matrices: `nodeBand` for the node features, `posBand` and `posEdge` for the positional
   features, and the propagated biases `biasRow`.  The remaining outputs spread the small dense layers. -/
module

public import proofs.«01_k».proof.Proof.Gen.KernelIdeal
public import Idealize.ShloMosaic.Lib.Tactic

@[expose] public section

set_option maxRecDepth 16384

noncomputable section

namespace Cert.KernelIdeal.Taps

open Idealize.ShloMosaic Idealize.ShloMosaic.TcCoe
open Cert.KernelIdeal Cert.KernelIdeal.Gen

variable {F : FTy → Type} [FloatOps F] [Named F]

/-- A truth value as a number: one where the test holds, zero elsewhere. -/
def ind {s : Shape} (b : IVec s 1) : FVec F s .f32 := sitofp .f32 (extui 32 b natLt_1_32)

/-- The remainder of every entry by `m`, of the divisor's sign. -/
def modW {s : Shape} (h : s.Broadcasts s) (m : BitVec 32) (x : IVec s 32) : IVec s 32 :=
  let w : BitVec 32 := Scalar.select (Scalar.cmpi .eq m 0#32) 1#32 m
  let r : IVec s 32 := remsi x (broadcast s w)
  select (andi (xori (cmpi .slt r (broadcast s 0#32))
      (broadcastTo s (broadcast s (Scalar.cmpi .slt w 0#32)) h)) (cmpi .ne r (broadcast s 0#32)))
    (addi r (broadcast s w)) r

/-- The quotient of every entry by `m`, rounded down. -/
def divW {s : Shape} (m : BitVec 32) (x : IVec s 32) : IVec s 32 :=
  let q : IVec s 32 := divsi x (broadcast s m)
  let sx : IVec s 32 := subi (extui 32 (cmpi .sgt x (broadcast s 0#32)) natLt_1_32)
    (extui 32 (cmpi .slt x (broadcast s 0#32)) natLt_1_32)
  let sm : BitVec 32 := Scalar.subi (Scalar.extui (Scalar.cmpi .sgt m 0#32)) (Scalar.extui (Scalar.cmpi .slt m 0#32))
  select (andi (cmpi .ne sx (broadcast s sm)) (cmpi .ne (remsi x (broadcast s m)) (broadcast s 0#32)))
    (subi q (broadcast s 1#32)) q

/-! ## The layers' taps -/

/-- Picks input channel `i`'s weight at tap `c` out of a flattened first layer. -/
def pick64 (c : BitVec 32) : FVec F S64x32 .f32 :=
  ind (cmpi .eq (iota .tc S64x32 32 [0] iota_S64x32_d0_w32)
    (addi (muli (iota .tc S64x32 32 [1] iota_S64x32_d1_w32) (broadcast S64x32 2#32)) (broadcast S64x32 c)))

/-- Picks input channel `i`'s weight at tap `c` out of a flattened later layer. -/
def pick32 (c : BitVec 32) : FVec F S32x16 .f32 :=
  ind (cmpi .eq (iota .tc S32x16 32 [0] iota_S32x16_d0_w32)
    (addi (muli (iota .tc S32x16 32 [1] iota_S32x16_d1_w32) (broadcast S32x16 2#32)) (broadcast S32x16 c)))

/-- The first layer's matrix at tap `c`. -/
def lay0 (w0 : FVec F S16x64 .f32) (c : BitVec 32) : FVec F S16x32 .f32 :=
  matmul dot_S16x64_S64x32_S16x32_1_0_0_1_n_n none (shapeCast S16x64 w0 shapeCasts_S16x64_S16x64) (pick64 c)
    (constant S16x32 .f32 0x00000000#32)

/-- A later layer's matrix at tap `c`. -/
def lay (w : FVec F S16x32 .f32) (c : BitVec 32) : FVec F S16x16 .f32 :=
  matmul dot_S16x32_S32x16_S16x16_1_0_0_1_n_n none (shapeCast S16x32 w shapeCasts_S16x32_S16x32) (pick32 c)
    (constant S16x16 .f32 0x00000000#32)

/-- The third layer's two taps, stacked. -/
def lay2s (w2 : FVec F S16x32 .f32) : FVec F S32x16 .f32 :=
  concatenate S32x16 0 [⟨S16x16, lay w2 1#32⟩, ⟨S16x16, lay w2 0#32⟩] concatenates_S16x16_S16x16_S32x16_d0

/-- All eight composed taps, as blocks of one matrix. -/
def taps (w0 : FVec F S16x64 .f32) (w1 w2 : FVec F S16x32 .f32) : FVec F S32x128 .f32 :=
  let L1 : FVec F S16x64 .f32 := concatenate S16x64 1 [⟨S16x32, lay0 w0 1#32⟩, ⟨S16x32, lay0 w0 0#32⟩]
    concatenates_S16x32_S16x32_S16x64_d1
  matmul dot_S32x16_S16x128_S32x128_1_0_0_1_n_n none (lay2s w2)
    (concatenate S16x128 1
      [⟨S16x64, matmul dot_S16x16_S16x64_S16x64_1_0_0_1_n_n none (lay w1 1#32) L1 (constant S16x64 .f32 0x00000000#32)⟩,
       ⟨S16x64, matmul dot_S16x16_S16x64_S16x64_1_0_0_1_n_n none (lay w1 0#32) L1 (constant S16x64 .f32 0x00000000#32)⟩]
      concatenates_S16x64_S16x64_S16x128_d1)
    (constant S32x128 .f32 0x00000000#32)

/-- Where block `t` starts lies inside. -/
theorem tap_slices (t : Fin 8) : S32x128.Slices ![t.val / 4 * 16, t.val % 4 * 32] S16x32 := by
  revert t; decide

/-- Composed tap `t`: output channel by input channel. -/
def tap (A : FVec F S32x128 .f32) (t : Fin 8) : FVec F S16x32 .f32 :=
  extractStridedSlice S16x32 ![t.val / 4 * 16, t.val % 4 * 32] A (tap_slices t)

/-- Composed tap `t` against the scale that turns a signal into its features. -/
def tapRow (A : FVec F S32x128 .f32) (ws : FVec F S32x1 .f32) (t : Fin 8) : FVec F S1x16 .f32 :=
  matmul dot_S32x1_S16x32_S1x16_0_1_1_0_n_n none ws (tap A t) (constant S1x16 .f32 0x00000000#32)

/-- Eight terms on top of a start. -/
def sum8 {s : Shape} (z : FVec F s .f32) (f : Fin 8 → FVec F s .f32) : FVec F s .f32 :=
  addf (addf (addf (addf (addf (addf (addf (addf z (f 0)) (f 1)) (f 2)) (f 3)) (f 4)) (f 5)) (f 6)) (f 7)

/-! ## The banded matrices -/

/-- Output time minus input time, over the node features' matrix. -/
def lagNode : IVec S64x1024 32 :=
  subi (modW broadcasts_S64x1024_S64x1024 64#32 (iota .tc S64x1024 32 [1] iota_S64x1024_d1_w32))
    (iota .tc S64x1024 32 [0] iota_S64x1024_d0_w32)

/-- Spreads a channel's number over that channel's columns. -/
def spreadNode : FVec F S16x1024 .f32 :=
  ind (cmpi .eq (iota .tc S16x1024 32 [0] iota_S16x1024_d0_w32) (divW 64#32 (iota .tc S16x1024 32 [1] iota_S16x1024_d1_w32)))

/-- Tap `t`'s part of the node features' matrix. -/
def nodeTerm (A : FVec F S32x128 .f32) (ws : FVec F S32x1 .f32) (t : Fin 8) : FVec F S64x1024 .f32 :=
  mulf (ind (cmpi .eq lagNode (broadcast S64x1024 (BitVec.ofNat 32 t.val))))
    (broadcastTo S64x1024 (matmul dot_S1x16_S16x1024_S1x1024_1_0_0_1_n_n none (tapRow A ws t) spreadNode
      (constant S1x1024 .f32 0x00000000#32)) broadcasts_S1x1024_S64x1024)

/-- The node features' matrix: signal time by (output channel, output time). -/
def nodeBand (w0 : FVec F S16x64 .f32) (w1 w2 : FVec F S16x32 .f32) (ws : FVec F S32x1 .f32) : FVec F S64x1024 .f32 :=
  sum8 (broadcast S64x1024 (Scalar.ofBits .f32 0x00000000#32)) (nodeTerm (taps w0 w1 w2) ws)

/-- Output time minus input time, over the positional features' matrix. -/
def lagPos : IVec S512x256 32 :=
  subi (modW broadcasts_S512x256_S512x256 16#32 (iota .tc S512x256 32 [1] iota_S512x256_d1_w32))
    (modW broadcasts_S512x256_S512x256 16#32 (iota .tc S512x256 32 [0] iota_S512x256_d0_w32))

/-- Spreads an output channel's number over that channel's columns. -/
def spreadPos : FVec F S16x256 .f32 :=
  ind (cmpi .eq (iota .tc S16x256 32 [0] iota_S16x256_d0_w32) (divW 16#32 (iota .tc S16x256 32 [1] iota_S16x256_d1_w32)))

/-- Spreads an input channel's number over that channel's rows. -/
def spreadIn : FVec F S512x32 .f32 :=
  ind (cmpi .eq (divW 16#32 (iota .tc S512x32 32 [0] iota_S512x32_d0_w32)) (iota .tc S512x32 32 [1] iota_S512x32_d1_w32))

/-- Tap `t`'s part of the positional features' matrix. -/
def posTerm (A : FVec F S32x128 .f32) (t : Fin 8) : FVec F S512x256 .f32 :=
  mulf (ind (cmpi .eq lagPos (broadcast S512x256 (BitVec.ofNat 32 t.val))))
    (matmul dot_S512x16_S16x256_S512x256_1_0_0_1_n_n none
      (matmul dot_S512x32_S16x32_S512x16_1_1_0_0_n_n none spreadIn (tap A t) (constant S512x16 .f32 0x00000000#32))
      spreadPos (constant S512x256 .f32 0x00000000#32))

/-- The positional features' matrix: (input channel, input time) by (output channel, output time). -/
def posBand (w0 : FVec F S16x64 .f32) (w1 w2 : FVec F S16x32 .f32) : FVec F S512x256 .f32 :=
  sum8 (broadcast S512x256 (Scalar.ofBits .f32 0x00000000#32)) (posTerm (taps w0 w1 w2))

/-- Tap `t`'s part of the signal's tail in the positional features. -/
def edgeTerm (A : FVec F S32x128 .f32) (ws : FVec F S32x1 .f32) (t : Fin 8) : FVec F S8x256 .f32 :=
  mulf (ind (cmpi .eq (modW broadcasts_S8x256_S8x256 16#32 (iota .tc S8x256 32 [1] iota_S8x256_d1_w32))
      (addi (subi (iota .tc S8x256 32 [0] iota_S8x256_d0_w32) (broadcast S8x256 8#32)) (broadcast S8x256 (BitVec.ofNat 32 t.val)))))
    (broadcastTo S8x256 (matmul dot_S1x16_S16x256_S1x256_1_0_0_1_n_n none (tapRow A ws t) spreadPos
      (constant S1x256 .f32 0x00000000#32)) broadcasts_S1x256_S8x256)

/-- The signal's tail in the positional features: signal time by (output channel, output time). -/
def posEdge (w0 : FVec F S16x64 .f32) (w1 w2 : FVec F S16x32 .f32) (ws : FVec F S32x1 .f32) : FVec F S8x256 .f32 :=
  let f := edgeTerm (taps w0 w1 w2) ws
  addf (addf (addf (addf (addf (addf (addf (broadcast S8x256 (Scalar.ofBits .f32 0x00000000#32)) (f 1)) (f 2)) (f 3)) (f 4)) (f 5)) (f 6)) (f 7)

/-! ## The propagated biases -/

/-- The time axis. -/
def times : IVec S1x80 32 := iota .tc S1x80 32 [1] iota_S1x80_d1_w32

/-- A column of channels over a row of times. -/
def outer (v : FVec F S16x1 .f32) (r : FVec F S1x80 .f32) : FVec F S16x80 .f32 :=
  mulf (broadcastTo S16x80 v broadcasts_S16x1_S16x80) (broadcastTo S16x80 r broadcasts_S1x80_S16x80)

/-- A matrix applied to a bias, felt from time `k` on. -/
def late (L : FVec F S16x16 .f32) (b : FVec F S16x1 .f32) (k : BitVec 32) : FVec F S16x80 .f32 :=
  outer (matmul dot_S16x16_S16x1_S16x1_1_0_0_1_n_n none L (shapeCast S16x1 b shapeCasts_S16x1_S16x1)
    (constant S16x1 .f32 0x00000000#32)) (ind (cmpi .sge times (broadcast S1x80 k)))

/-- Tap `t` applied to the features' bias, felt while the signal lasts. -/
def tapBias (A : FVec F S32x128 .f32) (wb : FVec F S32x1 .f32) (t : Fin 8) : FVec F S16x80 .f32 :=
  outer (matmul dot_S16x32_S32x1_S16x1_1_0_0_1_n_n none (tap A t) (shapeCast S32x1 wb shapeCasts_S32x1_S32x1)
    (constant S16x1 .f32 0x00000000#32))
    (ind (andi (cmpi .sge times (broadcast S1x80 (BitVec.ofNat 32 t.val)))
      (cmpi .slt times (broadcast S1x80 (BitVec.ofNat 32 (64 + t.val))))))

/-- Every bias that reaches output channel `o` at time `w`. -/
def biasRow (w0 : FVec F S16x64 .f32) (w1 w2 : FVec F S16x32 .f32) (b0 b1 b2 : FVec F S16x1 .f32) (wb : FVec F S32x1 .f32) :
    FVec F S16x80 .f32 :=
  let L : FVec F S32x32 .f32 := matmul dot_S32x16_S16x32_S32x32_1_0_0_1_n_n none (lay2s w2)
    (concatenate S16x32 1 [⟨S16x16, lay w1 1#32⟩, ⟨S16x16, lay w1 0#32⟩] concatenates_S16x16_S16x16_S16x32_d1)
    (constant S32x32 .f32 0x00000000#32)
  sum8
    (addf (addf (addf (addf (addf (addf
      (outer (shapeCast S16x1 b2 shapeCasts_S16x1_S16x1) (broadcast S1x80 (Scalar.ofBits .f32 0x3F800000#32)))
      (late (extractStridedSlice S16x16 ![0, 0] L slices_S32x32_o0_0_S16x16) b0 0#32))
      (late (extractStridedSlice S16x16 ![0, 16] L slices_S32x32_o0_16_S16x16) b0 2#32))
      (late (lay w2 1#32) b1 0#32))
      (late (extractStridedSlice S16x16 ![16, 0] L slices_S32x32_o16_0_S16x16) b0 4#32))
      (late (extractStridedSlice S16x16 ![16, 16] L slices_S32x32_o16_16_S16x16) b0 6#32))
      (late (lay w2 0#32) b1 4#32))
    (tapBias (taps w0 w1 w2) wb)

/-- The biases over the node features. -/
def biasNode (w0 : FVec F S16x64 .f32) (w1 w2 : FVec F S16x32 .f32) (b0 b1 b2 : FVec F S16x1 .f32) (wb : FVec F S32x1 .f32) :
    FVec F S16x64 .f32 :=
  extractStridedSlice S16x64 ![0, 0] (biasRow w0 w1 w2 b0 b1 b2 wb) slices_S16x80_o0_0_S16x64

/-- The biases over the positional features. -/
def biasPos (w0 : FVec F S16x64 .f32) (w1 w2 : FVec F S16x32 .f32) (b0 b1 b2 : FVec F S16x1 .f32) (wb : FVec F S32x1 .f32) :
    FVec F S16x16 .f32 :=
  extractStridedSlice S16x16 ![0, 64] (biasRow w0 w1 w2 b0 b1 b2 wb) slices_S16x80_o0_64_S16x16

/-! ## The small dense layers -/

/-- Spreads a positional output channel over its columns. -/
def spreadOut : FVec F S32x512 .f32 :=
  ind (cmpi .eq (iota .tc S32x512 32 [0] iota_S32x512_d0_w32) (divW 16#32 (iota .tc S32x512 32 [1] iota_S32x512_d1_w32)))

/-- The dense layer on the positional channels, spread over time. -/
def mixPos (w : FVec F S32x16 .f32) : FVec F S256x512 .f32 :=
  mulf (ind (cmpi .eq (modW broadcasts_S256x512_S256x512 16#32 (iota .tc S256x512 32 [0] iota_S256x512_d0_w32))
      (modW broadcasts_S256x512_S256x512 16#32 (iota .tc S256x512 32 [1] iota_S256x512_d1_w32))))
    (matmul dot_S256x32_S32x512_S256x512_1_0_0_1_n_n none
      (matmul dot_S256x16_S32x16_S256x32_1_1_0_0_n_n none
        (ind (cmpi .eq (divW 16#32 (iota .tc S256x16 32 [0] iota_S256x16_d0_w32)) (iota .tc S256x16 32 [1] iota_S256x16_d1_w32)))
        w (constant S256x32 .f32 0x00000000#32))
      spreadOut (constant S256x512 .f32 0x00000000#32))

/-- That layer's bias, spread over time. -/
def mixBias (b : FVec F S32x1 .f32) : FVec F S1x512 .f32 :=
  matmul dot_S32x1_S32x512_S1x512_0_0_1_1_n_n none (shapeCast S32x1 b shapeCasts_S32x1_S32x1) spreadOut
    (constant S1x512 .f32 0x00000000#32)

/-- The readout over the eight rows of the attended features, spread over time. -/
def readOut (w : FVec F S1x8 .f32) : FVec F S512x64 .f32 :=
  mulf (ind (cmpi .eq (modW broadcasts_S512x64_S512x64 64#32 (iota .tc S512x64 32 [0] iota_S512x64_d0_w32))
      (iota .tc S512x64 32 [1] iota_S512x64_d1_w32)))
    (broadcastTo S512x64 (matmul dot_S512x8_S1x8_S512x1_1_1_0_0_n_n none
      (ind (cmpi .eq (divW 64#32 (iota .tc S512x8 32 [0] iota_S512x8_d0_w32)) (iota .tc S512x8 32 [1] iota_S512x8_d1_w32)))
      w (constant S512x1 .f32 0x00000000#32)) broadcasts_S512x1_S512x64)

/-- Every constant of the readout, gathered. -/
def readBias (w2 : FVec F S1x8 .f32) (b2 : FVec F S1x1 .f32) (w1 : FVec F S1x62 .f32) (b1 : FVec F S1x1 .f32)
    (gb : FVec F S8x64 .f32) : FVec F S1x64 .f32 :=
  let s : FVec F S1x1 .f32 := shapeCast S1x1 (multiReduction .add [1] S1 w1 0x00000000#32 reduces_S1x62_S1 (.inl rfl) rfl) shapeCasts_S1_S1x1
  addf (broadcastTo S1x64 (addf (shapeCast S1x1 b1 shapeCasts_S1x1_S1x1) (mulf s (shapeCast S1x1 b2 shapeCasts_S1x1_S1x1))) broadcasts_S1x1_S1x64)
    (mulf (broadcastTo S1x64 s broadcasts_S1x1_S1x64)
      (matmul dot_S1x8_S8x64_S1x64_1_0_0_1_n_n none w2 (shapeCast S8x64 gb shapeCasts_S8x64_S8x64) (constant S1x64 .f32 0x00000000#32)))

/-- How many edges run between each pair of nodes, a loop at every node counted. -/
def edges (src dst : IVec S1x4000 32) : FVec F S62x62 .f32 :=
  addf (matmul dot_S62x4000_S62x4000_S62x62_1_1_0_0_n_n none
      (ind (cmpi .eq (iota .tc S62x4000 32 [0] iota_S62x4000_d0_w32) (broadcastTo S62x4000 dst broadcasts_S1x4000_S62x4000)))
      (ind (cmpi .eq (iota .tc S62x4000 32 [0] iota_S62x4000_d0_w32) (broadcastTo S62x4000 src broadcasts_S1x4000_S62x4000)))
      (constant S62x62 .f32 0x00000000#32))
    (ind (cmpi .eq (iota .tc S62x62 32 [0] iota_S62x62_d0_w32) (iota .tc S62x62 32 [1] iota_S62x62_d1_w32)))

end Cert.KernelIdeal.Taps
-- ==== Proof.Launch0.lean ====
/- The first launch, run at the contents `V` that it finds.

   Its body reads twenty-eight blocks and writes twenty; `sound_kernel0` says that each output is the function of
   `Weights.lean` of the blocks read.  `dat0` records this and `body_obligation0` hands it to the pipeline. -/
module

public import proofs.«01_k».proof.Proof.Weights
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 0 of @main: custom_call 0, `cc0__wk` (pipeline 0), at the entry contents `V` -/

/-! ## The windows' blocks -/

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)
theorem before0_15_of {c : Dev nD} (dat : Dat τ (Elt F) Unit ℕ (UR sig nD τ) ℕ cfg0 c) (hA : dat.A 15 = V c (Pipeline.arrRef spec0 15))
    (hafter : ∀ t, dat.after 15 t = iblk0 V c 15 t) (t : Fin cfg0.N) (d) : dat.before 15 t d = iblk0 V c 15 t :=
  (dat.before_in_eq_fetched 15 rfl (fun _ => rfl) (fun _ _ _ => rfl) (fun t => by rw [hafter]; unfold Dat.blockOf iblk0; rw [hA]; try rfl) t d).trans
    (by unfold Dat.fetched Dat.blockOf iblk0; rw [hA]; try rfl)
theorem before0_16_of {c : Dev nD} (dat : Dat τ (Elt F) Unit ℕ (UR sig nD τ) ℕ cfg0 c) (hA : dat.A 16 = V c (Pipeline.arrRef spec0 16))
    (hafter : ∀ t, dat.after 16 t = iblk0 V c 16 t) (t : Fin cfg0.N) (d) : dat.before 16 t d = iblk0 V c 16 t :=
  (dat.before_in_eq_fetched 16 rfl (fun _ => rfl) (fun _ _ _ => rfl) (fun t => by rw [hafter]; unfold Dat.blockOf iblk0; rw [hA]; try rfl) t d).trans
    (by unfold Dat.fetched Dat.blockOf iblk0; rw [hA]; try rfl)
theorem before0_17_of {c : Dev nD} (dat : Dat τ (Elt F) Unit ℕ (UR sig nD τ) ℕ cfg0 c) (hA : dat.A 17 = V c (Pipeline.arrRef spec0 17))
    (hafter : ∀ t, dat.after 17 t = iblk0 V c 17 t) (t : Fin cfg0.N) (d) : dat.before 17 t d = iblk0 V c 17 t :=
  (dat.before_in_eq_fetched 17 rfl (fun _ => rfl) (fun _ _ _ => rfl) (fun t => by rw [hafter]; unfold Dat.blockOf iblk0; rw [hA]; try rfl) t d).trans
    (by unfold Dat.fetched Dat.blockOf iblk0; rw [hA]; try rfl)
theorem before0_18_of {c : Dev nD} (dat : Dat τ (Elt F) Unit ℕ (UR sig nD τ) ℕ cfg0 c) (hA : dat.A 18 = V c (Pipeline.arrRef spec0 18))
    (hafter : ∀ t, dat.after 18 t = iblk0 V c 18 t) (t : Fin cfg0.N) (d) : dat.before 18 t d = iblk0 V c 18 t :=
  (dat.before_in_eq_fetched 18 rfl (fun _ => rfl) (fun _ _ _ => rfl) (fun t => by rw [hafter]; unfold Dat.blockOf iblk0; rw [hA]; try rfl) t d).trans
    (by unfold Dat.fetched Dat.blockOf iblk0; rw [hA]; try rfl)
theorem before0_19_of {c : Dev nD} (dat : Dat τ (Elt F) Unit ℕ (UR sig nD τ) ℕ cfg0 c) (hA : dat.A 19 = V c (Pipeline.arrRef spec0 19))
    (hafter : ∀ t, dat.after 19 t = iblk0 V c 19 t) (t : Fin cfg0.N) (d) : dat.before 19 t d = iblk0 V c 19 t :=
  (dat.before_in_eq_fetched 19 rfl (fun _ => rfl) (fun _ _ _ => rfl) (fun t => by rw [hafter]; unfold Dat.blockOf iblk0; rw [hA]; try rfl) t d).trans
    (by unfold Dat.fetched Dat.blockOf iblk0; rw [hA]; try rfl)
theorem before0_20_of {c : Dev nD} (dat : Dat τ (Elt F) Unit ℕ (UR sig nD τ) ℕ cfg0 c) (hA : dat.A 20 = V c (Pipeline.arrRef spec0 20))
    (hafter : ∀ t, dat.after 20 t = iblk0 V c 20 t) (t : Fin cfg0.N) (d) : dat.before 20 t d = iblk0 V c 20 t :=
  (dat.before_in_eq_fetched 20 rfl (fun _ => rfl) (fun _ _ _ => rfl) (fun t => by rw [hafter]; unfold Dat.blockOf iblk0; rw [hA]; try rfl) t d).trans
    (by unfold Dat.fetched Dat.blockOf iblk0; rw [hA]; try rfl)
theorem before0_21_of {c : Dev nD} (dat : Dat τ (Elt F) Unit ℕ (UR sig nD τ) ℕ cfg0 c) (hA : dat.A 21 = V c (Pipeline.arrRef spec0 21))
    (hafter : ∀ t, dat.after 21 t = iblk0 V c 21 t) (t : Fin cfg0.N) (d) : dat.before 21 t d = iblk0 V c 21 t :=
  (dat.before_in_eq_fetched 21 rfl (fun _ => rfl) (fun _ _ _ => rfl) (fun t => by rw [hafter]; unfold Dat.blockOf iblk0; rw [hA]; try rfl) t d).trans
    (by unfold Dat.fetched Dat.blockOf iblk0; rw [hA]; try rfl)
theorem before0_22_of {c : Dev nD} (dat : Dat τ (Elt F) Unit ℕ (UR sig nD τ) ℕ cfg0 c) (hA : dat.A 22 = V c (Pipeline.arrRef spec0 22))
    (hafter : ∀ t, dat.after 22 t = iblk0 V c 22 t) (t : Fin cfg0.N) (d) : dat.before 22 t d = iblk0 V c 22 t :=
  (dat.before_in_eq_fetched 22 rfl (fun _ => rfl) (fun _ _ _ => rfl) (fun t => by rw [hafter]; unfold Dat.blockOf iblk0; rw [hA]; try rfl) t d).trans
    (by unfold Dat.fetched Dat.blockOf iblk0; rw [hA]; try rfl)
theorem before0_23_of {c : Dev nD} (dat : Dat τ (Elt F) Unit ℕ (UR sig nD τ) ℕ cfg0 c) (hA : dat.A 23 = V c (Pipeline.arrRef spec0 23))
    (hafter : ∀ t, dat.after 23 t = iblk0 V c 23 t) (t : Fin cfg0.N) (d) : dat.before 23 t d = iblk0 V c 23 t :=
  (dat.before_in_eq_fetched 23 rfl (fun _ => rfl) (fun _ _ _ => rfl) (fun t => by rw [hafter]; unfold Dat.blockOf iblk0; rw [hA]; try rfl) t d).trans
    (by unfold Dat.fetched Dat.blockOf iblk0; rw [hA]; try rfl)
theorem before0_24_of {c : Dev nD} (dat : Dat τ (Elt F) Unit ℕ (UR sig nD τ) ℕ cfg0 c) (hA : dat.A 24 = V c (Pipeline.arrRef spec0 24))
    (hafter : ∀ t, dat.after 24 t = iblk0 V c 24 t) (t : Fin cfg0.N) (d) : dat.before 24 t d = iblk0 V c 24 t :=
  (dat.before_in_eq_fetched 24 rfl (fun _ => rfl) (fun _ _ _ => rfl) (fun t => by rw [hafter]; unfold Dat.blockOf iblk0; rw [hA]; try rfl) t d).trans
    (by unfold Dat.fetched Dat.blockOf iblk0; rw [hA]; try rfl)
theorem before0_25_of {c : Dev nD} (dat : Dat τ (Elt F) Unit ℕ (UR sig nD τ) ℕ cfg0 c) (hA : dat.A 25 = V c (Pipeline.arrRef spec0 25))
    (hafter : ∀ t, dat.after 25 t = iblk0 V c 25 t) (t : Fin cfg0.N) (d) : dat.before 25 t d = iblk0 V c 25 t :=
  (dat.before_in_eq_fetched 25 rfl (fun _ => rfl) (fun _ _ _ => rfl) (fun t => by rw [hafter]; unfold Dat.blockOf iblk0; rw [hA]; try rfl) t d).trans
    (by unfold Dat.fetched Dat.blockOf iblk0; rw [hA]; try rfl)
theorem before0_26_of {c : Dev nD} (dat : Dat τ (Elt F) Unit ℕ (UR sig nD τ) ℕ cfg0 c) (hA : dat.A 26 = V c (Pipeline.arrRef spec0 26))
    (hafter : ∀ t, dat.after 26 t = iblk0 V c 26 t) (t : Fin cfg0.N) (d) : dat.before 26 t d = iblk0 V c 26 t :=
  (dat.before_in_eq_fetched 26 rfl (fun _ => rfl) (fun _ _ _ => rfl) (fun t => by rw [hafter]; unfold Dat.blockOf iblk0; rw [hA]; try rfl) t d).trans
    (by unfold Dat.fetched Dat.blockOf iblk0; rw [hA]; try rfl)
theorem before0_27_of {c : Dev nD} (dat : Dat τ (Elt F) Unit ℕ (UR sig nD τ) ℕ cfg0 c) (hA : dat.A 27 = V c (Pipeline.arrRef spec0 27))
    (hafter : ∀ t, dat.after 27 t = iblk0 V c 27 t) (t : Fin cfg0.N) (d) : dat.before 27 t d = iblk0 V c 27 t :=
  (dat.before_in_eq_fetched 27 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S32x1 := Rect.unit (s := S32x1) ![0, 0] S32x1.size inb_S32x1_S32x1_0_0
abbrev r0_1 : Rect S16x64 := Rect.unit (s := S16x64) ![0, 0] S16x64.size inb_S16x64_S16x64_0_0
abbrev r0_2 : Rect S16x32 := Rect.unit (s := S16x32) ![0, 0] S16x32.size inb_S16x32_S16x32_0_0
abbrev r0_3 : Rect S16x1 := Rect.unit (s := S16x1) ![0, 0] S16x1.size inb_S16x1_S16x1_0_0
abbrev r0_4 : Rect S64x1024 := Rect.unit (s := S64x1024) ![0, 0] S64x1024.size inb_S64x1024_S64x1024_0_0
abbrev r0_5 : Rect S16x16 := Rect.unit (s := S16x16) ![0, 0] S16x16.size inb_S16x16_S16x16_0_0
abbrev r0_6 : Rect S512x256 := Rect.unit (s := S512x256) ![0, 0] S512x256.size inb_S512x256_S512x256_0_0
abbrev r0_7 : Rect S8x256 := Rect.unit (s := S8x256) ![0, 0] S8x256.size inb_S8x256_S8x256_0_0
abbrev r0_8 : Rect S32x16 := Rect.unit (s := S32x16) ![0, 0] S32x16.size inb_S32x16_S32x16_0_0
abbrev r0_9 : Rect S256x512 := Rect.unit (s := S256x512) ![0, 0] S256x512.size inb_S256x512_S256x512_0_0
abbrev r0_10 : Rect S1x512 := Rect.unit (s := S1x512) ![0, 0] S1x512.size inb_S1x512_S1x512_0_0
abbrev r0_11 : Rect S1x8 := Rect.unit (s := S1x8) ![0, 0] S1x8.size inb_S1x8_S1x8_0_0
abbrev r0_12 : Rect S512x64 := Rect.unit (s := S512x64) ![0, 0] S512x64.size inb_S512x64_S512x64_0_0
abbrev r0_13 : Rect S8x64 := Rect.unit (s := S8x64) ![0, 0] S8x64.size inb_S8x64_S8x64_0_0
abbrev r0_14 : Rect S1x62 := Rect.unit (s := S1x62) ![0, 0] S1x62.size inb_S1x62_S1x62_0_0
abbrev r0_15 : Rect S1x1 := Rect.unit (s := S1x1) ![0, 0] S1x1.size inb_S1x1_S1x1_0_0
abbrev r0_16 : Rect S1x64 := Rect.unit (s := S1x64) ![0, 0] S1x64.size inb_S1x64_S1x64_0_0
abbrev r0_17 : Rect S2x4000 := Rect.unit (s := S2x4000) ![0, 0] S1x4000.size inb_S2x4000_S1x4000_0_0
abbrev r0_18 : Rect S2x4000 := Rect.unit (s := S2x4000) ![1, 0] S1x4000.size inb_S2x4000_S1x4000_1_0
abbrev r0_19 : Rect S62x62 := Rect.unit (s := S62x62) ![0, 0] S62x62.size inb_S62x62_S62x62_0_0
theorem cover0_28 (p0 : Vec F S64x1024 .f32) (y : S64x1024.Idx) :
    ∃ pc ∈ ([⟨r0_4, p0⟩] : List (View.Piece (Elt F) S64x1024 .f32)), y ∈ pc.1.set :=
  View.cover_of_tiled [⟨r0_4, p0⟩] S64x1024.size (by rfl) y
theorem cover0_29 (p0 : Vec F S64x1024 .f32) (y : S64x1024.Idx) :
    ∃ pc ∈ ([⟨r0_4, p0⟩] : List (View.Piece (Elt F) S64x1024 .f32)), y ∈ pc.1.set :=
  View.cover_of_tiled [⟨r0_4, p0⟩] S64x1024.size (by rfl) y
theorem cover0_30 (p0 : Vec F S64x1024 .f32) (y : S64x1024.Idx) :
    ∃ pc ∈ ([⟨r0_4, p0⟩] : List (View.Piece (Elt F) S64x1024 .f32)), y ∈ pc.1.set :=
  View.cover_of_tiled [⟨r0_4, p0⟩] S64x1024.size (by rfl) y
theorem cover0_31 (p0 : Vec F S16x64 .f32) (y : S16x64.Idx) :
    ∃ pc ∈ ([⟨r0_1, p0⟩] : List (View.Piece (Elt F) S16x64 .f32)), y ∈ pc.1.set :=
  View.cover_of_tiled [⟨r0_1, p0⟩] S16x64.size (by rfl) y
theorem cover0_32 (p0 : Vec F S16x64 .f32) (y : S16x64.Idx) :
    ∃ pc ∈ ([⟨r0_1, p0⟩] : List (View.Piece (Elt F) S16x64 .f32)), y ∈ pc.1.set :=
  View.cover_of_tiled [⟨r0_1, p0⟩] S16x64.size (by rfl) y
theorem cover0_33 (p0 : Vec F S16x64 .f32) (y : S16x64.Idx) :
    ∃ pc ∈ ([⟨r0_1, p0⟩] : List (View.Piece (Elt F) S16x64 .f32)), y ∈ pc.1.set :=
  View.cover_of_tiled [⟨r0_1, p0⟩] S16x64.size (by rfl) y
theorem cover0_34 (p0 : Vec F S512x256 .f32) (y : S512x256.Idx) :
    ∃ pc ∈ ([⟨r0_6, p0⟩] : List (View.Piece (Elt F) S512x256 .f32)), y ∈ pc.1.set :=
  View.cover_of_tiled [⟨r0_6, p0⟩] S512x256.size (by rfl) y
theorem cover0_35 (p0 : Vec F S512x256 .f32) (y : S512x256.Idx) :
    ∃ pc ∈ ([⟨r0_6, p0⟩] : List (View.Piece (Elt F) S512x256 .f32)), y ∈ pc.1.set :=
  View.cover_of_tiled [⟨r0_6, p0⟩] S512x256.size (by rfl) y
theorem cover0_36 (p0 : Vec F S512x256 .f32) (y : S512x256.Idx) :
    ∃ pc ∈ ([⟨r0_6, p0⟩] : List (View.Piece (Elt F) S512x256 .f32)), y ∈ pc.1.set :=
  View.cover_of_tiled [⟨r0_6, p0⟩] S512x256.size (by rfl) y
theorem cover0_37 (p0 : Vec F S8x256 .f32) (y : S8x256.Idx) :
    ∃ pc ∈ ([⟨r0_7, p0⟩] : List (View.Piece (Elt F) S8x256 .f32)), y ∈ pc.1.set :=
  View.cover_of_tiled [⟨r0_7, p0⟩] S8x256.size (by rfl) y
theorem cover0_38 (p0 : Vec F S8x256 .f32) (y : S8x256.Idx) :
    ∃ pc ∈ ([⟨r0_7, p0⟩] : List (View.Piece (Elt F) S8x256 .f32)), y ∈ pc.1.set :=
  View.cover_of_tiled [⟨r0_7, p0⟩] S8x256.size (by rfl) y
theorem cover0_39 (p0 : Vec F S8x256 .f32) (y : S8x256.Idx) :
    ∃ pc ∈ ([⟨r0_7, p0⟩] : List (View.Piece (Elt F) S8x256 .f32)), y ∈ pc.1.set :=
  View.cover_of_tiled [⟨r0_7, p0⟩] S8x256.size (by rfl) y
theorem cover0_40 (p0 : Vec F S16x16 .f32) (y : S16x16.Idx) :
    ∃ pc ∈ ([⟨r0_5, p0⟩] : List (View.Piece (Elt F) S16x16 .f32)), y ∈ pc.1.set :=
  View.cover_of_tiled [⟨r0_5, p0⟩] S16x16.size (by rfl) y
theorem cover0_41 (p0 : Vec F S16x16 .f32) (y : S16x16.Idx) :
    ∃ pc ∈ ([⟨r0_5, p0⟩] : List (View.Piece (Elt F) S16x16 .f32)), y ∈ pc.1.set :=
  View.cover_of_tiled [⟨r0_5, p0⟩] S16x16.size (by rfl) y
theorem cover0_42 (p0 : Vec F S16x16 .f32) (y : S16x16.Idx) :
    ∃ pc ∈ ([⟨r0_5, p0⟩] : List (View.Piece (Elt F) S16x16 .f32)), y ∈ pc.1.set :=
  View.cover_of_tiled [⟨r0_5, p0⟩] S16x16.size (by rfl) y
theorem cover0_43 (p0 : Vec F S256x512 .f32) (y : S256x512.Idx) :
    ∃ pc ∈ ([⟨r0_9, p0⟩] : List (View.Piece (Elt F) S256x512 .f32)), y ∈ pc.1.set :=
  View.cover_of_tiled [⟨r0_9, p0⟩] S256x512.size (by rfl) y
theorem cover0_44 (p0 : Vec F S1x512 .f32) (y : S1x512.Idx) :
    ∃ pc ∈ ([⟨r0_10, p0⟩] : List (View.Piece (Elt F) S1x512 .f32)), y ∈ pc.1.set :=
  View.cover_of_tiled [⟨r0_10, p0⟩] S1x512.size (by rfl) y
theorem cover0_45 (p0 : Vec F S512x64 .f32) (y : S512x64.Idx) :
    ∃ pc ∈ ([⟨r0_12, p0⟩] : List (View.Piece (Elt F) S512x64 .f32)), y ∈ pc.1.set :=
  View.cover_of_tiled [⟨r0_12, p0⟩] S512x64.size (by rfl) y
theorem cover0_46 (p0 : Vec F S1x64 .f32) (y : S1x64.Idx) :
    ∃ pc ∈ ([⟨r0_16, p0⟩] : List (View.Piece (Elt F) S1x64 .f32)), y ∈ pc.1.set :=
  View.cover_of_tiled [⟨r0_16, p0⟩] S1x64.size (by rfl) y
theorem cover0_47 (p0 : Vec F S62x62 .f32) (y : S62x62.Idx) :
    ∃ pc ∈ ([⟨r0_19, p0⟩] : List (View.Piece (Elt F) S62x62 .f32)), y ∈ pc.1.set :=
  View.cover_of_tiled [⟨r0_19, p0⟩] S62x62.size (by rfl) y

/-! ## The body's accesses -/

/-! ## The body's triple -/

theorem sound_kernel0 (c : Dev nD) (E : Set ℕ) (arg0 : Memref sig .tc .vmem S16x64 .f32) (harg0 : arg0.IsWhole) (arg1 : Memref sig .tc .vmem S16x64 .f32) (harg1 : arg1.IsWhole) (arg2 : Memref sig .tc .vmem S16x64 .f32) (harg2 : arg2.IsWhole) (arg3 : Memref sig .tc .vmem S16x1 .f32) (harg3 : arg3.IsWhole) (arg4 : Memref sig .tc .vmem S16x1 .f32) (harg4 : arg4.IsWhole) (arg5 : Memref sig .tc .vmem S16x1 .f32) (harg5 : arg5.IsWhole) (arg6 : Memref sig .tc .vmem S16x32 .f32) (harg6 : arg6.IsWhole) (arg7 : Memref sig .tc .vmem S16x32 .f32) (harg7 : arg7.IsWhole) (arg8 : Memref sig .tc .vmem S16x32 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x32 .f32) (harg12 : arg12.IsWhole) (arg13 : Memref sig .tc .vmem S16x32 .f32) (harg13 : arg13.IsWhole) (arg14 : Memref sig .tc .vmem S16x32 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S32x1 .f32) (harg18 : arg18.IsWhole) (arg19 : Memref sig .tc .vmem S32x1 .f32) (harg19 : arg19.IsWhole) (arg20 : Memref sig .tc .vmem S32x16 .f32) (harg20 : arg20.IsWhole) (arg21 : Memref sig .tc .vmem S32x1 .f32) (harg21 : arg21.IsWhole) (arg22 : Memref sig .tc .vmem S1x8 .f32) (harg22 : arg22.IsWhole) (arg23 : Memref sig .tc .vmem S1x1 .f32) (harg23 : arg23.IsWhole) (arg24 : Memref sig .tc .vmem S1x62 .f32) (harg24 : arg24.IsWhole) (arg25 : Memref sig .tc .vmem S1x1 .f32) (harg25 : arg25.IsWhole) (arg26 : Memref sig .tc .vmem S8x64 .f32) (harg26 : arg26.IsWhole) (arg27 : Memref sig .tc .vmem S2x4000 .i32) (harg27 : arg27.IsWhole) (arg28 : Memref sig .tc .vmem S64x1024 .f32) (harg28 : arg28.IsWhole) (arg29 : Memref sig .tc .vmem S64x1024 .f32) (harg29 : arg29.IsWhole) (arg30 : Memref sig .tc .vmem S64x1024 .f32) (harg30 : arg30.IsWhole) (arg31 : Memref sig .tc .vmem S16x64 .f32) (harg31 : arg31.IsWhole) (arg32 : Memref sig .tc .vmem S16x64 .f32) (harg32 : arg32.IsWhole) (arg33 : Memref sig .tc .vmem S16x64 .f32) (harg33 : arg33.IsWhole) (arg34 : Memref sig .tc .vmem S512x256 .f32) (harg34 : arg34.IsWhole) (arg35 : Memref sig .tc .vmem S512x256 .f32) (harg35 : arg35.IsWhole) (arg36 : Memref sig .tc .vmem S512x256 .f32) (harg36 : arg36.IsWhole) (arg37 : Memref sig .tc .vmem S8x256 .f32) (harg37 : arg37.IsWhole) (arg38 : Memref sig .tc .vmem S8x256 .f32) (harg38 : arg38.IsWhole) (arg39 : Memref sig .tc .vmem S8x256 .f32) (harg39 : arg39.IsWhole) (arg40 : Memref sig .tc .vmem S16x16 .f32) (harg40 : arg40.IsWhole) (arg41 : Memref sig .tc .vmem S16x16 .f32) (harg41 : arg41.IsWhole) (arg42 : Memref sig .tc .vmem S16x16 .f32) (harg42 : arg42.IsWhole) (arg43 : Memref sig .tc .vmem S256x512 .f32) (harg43 : arg43.IsWhole) (arg44 : Memref sig .tc .vmem S1x512 .f32) (harg44 : arg44.IsWhole) (arg45 : Memref sig .tc .vmem S512x64 .f32) (harg45 : arg45.IsWhole) (arg46 : Memref sig .tc .vmem S1x64 .f32) (harg46 : arg46.IsWhole) (arg47 : Memref sig .tc .vmem S62x62 .f32) (harg47 : arg47.IsWhole)
    (x0 : Vec F S16x64 .f32) (x1 : Vec F S16x64 .f32) (x2 : Vec F S16x64 .f32) (x3 : Vec F S16x1 .f32) (x4 : Vec F S16x1 .f32) (x5 : Vec F S16x1 .f32) (x6 : Vec F S16x32 .f32) (x7 : Vec F S16x32 .f32) (x8 : Vec F S16x32 .f32) (x9 : Vec F S16x1 .f32) (x10 : Vec F S16x1 .f32) (x11 : Vec F S16x1 .f32) (x12 : Vec F S16x32 .f32) (x13 : Vec F S16x32 .f32) (x14 : Vec F S16x32 .f32) (x15 : Vec F S16x1 .f32) (x16 : Vec F S16x1 .f32) (x17 : Vec F S16x1 .f32) (x18 : Vec F S32x1 .f32) (x19 : Vec F S32x1 .f32) (x20 : Vec F S32x16 .f32) (x21 : Vec F S32x1 .f32) (x22 : Vec F S1x8 .f32) (x23 : Vec F S1x1 .f32) (x24 : Vec F S1x62 .f32) (x25 : Vec F S1x1 .f32) (x26 : Vec F S8x64 .f32) (x27 : Vec F S2x4000 .i32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare (View.canon [⟨r0_4, Taps.nodeBand (View.ld x0 r0_1) (View.ld x6 r0_2) (View.ld x12 r0_2) (View.ld x18 r0_0)⟩]) ∗ owns (c : Thread nD τ) arg29 fullShare (View.canon [⟨r0_4, Taps.nodeBand (View.ld x1 r0_1) (View.ld x7 r0_2) (View.ld x13 r0_2) (View.ld x18 r0_0)⟩]) ∗ owns (c : Thread nD τ) arg30 fullShare (View.canon [⟨r0_4, Taps.nodeBand (View.ld x2 r0_1) (View.ld x8 r0_2) (View.ld x14 r0_2) (View.ld x18 r0_0)⟩]) ∗ owns (c : Thread nD τ) arg31 fullShare (View.canon [⟨r0_1, Taps.biasNode (View.ld x0 r0_1) (View.ld x6 r0_2) (View.ld x12 r0_2) (View.ld x3 r0_3) (View.ld x9 r0_3) (View.ld x15 r0_3) (View.ld x19 r0_0)⟩]) ∗ owns (c : Thread nD τ) arg32 fullShare (View.canon [⟨r0_1, Taps.biasNode (View.ld x1 r0_1) (View.ld x7 r0_2) (View.ld x13 r0_2) (View.ld x4 r0_3) (View.ld x10 r0_3) (View.ld x16 r0_3) (View.ld x19 r0_0)⟩]) ∗ owns (c : Thread nD τ) arg33 fullShare (View.canon [⟨r0_1, Taps.biasNode (View.ld x2 r0_1) (View.ld x8 r0_2) (View.ld x14 r0_2) (View.ld x5 r0_3) (View.ld x11 r0_3) (View.ld x17 r0_3) (View.ld x19 r0_0)⟩]) ∗ owns (c : Thread nD τ) arg34 fullShare (View.canon [⟨r0_6, Taps.posBand (View.ld x0 r0_1) (View.ld x6 r0_2) (View.ld x12 r0_2)⟩]) ∗ owns (c : Thread nD τ) arg35 fullShare (View.canon [⟨r0_6, Taps.posBand (View.ld x1 r0_1) (View.ld x7 r0_2) (View.ld x13 r0_2)⟩]) ∗ owns (c : Thread nD τ) arg36 fullShare (View.canon [⟨r0_6, Taps.posBand (View.ld x2 r0_1) (View.ld x8 r0_2) (View.ld x14 r0_2)⟩]) ∗ owns (c : Thread nD τ) arg37 fullShare (View.canon [⟨r0_7, Taps.posEdge (View.ld x0 r0_1) (View.ld x6 r0_2) (View.ld x12 r0_2) (View.ld x18 r0_0)⟩]) ∗ owns (c : Thread nD τ) arg38 fullShare (View.canon [⟨r0_7, Taps.posEdge (View.ld x1 r0_1) (View.ld x7 r0_2) (View.ld x13 r0_2) (View.ld x18 r0_0)⟩]) ∗ owns (c : Thread nD τ) arg39 fullShare (View.canon [⟨r0_7, Taps.posEdge (View.ld x2 r0_1) (View.ld x8 r0_2) (View.ld x14 r0_2) (View.ld x18 r0_0)⟩]) ∗ owns (c : Thread nD τ) arg40 fullShare (View.canon [⟨r0_5, Taps.biasPos (View.ld x0 r0_1) (View.ld x6 r0_2) (View.ld x12 r0_2) (View.ld x3 r0_3) (View.ld x9 r0_3) (View.ld x15 r0_3) (View.ld x19 r0_0)⟩]) ∗ owns (c : Thread nD τ) arg41 fullShare (View.canon [⟨r0_5, Taps.biasPos (View.ld x1 r0_1) (View.ld x7 r0_2) (View.ld x13 r0_2) (View.ld x4 r0_3) (View.ld x10 r0_3) (View.ld x16 r0_3) (View.ld x19 r0_0)⟩]) ∗ owns (c : Thread nD τ) arg42 fullShare (View.canon [⟨r0_5, Taps.biasPos (View.ld x2 r0_1) (View.ld x8 r0_2) (View.ld x14 r0_2) (View.ld x5 r0_3) (View.ld x11 r0_3) (View.ld x17 r0_3) (View.ld x19 r0_0)⟩]) ∗ owns (c : Thread nD τ) arg43 fullShare (View.canon [⟨r0_9, Taps.mixPos (View.ld x20 r0_8)⟩]) ∗ owns (c : Thread nD τ) arg44 fullShare (View.canon [⟨r0_10, Taps.mixBias (View.ld x21 r0_0)⟩]) ∗ owns (c : Thread nD τ) arg45 fullShare (View.canon [⟨r0_12, Taps.readOut (View.ld x22 r0_11)⟩]) ∗ owns (c : Thread nD τ) arg46 fullShare (View.canon [⟨r0_16, Taps.readBias (View.ld x22 r0_11) (View.ld x23 r0_15) (View.ld x24 r0_14) (View.ld x25 r0_15) (View.ld x26 r0_13)⟩]) ∗ owns (c : Thread nD τ) arg47 fullShare (View.canon [⟨r0_19, Taps.edges (View.ld x27 r0_17) (View.ld x27 r0_18)⟩])) -∗ K ⟨⟩))
      ⊢ wp frame (wpE (defs₀ (F := F)) Variants.none c none) E (cc0__wk arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47) K := by
  simp only [cc0__wk_eq_skeleton]; unfold cc0__wk_skel
  simp only [k0_part39_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _)).trans ?_
    rfl
  isplitl [H33]
  · iexists _; isplitr
    swap; · iexact H33
    ipureintro
    refine (View.read_writes_eq_canon _ _ _ (cover0_33 _)).trans ?_
    rfl
  isplitl [H34]
  · iexists _; isplitr
    swap; · iexact H34
    ipureintro
    refine (View.read_writes_eq_canon _ _ _ (cover0_34 _)).trans ?_
    rfl
  isplitl [H35]
  · iexists _; isplitr
    swap; · iexact H35
    ipureintro
    refine (View.read_writes_eq_canon _ _ _ (cover0_35 _)).trans ?_
    rfl
  isplitl [H36]
  · iexists _; isplitr
    swap; · iexact H36
    ipureintro
    refine (View.read_writes_eq_canon _ _ _ (cover0_36 _)).trans ?_
    rfl
  isplitl [H37]
  · iexists _; isplitr
    swap; · iexact H37
    ipureintro
    refine (View.read_writes_eq_canon _ _ _ (cover0_37 _)).trans ?_
    rfl
  isplitl [H38]
  · iexists _; isplitr
    swap; · iexact H38
    ipureintro
    refine (View.read_writes_eq_canon _ _ _ (cover0_38 _)).trans ?_
    rfl
  isplitl [H39]
  · iexists _; isplitr
    swap; · iexact H39
    ipureintro
    refine (View.read_writes_eq_canon _ _ _ (cover0_39 _)).trans ?_
    rfl
  isplitl [H40]
  · iexists _; isplitr
    swap; · iexact H40
    ipureintro
    refine (View.read_writes_eq_canon _ _ _ (cover0_40 _)).trans ?_
    rfl
  isplitl [H41]
  · iexists _; isplitr
    swap; · iexact H41
    ipureintro
    refine (View.read_writes_eq_canon _ _ _ (cover0_41 _)).trans ?_
    rfl
  isplitl [H42]
  · iexists _; isplitr
    swap; · iexact H42
    ipureintro
    refine (View.read_writes_eq_canon _ _ _ (cover0_42 _)).trans ?_
    rfl
  isplitl [H43]
  · iexists _; isplitr
    swap; · iexact H43
    ipureintro
    refine (View.read_writes_eq_canon _ _ _ (cover0_43 _)).trans ?_
    rfl
  isplitl [H44]
  · iexists _; isplitr
    swap; · iexact H44
    ipureintro
    refine (View.read_writes_eq_canon _ _ _ (cover0_44 _)).trans ?_
    rfl
  isplitl [H45]
  · iexists _; isplitr
    swap; · iexact H45
    ipureintro
    refine (View.read_writes_eq_canon _ _ _ (cover0_45 _)).trans ?_
    rfl
  isplitl [H46]
  · iexists _; isplitr
    swap; · iexact H46
    ipureintro
    refine (View.read_writes_eq_canon _ _ _ (cover0_46 _)).trans ?_
    rfl
  iexists _; isplitr
  swap; · iexact H47
  ipureintro
  refine (View.read_writes_eq_canon _ _ _ (cover0_47 _)).trans ?_
  rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => iblk0 V c 19 t
    | ⟨20, _⟩ => iblk0 V c 20 t
    | ⟨21, _⟩ => iblk0 V c 21 t
    | ⟨22, _⟩ => iblk0 V c 22 t
    | ⟨23, _⟩ => iblk0 V c 23 t
    | ⟨24, _⟩ => iblk0 V c 24 t
    | ⟨25, _⟩ => iblk0 V c 25 t
    | ⟨26, _⟩ => iblk0 V c 26 t
    | ⟨27, _⟩ => iblk0 V c 27 t
    | ⟨28, _⟩ => (View.canon [⟨r0_4, Taps.nodeBand (View.ld (iblk0 V c 0 t) r0_1) (View.ld (iblk0 V c 6 t) r0_2) (View.ld (iblk0 V c 12 t) r0_2) (View.ld (iblk0 V c 18 t) r0_0)⟩])
    | ⟨29, _⟩ => (View.canon [⟨r0_4, Taps.nodeBand (View.ld (iblk0 V c 1 t) r0_1) (View.ld (iblk0 V c 7 t) r0_2) (View.ld (iblk0 V c 13 t) r0_2) (View.ld (iblk0 V c 18 t) r0_0)⟩])
    | ⟨30, _⟩ => (View.canon [⟨r0_4, Taps.nodeBand (View.ld (iblk0 V c 2 t) r0_1) (View.ld (iblk0 V c 8 t) r0_2) (View.ld (iblk0 V c 14 t) r0_2) (View.ld (iblk0 V c 18 t) r0_0)⟩])
    | ⟨31, _⟩ => (View.canon [⟨r0_1, Taps.biasNode (View.ld (iblk0 V c 0 t) r0_1) (View.ld (iblk0 V c 6 t) r0_2) (View.ld (iblk0 V c 12 t) r0_2) (View.ld (iblk0 V c 3 t) r0_3) (View.ld (iblk0 V c 9 t) r0_3) (View.ld (iblk0 V c 15 t) r0_3) (View.ld (iblk0 V c 19 t) r0_0)⟩])
    | ⟨32, _⟩ => (View.canon [⟨r0_1, Taps.biasNode (View.ld (iblk0 V c 1 t) r0_1) (View.ld (iblk0 V c 7 t) r0_2) (View.ld (iblk0 V c 13 t) r0_2) (View.ld (iblk0 V c 4 t) r0_3) (View.ld (iblk0 V c 10 t) r0_3) (View.ld (iblk0 V c 16 t) r0_3) (View.ld (iblk0 V c 19 t) r0_0)⟩])
    | ⟨33, _⟩ => (View.canon [⟨r0_1, Taps.biasNode (View.ld (iblk0 V c 2 t) r0_1) (View.ld (iblk0 V c 8 t) r0_2) (View.ld (iblk0 V c 14 t) r0_2) (View.ld (iblk0 V c 5 t) r0_3) (View.ld (iblk0 V c 11 t) r0_3) (View.ld (iblk0 V c 17 t) r0_3) (View.ld (iblk0 V c 19 t) r0_0)⟩])
    | ⟨34, _⟩ => (View.canon [⟨r0_6, Taps.posBand (View.ld (iblk0 V c 0 t) r0_1) (View.ld (iblk0 V c 6 t) r0_2) (View.ld (iblk0 V c 12 t) r0_2)⟩])
    | ⟨35, _⟩ => (View.canon [⟨r0_6, Taps.posBand (View.ld (iblk0 V c 1 t) r0_1) (View.ld (iblk0 V c 7 t) r0_2) (View.ld (iblk0 V c 13 t) r0_2)⟩])
    | ⟨36, _⟩ => (View.canon [⟨r0_6, Taps.posBand (View.ld (iblk0 V c 2 t) r0_1) (View.ld (iblk0 V c 8 t) r0_2) (View.ld (iblk0 V c 14 t) r0_2)⟩])
    | ⟨37, _⟩ => (View.canon [⟨r0_7, Taps.posEdge (View.ld (iblk0 V c 0 t) r0_1) (View.ld (iblk0 V c 6 t) r0_2) (View.ld (iblk0 V c 12 t) r0_2) (View.ld (iblk0 V c 18 t) r0_0)⟩])
    | ⟨38, _⟩ => (View.canon [⟨r0_7, Taps.posEdge (View.ld (iblk0 V c 1 t) r0_1) (View.ld (iblk0 V c 7 t) r0_2) (View.ld (iblk0 V c 13 t) r0_2) (View.ld (iblk0 V c 18 t) r0_0)⟩])
    | ⟨39, _⟩ => (View.canon [⟨r0_7, Taps.posEdge (View.ld (iblk0 V c 2 t) r0_1) (View.ld (iblk0 V c 8 t) r0_2) (View.ld (iblk0 V c 14 t) r0_2) (View.ld (iblk0 V c 18 t) r0_0)⟩])
    | ⟨40, _⟩ => (View.canon [⟨r0_5, Taps.biasPos (View.ld (iblk0 V c 0 t) r0_1) (View.ld (iblk0 V c 6 t) r0_2) (View.ld (iblk0 V c 12 t) r0_2) (View.ld (iblk0 V c 3 t) r0_3) (View.ld (iblk0 V c 9 t) r0_3) (View.ld (iblk0 V c 15 t) r0_3) (View.ld (iblk0 V c 19 t) r0_0)⟩])
    | ⟨41, _⟩ => (View.canon [⟨r0_5, Taps.biasPos (View.ld (iblk0 V c 1 t) r0_1) (View.ld (iblk0 V c 7 t) r0_2) (View.ld (iblk0 V c 13 t) r0_2) (View.ld (iblk0 V c 4 t) r0_3) (View.ld (iblk0 V c 10 t) r0_3) (View.ld (iblk0 V c 16 t) r0_3) (View.ld (iblk0 V c 19 t) r0_0)⟩])
    | ⟨42, _⟩ => (View.canon [⟨r0_5, Taps.biasPos (View.ld (iblk0 V c 2 t) r0_1) (View.ld (iblk0 V c 8 t) r0_2) (View.ld (iblk0 V c 14 t) r0_2) (View.ld (iblk0 V c 5 t) r0_3) (View.ld (iblk0 V c 11 t) r0_3) (View.ld (iblk0 V c 17 t) r0_3) (View.ld (iblk0 V c 19 t) r0_0)⟩])
    | ⟨43, _⟩ => (View.canon [⟨r0_9, Taps.mixPos (View.ld (iblk0 V c 20 t) r0_8)⟩])
    | ⟨44, _⟩ => (View.canon [⟨r0_10, Taps.mixBias (View.ld (iblk0 V c 21 t) r0_0)⟩])
    | ⟨45, _⟩ => (View.canon [⟨r0_12, Taps.readOut (View.ld (iblk0 V c 22 t) r0_11)⟩])
    | ⟨46, _⟩ => (View.canon [⟨r0_16, Taps.readBias (View.ld (iblk0 V c 22 t) r0_11) (View.ld (iblk0 V c 23 t) r0_15) (View.ld (iblk0 V c 24 t) r0_14) (View.ld (iblk0 V c 25 t) r0_15) (View.ld (iblk0 V c 26 t) r0_13)⟩])
    | ⟨47, _⟩ => (View.canon [⟨r0_19, Taps.edges (View.ld (iblk0 V c 27 t) r0_17) (View.ld (iblk0 V c 27 t) r0_18)⟩])
    | ⟨_ + 48, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = iblk0 V c 15 t := by dsimp only [dat0]
theorem after0_16 (c : Dev nD) (t : Fin cfg0.N) : (dat0 V c).after 16 t = iblk0 V c 16 t := by dsimp only [dat0]
theorem after0_17 (c : Dev nD) (t : Fin cfg0.N) : (dat0 V c).after 17 t = iblk0 V c 17 t := by dsimp only [dat0]
theorem after0_18 (c : Dev nD) (t : Fin cfg0.N) : (dat0 V c).after 18 t = iblk0 V c 18 t := by dsimp only [dat0]
theorem after0_19 (c : Dev nD) (t : Fin cfg0.N) : (dat0 V c).after 19 t = iblk0 V c 19 t := by dsimp only [dat0]
theorem after0_20 (c : Dev nD) (t : Fin cfg0.N) : (dat0 V c).after 20 t = iblk0 V c 20 t := by dsimp only [dat0]
theorem after0_21 (c : Dev nD) (t : Fin cfg0.N) : (dat0 V c).after 21 t = iblk0 V c 21 t := by dsimp only [dat0]
theorem after0_22 (c : Dev nD) (t : Fin cfg0.N) : (dat0 V c).after 22 t = iblk0 V c 22 t := by dsimp only [dat0]
theorem after0_23 (c : Dev nD) (t : Fin cfg0.N) : (dat0 V c).after 23 t = iblk0 V c 23 t := by dsimp only [dat0]
theorem after0_24 (c : Dev nD) (t : Fin cfg0.N) : (dat0 V c).after 24 t = iblk0 V c 24 t := by dsimp only [dat0]
theorem after0_25 (c : Dev nD) (t : Fin cfg0.N) : (dat0 V c).after 25 t = iblk0 V c 25 t := by dsimp only [dat0]
theorem after0_26 (c : Dev nD) (t : Fin cfg0.N) : (dat0 V c).after 26 t = iblk0 V c 26 t := by dsimp only [dat0]
theorem after0_27 (c : Dev nD) (t : Fin cfg0.N) : (dat0 V c).after 27 t = iblk0 V c 27 t := by dsimp only [dat0]
theorem after0_28 (c : Dev nD) (t : Fin cfg0.N) : (dat0 V c).after 28 t = (View.canon [⟨r0_4, Taps.nodeBand (View.ld (iblk0 V c 0 t) r0_1) (View.ld (iblk0 V c 6 t) r0_2) (View.ld (iblk0 V c 12 t) r0_2) (View.ld (iblk0 V c 18 t) r0_0)⟩]) := by dsimp only [dat0]
theorem after0_29 (c : Dev nD) (t : Fin cfg0.N) : (dat0 V c).after 29 t = (View.canon [⟨r0_4, Taps.nodeBand (View.ld (iblk0 V c 1 t) r0_1) (View.ld (iblk0 V c 7 t) r0_2) (View.ld (iblk0 V c 13 t) r0_2) (View.ld (iblk0 V c 18 t) r0_0)⟩]) := by dsimp only [dat0]
theorem after0_30 (c : Dev nD) (t : Fin cfg0.N) : (dat0 V c).after 30 t = (View.canon [⟨r0_4, Taps.nodeBand (View.ld (iblk0 V c 2 t) r0_1) (View.ld (iblk0 V c 8 t) r0_2) (View.ld (iblk0 V c 14 t) r0_2) (View.ld (iblk0 V c 18 t) r0_0)⟩]) := by dsimp only [dat0]
theorem after0_31 (c : Dev nD) (t : Fin cfg0.N) : (dat0 V c).after 31 t = (View.canon [⟨r0_1, Taps.biasNode (View.ld (iblk0 V c 0 t) r0_1) (View.ld (iblk0 V c 6 t) r0_2) (View.ld (iblk0 V c 12 t) r0_2) (View.ld (iblk0 V c 3 t) r0_3) (View.ld (iblk0 V c 9 t) r0_3) (View.ld (iblk0 V c 15 t) r0_3) (View.ld (iblk0 V c 19 t) r0_0)⟩]) := by dsimp only [dat0]
theorem after0_32 (c : Dev nD) (t : Fin cfg0.N) : (dat0 V c).after 32 t = (View.canon [⟨r0_1, Taps.biasNode (View.ld (iblk0 V c 1 t) r0_1) (View.ld (iblk0 V c 7 t) r0_2) (View.ld (iblk0 V c 13 t) r0_2) (View.ld (iblk0 V c 4 t) r0_3) (View.ld (iblk0 V c 10 t) r0_3) (View.ld (iblk0 V c 16 t) r0_3) (View.ld (iblk0 V c 19 t) r0_0)⟩]) := by dsimp only [dat0]
theorem after0_33 (c : Dev nD) (t : Fin cfg0.N) : (dat0 V c).after 33 t = (View.canon [⟨r0_1, Taps.biasNode (View.ld (iblk0 V c 2 t) r0_1) (View.ld (iblk0 V c 8 t) r0_2) (View.ld (iblk0 V c 14 t) r0_2) (View.ld (iblk0 V c 5 t) r0_3) (View.ld (iblk0 V c 11 t) r0_3) (View.ld (iblk0 V c 17 t) r0_3) (View.ld (iblk0 V c 19 t) r0_0)⟩]) := by dsimp only [dat0]
theorem after0_34 (c : Dev nD) (t : Fin cfg0.N) : (dat0 V c).after 34 t = (View.canon [⟨r0_6, Taps.posBand (View.ld (iblk0 V c 0 t) r0_1) (View.ld (iblk0 V c 6 t) r0_2) (View.ld (iblk0 V c 12 t) r0_2)⟩]) := by dsimp only [dat0]
theorem after0_35 (c : Dev nD) (t : Fin cfg0.N) : (dat0 V c).after 35 t = (View.canon [⟨r0_6, Taps.posBand (View.ld (iblk0 V c 1 t) r0_1) (View.ld (iblk0 V c 7 t) r0_2) (View.ld (iblk0 V c 13 t) r0_2)⟩]) := by dsimp only [dat0]
theorem after0_36 (c : Dev nD) (t : Fin cfg0.N) : (dat0 V c).after 36 t = (View.canon [⟨r0_6, Taps.posBand (View.ld (iblk0 V c 2 t) r0_1) (View.ld (iblk0 V c 8 t) r0_2) (View.ld (iblk0 V c 14 t) r0_2)⟩]) := by dsimp only [dat0]
theorem after0_37 (c : Dev nD) (t : Fin cfg0.N) : (dat0 V c).after 37 t = (View.canon [⟨r0_7, Taps.posEdge (View.ld (iblk0 V c 0 t) r0_1) (View.ld (iblk0 V c 6 t) r0_2) (View.ld (iblk0 V c 12 t) r0_2) (View.ld (iblk0 V c 18 t) r0_0)⟩]) := by dsimp only [dat0]
theorem after0_38 (c : Dev nD) (t : Fin cfg0.N) : (dat0 V c).after 38 t = (View.canon [⟨r0_7, Taps.posEdge (View.ld (iblk0 V c 1 t) r0_1) (View.ld (iblk0 V c 7 t) r0_2) (View.ld (iblk0 V c 13 t) r0_2) (View.ld (iblk0 V c 18 t) r0_0)⟩]) := by dsimp only [dat0]
theorem after0_39 (c : Dev nD) (t : Fin cfg0.N) : (dat0 V c).after 39 t = (View.canon [⟨r0_7, Taps.posEdge (View.ld (iblk0 V c 2 t) r0_1) (View.ld (iblk0 V c 8 t) r0_2) (View.ld (iblk0 V c 14 t) r0_2) (View.ld (iblk0 V c 18 t) r0_0)⟩]) := by dsimp only [dat0]
theorem after0_40 (c : Dev nD) (t : Fin cfg0.N) : (dat0 V c).after 40 t = (View.canon [⟨r0_5, Taps.biasPos (View.ld (iblk0 V c 0 t) r0_1) (View.ld (iblk0 V c 6 t) r0_2) (View.ld (iblk0 V c 12 t) r0_2) (View.ld (iblk0 V c 3 t) r0_3) (View.ld (iblk0 V c 9 t) r0_3) (View.ld (iblk0 V c 15 t) r0_3) (View.ld (iblk0 V c 19 t) r0_0)⟩]) := by dsimp only [dat0]
theorem after0_41 (c : Dev nD) (t : Fin cfg0.N) : (dat0 V c).after 41 t = (View.canon [⟨r0_5, Taps.biasPos (View.ld (iblk0 V c 1 t) r0_1) (View.ld (iblk0 V c 7 t) r0_2) (View.ld (iblk0 V c 13 t) r0_2) (View.ld (iblk0 V c 4 t) r0_3) (View.ld (iblk0 V c 10 t) r0_3) (View.ld (iblk0 V c 16 t) r0_3) (View.ld (iblk0 V c 19 t) r0_0)⟩]) := by dsimp only [dat0]
theorem after0_42 (c : Dev nD) (t : Fin cfg0.N) : (dat0 V c).after 42 t = (View.canon [⟨r0_5, Taps.biasPos (View.ld (iblk0 V c 2 t) r0_1) (View.ld (iblk0 V c 8 t) r0_2) (View.ld (iblk0 V c 14 t) r0_2) (View.ld (iblk0 V c 5 t) r0_3) (View.ld (iblk0 V c 11 t) r0_3) (View.ld (iblk0 V c 17 t) r0_3) (View.ld (iblk0 V c 19 t) r0_0)⟩]) := by dsimp only [dat0]
theorem after0_43 (c : Dev nD) (t : Fin cfg0.N) : (dat0 V c).after 43 t = (View.canon [⟨r0_9, Taps.mixPos (View.ld (iblk0 V c 20 t) r0_8)⟩]) := by dsimp only [dat0]
theorem after0_44 (c : Dev nD) (t : Fin cfg0.N) : (dat0 V c).after 44 t = (View.canon [⟨r0_10, Taps.mixBias (View.ld (iblk0 V c 21 t) r0_0)⟩]) := by dsimp only [dat0]
theorem after0_45 (c : Dev nD) (t : Fin cfg0.N) : (dat0 V c).after 45 t = (View.canon [⟨r0_12, Taps.readOut (View.ld (iblk0 V c 22 t) r0_11)⟩]) := by dsimp only [dat0]
theorem after0_46 (c : Dev nD) (t : Fin cfg0.N) : (dat0 V c).after 46 t = (View.canon [⟨r0_16, Taps.readBias (View.ld (iblk0 V c 22 t) r0_11) (View.ld (iblk0 V c 23 t) r0_15) (View.ld (iblk0 V c 24 t) r0_14) (View.ld (iblk0 V c 25 t) r0_15) (View.ld (iblk0 V c 26 t) r0_13)⟩]) := by dsimp only [dat0]
theorem after0_47 (c : Dev nD) (t : Fin cfg0.N) : (dat0 V c).after 47 t = (View.canon [⟨r0_19, Taps.edges (View.ld (iblk0 V c 27 t) r0_17) (View.ld (iblk0 V c 27 t) r0_18)⟩]) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d
theorem before0_15 (c : Dev nD) (t : Fin cfg0.N) (d) : (dat0 V c).before 15 t d = iblk0 V c 15 t :=
  before0_15_of V (dat0 V c) (A_eq0 V c 15) (after0_15 V c) t d
theorem before0_16 (c : Dev nD) (t : Fin cfg0.N) (d) : (dat0 V c).before 16 t d = iblk0 V c 16 t :=
  before0_16_of V (dat0 V c) (A_eq0 V c 16) (after0_16 V c) t d
theorem before0_17 (c : Dev nD) (t : Fin cfg0.N) (d) : (dat0 V c).before 17 t d = iblk0 V c 17 t :=
  before0_17_of V (dat0 V c) (A_eq0 V c 17) (after0_17 V c) t d
theorem before0_18 (c : Dev nD) (t : Fin cfg0.N) (d) : (dat0 V c).before 18 t d = iblk0 V c 18 t :=
  before0_18_of V (dat0 V c) (A_eq0 V c 18) (after0_18 V c) t d
theorem before0_19 (c : Dev nD) (t : Fin cfg0.N) (d) : (dat0 V c).before 19 t d = iblk0 V c 19 t :=
  before0_19_of V (dat0 V c) (A_eq0 V c 19) (after0_19 V c) t d
theorem before0_20 (c : Dev nD) (t : Fin cfg0.N) (d) : (dat0 V c).before 20 t d = iblk0 V c 20 t :=
  before0_20_of V (dat0 V c) (A_eq0 V c 20) (after0_20 V c) t d
theorem before0_21 (c : Dev nD) (t : Fin cfg0.N) (d) : (dat0 V c).before 21 t d = iblk0 V c 21 t :=
  before0_21_of V (dat0 V c) (A_eq0 V c 21) (after0_21 V c) t d
theorem before0_22 (c : Dev nD) (t : Fin cfg0.N) (d) : (dat0 V c).before 22 t d = iblk0 V c 22 t :=
  before0_22_of V (dat0 V c) (A_eq0 V c 22) (after0_22 V c) t d
theorem before0_23 (c : Dev nD) (t : Fin cfg0.N) (d) : (dat0 V c).before 23 t d = iblk0 V c 23 t :=
  before0_23_of V (dat0 V c) (A_eq0 V c 23) (after0_23 V c) t d
theorem before0_24 (c : Dev nD) (t : Fin cfg0.N) (d) : (dat0 V c).before 24 t d = iblk0 V c 24 t :=
  before0_24_of V (dat0 V c) (A_eq0 V c 24) (after0_24 V c) t d
theorem before0_25 (c : Dev nD) (t : Fin cfg0.N) (d) : (dat0 V c).before 25 t d = iblk0 V c 25 t :=
  before0_25_of V (dat0 V c) (A_eq0 V c 25) (after0_25 V c) t d
theorem before0_26 (c : Dev nD) (t : Fin cfg0.N) (d) : (dat0 V c).before 26 t d = iblk0 V c 26 t :=
  before0_26_of V (dat0 V c) (A_eq0 V c 26) (after0_26 V c) t d
theorem before0_27 (c : Dev nD) (t : Fin cfg0.N) (d) : (dat0 V c).before 27 t d = iblk0 V c 27 t :=
  before0_27_of V (dat0 V c) (A_eq0 V c 27) (after0_27 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d))
    ∗ (∃ d, owns (c : Thread nD τ) (st0_27 t) fullShare ((dat0 V c).before 27 t d))
    ∗ (∃ d, owns (c : Thread nD τ) (st0_28 t) fullShare ((dat0 V c).before 28 t d))
    ∗ (∃ d, owns (c : Thread nD τ) (st0_29 t) fullShare ((dat0 V c).before 29 t d))
    ∗ (∃ d, owns (c : Thread nD τ) (st0_30 t) fullShare ((dat0 V c).before 30 t d))
    ∗ (∃ d, owns (c : Thread nD τ) (st0_31 t) fullShare ((dat0 V c).before 31 t d))
    ∗ (∃ d, owns (c : Thread nD τ) (st0_32 t) fullShare ((dat0 V c).before 32 t d))
    ∗ (∃ d, owns (c : Thread nD τ) (st0_33 t) fullShare ((dat0 V c).before 33 t d))
    ∗ (∃ d, owns (c : Thread nD τ) (st0_34 t) fullShare ((dat0 V c).before 34 t d))
    ∗ (∃ d, owns (c : Thread nD τ) (st0_35 t) fullShare ((dat0 V c).before 35 t d))
    ∗ (∃ d, owns (c : Thread nD τ) (st0_36 t) fullShare ((dat0 V c).before 36 t d))
    ∗ (∃ d, owns (c : Thread nD τ) (st0_37 t) fullShare ((dat0 V c).before 37 t d))
    ∗ (∃ d, owns (c : Thread nD τ) (st0_38 t) fullShare ((dat0 V c).before 38 t d))
    ∗ (∃ d, owns (c : Thread nD τ) (st0_39 t) fullShare ((dat0 V c).before 39 t d))
    ∗ (∃ d, owns (c : Thread nD τ) (st0_40 t) fullShare ((dat0 V c).before 40 t d))
    ∗ (∃ d, owns (c : Thread nD τ) (st0_41 t) fullShare ((dat0 V c).before 41 t d))
    ∗ (∃ d, owns (c : Thread nD τ) (st0_42 t) fullShare ((dat0 V c).before 42 t d))
    ∗ (∃ d, owns (c : Thread nD τ) (st0_43 t) fullShare ((dat0 V c).before 43 t d))
    ∗ (∃ d, owns (c : Thread nD τ) (st0_44 t) fullShare ((dat0 V c).before 44 t d))
    ∗ (∃ d, owns (c : Thread nD τ) (st0_45 t) fullShare ((dat0 V c).before 45 t d))
    ∗ (∃ d, owns (c : Thread nD τ) (st0_46 t) fullShare ((dat0 V c).before 46 t d))
    ∗ (∃ d, owns (c : Thread nD τ) (st0_47 t) fullShare ((dat0 V c).before 47 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t)
    ∗ owns (c : Thread nD τ) (st0_27 t) fullShare ((dat0 V c).after 27 t)
    ∗ owns (c : Thread nD τ) (st0_28 t) fullShare ((dat0 V c).after 28 t)
    ∗ owns (c : Thread nD τ) (st0_29 t) fullShare ((dat0 V c).after 29 t)
    ∗ owns (c : Thread nD τ) (st0_30 t) fullShare ((dat0 V c).after 30 t)
    ∗ owns (c : Thread nD τ) (st0_31 t) fullShare ((dat0 V c).after 31 t)
    ∗ owns (c : Thread nD τ) (st0_32 t) fullShare ((dat0 V c).after 32 t)
    ∗ owns (c : Thread nD τ) (st0_33 t) fullShare ((dat0 V c).after 33 t)
    ∗ owns (c : Thread nD τ) (st0_34 t) fullShare ((dat0 V c).after 34 t)
    ∗ owns (c : Thread nD τ) (st0_35 t) fullShare ((dat0 V c).after 35 t)
    ∗ owns (c : Thread nD τ) (st0_36 t) fullShare ((dat0 V c).after 36 t)
    ∗ owns (c : Thread nD τ) (st0_37 t) fullShare ((dat0 V c).after 37 t)
    ∗ owns (c : Thread nD τ) (st0_38 t) fullShare ((dat0 V c).after 38 t)
    ∗ owns (c : Thread nD τ) (st0_39 t) fullShare ((dat0 V c).after 39 t)
    ∗ owns (c : Thread nD τ) (st0_40 t) fullShare ((dat0 V c).after 40 t)
    ∗ owns (c : Thread nD τ) (st0_41 t) fullShare ((dat0 V c).after 41 t)
    ∗ owns (c : Thread nD τ) (st0_42 t) fullShare ((dat0 V c).after 42 t)
    ∗ owns (c : Thread nD τ) (st0_43 t) fullShare ((dat0 V c).after 43 t)
    ∗ owns (c : Thread nD τ) (st0_44 t) fullShare ((dat0 V c).after 44 t)
    ∗ owns (c : Thread nD τ) (st0_45 t) fullShare ((dat0 V c).after 45 t)
    ∗ owns (c : Thread nD τ) (st0_46 t) fullShare ((dat0 V c).after 46 t)
    ∗ owns (c : Thread nD τ) (st0_47 t) fullShare ((dat0 V c).after 47 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43, after0_44, after0_45, after0_46, after0_47]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩⟩
  iapply (sound_kernel0 c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (iblk0 V c 21 t) (iblk0 V c 22 t) (iblk0 V c 23 t) (iblk0 V c 24 t) (iblk0 V c 25 t) (iblk0 V c 26 t) (iblk0 V c 27 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  iexact H47

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Front.lean ====
/- What the second launch writes, as plain functions of the blocks that it reads.

   Three banded products give a branch's three channels; `gate` joins them.  The node features then go through the two
   dense layers of the attention, the positional ones through the dense layer that is a result. -/
module

public import proofs.«01_k».proof.Proof.Gen.KernelIdeal
public import Idealize.ShloMosaic.Lib.Tactic

@[expose] public section

set_option maxRecDepth 16384

noncomputable section

namespace Cert.KernelIdeal.Taps

open Idealize.ShloMosaic Idealize.ShloMosaic.TcCoe
open Cert.KernelIdeal Cert.KernelIdeal.Gen

variable {F : FTy → Type} [FloatOps F] [Named F]

/-- A gated unit with a residual, negative values cut off. -/
def gate {s : Shape} (a g r : FVec F s .f32) : FVec F s .f32 :=
  maximumf (addf (mulf (tanh a) (logistic g)) r) (broadcast s (Scalar.ofBits .f32 0x00000000#32))

/-- One branch of the node features. -/
def nodeLin (x : FVec F S992x64 .f32) (T : FVec F S64x1024 .f32) (b : FVec F S1x1024 .f32) : FVec F S992x1024 .f32 :=
  addf (matmul dot_S992x64_S64x1024_S992x1024_1_0_0_1_n_n none (shapeCast S992x64 x shapeCasts_S992x64_S992x64)
      (shapeCast S64x1024 T shapeCasts_S64x1024_S64x1024) (constant S992x1024 .f32 0x00000000#32))
    (broadcastTo S992x1024 (shapeCast S1x1024 b shapeCasts_S1x1024_S1x1024) broadcasts_S1x1024_S992x1024)

/-- The node features. -/
def nodeFeat (x : FVec F S992x64 .f32) (T0 T1 T2 : FVec F S64x1024 .f32) (b0 b1 b2 : FVec F S1x1024 .f32) :
    FVec F S992x1024 .f32 :=
  gate (nodeLin x T0 b0) (nodeLin x T1 b1) (nodeLin x T2 b2)

/-- A dense layer on the node features. -/
def dense (g : FVec F S992x1024 .f32) (W : FVec F S1024x512 .f32) (b : FVec F S1x512 .f32) : FVec F S992x512 .f32 :=
  addf (matmul dot_S992x1024_S1024x512_S992x512_1_0_0_1_n_n none g W (constant S992x512 .f32 0x00000000#32))
    (broadcastTo S992x512 (shapeCast S1x512 b shapeCasts_S1x512_S1x512) broadcasts_S1x512_S992x512)

/-- One branch of the positional features. -/
def posLin (x : FVec F S992x64 .f32) (p : FVec F S992x512 .f32) (G : FVec F S512x256 .f32) (E : FVec F S8x256 .f32)
    (b : FVec F S1x256 .f32) : FVec F S992x256 .f32 :=
  addf (addf
      (matmul dot_S992x512_S512x256_S992x256_1_0_0_1_n_n none (shapeCast S992x512 p shapeCasts_S992x512_S992x512)
        (shapeCast S512x256 G shapeCasts_S512x256_S512x256) (constant S992x256 .f32 0x00000000#32))
      (matmul dot_S992x8_S8x256_S992x256_1_0_0_1_n_n none
        (extractStridedSlice S992x8 ![0, 56] (shapeCast S992x64 x shapeCasts_S992x64_S992x64) slices_S992x64_o0_56_S992x8)
        (shapeCast S8x256 E shapeCasts_S8x256_S8x256) (constant S992x256 .f32 0x00000000#32)))
    (broadcastTo S992x256 (shapeCast S1x256 b shapeCasts_S1x256_S1x256) broadcasts_S1x256_S992x256)

/-- The positional features. -/
def posFeat (x : FVec F S992x64 .f32) (p : FVec F S992x512 .f32) (G0 G1 G2 : FVec F S512x256 .f32)
    (E0 E1 E2 : FVec F S8x256 .f32) (b0 b1 b2 : FVec F S1x256 .f32) : FVec F S992x256 .f32 :=
  gate (posLin x p G0 E0 b0) (posLin x p G1 E1 b1) (posLin x p G2 E2 b2)

/-- The dense layer on the positional features. -/
def posDense (q : FVec F S992x256 .f32) (W : FVec F S256x512 .f32) (b : FVec F S1x512 .f32) : FVec F S992x512 .f32 :=
  addf (matmul dot_S992x256_S256x512_S992x512_1_0_0_1_n_n none q (shapeCast S256x512 W shapeCasts_S256x512_S256x512)
      (constant S992x512 .f32 0x00000000#32))
    (broadcastTo S992x512 (shapeCast S1x512 b shapeCasts_S1x512_S1x512) broadcasts_S1x512_S992x512)

end Cert.KernelIdeal.Taps
-- ==== Proof.Launch1.lean ====
/- The second launch, run at the contents `V` that it finds.

   Its body reads twenty-three blocks and writes three; `sound_kernel1` says that each output is the function of
   `Front.lean` of the blocks read.  `dat1` records this and `body_obligation1` hands it to the pipeline. -/
module

public import proofs.«01_k».proof.Proof.Front
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! # REGION 1 of @main: custom_call 1, `cc1__front_body` (pipeline 1), at the entry contents `V` -/

/-! ## The windows' blocks -/

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)
theorem before1_22_of {c : Dev nD} (dat : Dat τ (Elt F) Unit ℕ (UR sig nD τ) ℕ cfg1 c) (hA : dat.A 22 = V c (Pipeline.arrRef spec1 22))
    (hafter : ∀ t, dat.after 22 t = iblk1 V c 22 t) (t : Fin cfg1.N) (d) : dat.before 22 t d = iblk1 V c 22 t :=
  (dat.before_in_eq_fetched 22 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S992x64 := Rect.unit (s := S992x64) ![0, 0] S992x64.size inb_S992x64_S992x64_0_0
abbrev r1_1 : Rect S992x512 := Rect.unit (s := S992x512) ![0, 0] S992x512.size inb_S992x512_S992x512_0_0
abbrev r1_2 : Rect S64x1024 := Rect.unit (s := S64x1024) ![0, 0] S64x1024.size inb_S64x1024_S64x1024_0_0
abbrev r1_3 : Rect S1x1024 := Rect.unit (s := S1x1024) ![0, 0] S1x1024.size inb_S1x1024_S1x1024_0_0
abbrev r1_4 : Rect S512x256 := Rect.unit (s := S512x256) ![0, 0] S512x256.size inb_S512x256_S512x256_0_0
abbrev r1_5 : Rect S8x256 := Rect.unit (s := S8x256) ![0, 0] S8x256.size inb_S8x256_S8x256_0_0
abbrev r1_6 : Rect S1x256 := Rect.unit (s := S1x256) ![0, 0] S1x256.size inb_S1x256_S1x256_0_0
abbrev r1_7 : Rect S1024x512 := Rect.unit (s := S1024x512) ![0, 0] S1024x512.size inb_S1024x512_S1024x512_0_0
abbrev r1_8 : Rect S1x512 := Rect.unit (s := S1x512) ![0, 0] S1x512.size inb_S1x512_S1x512_0_0
abbrev r1_9 : Rect S256x512 := Rect.unit (s := S256x512) ![0, 0] S256x512.size inb_S256x512_S256x512_0_0
theorem cover1_23 (p0 : Vec F S992x512 .f32) (y : S992x512.Idx) :
    ∃ pc ∈ ([⟨r1_1, p0⟩] : List (View.Piece (Elt F) S992x512 .f32)), y ∈ pc.1.set :=
  View.cover_of_tiled [⟨r1_1, p0⟩] S992x512.size (by rfl) y
theorem cover1_24 (p0 : Vec F S992x512 .f32) (y : S992x512.Idx) :
    ∃ pc ∈ ([⟨r1_1, p0⟩] : List (View.Piece (Elt F) S992x512 .f32)), y ∈ pc.1.set :=
  View.cover_of_tiled [⟨r1_1, p0⟩] S992x512.size (by rfl) y
theorem cover1_25 (p0 : Vec F S992x512 .f32) (y : S992x512.Idx) :
    ∃ pc ∈ ([⟨r1_1, p0⟩] : List (View.Piece (Elt F) S992x512 .f32)), y ∈ pc.1.set :=
  View.cover_of_tiled [⟨r1_1, p0⟩] S992x512.size (by rfl) y

/-! ## The body's accesses -/

/-! ## The body's triple -/

theorem sound_kernel1 (c : Dev nD) (E : Set ℕ) (arg0 : Memref sig .tc .vmem S992x64 .f32) (harg0 : arg0.IsWhole) (arg1 : Memref sig .tc .vmem S992x512 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S8x256 .f32) (harg11 : arg11.IsWhole) (arg12 : Memref sig .tc .vmem S8x256 .f32) (harg12 : arg12.IsWhole) (arg13 : Memref sig .tc .vmem S8x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S256x512 .f32) (harg17 : arg17.IsWhole) (arg18 : Memref sig .tc .vmem S1x512 .f32) (harg18 : arg18.IsWhole) (arg19 : Memref sig .tc .vmem S1024x512 .f32) (harg19 : arg19.IsWhole) (arg20 : Memref sig .tc .vmem S1x512 .f32) (harg20 : arg20.IsWhole) (arg21 : Memref sig .tc .vmem S1024x512 .f32) (harg21 : arg21.IsWhole) (arg22 : Memref sig .tc .vmem S1x512 .f32) (harg22 : arg22.IsWhole) (arg23 : Memref sig .tc .vmem S992x512 .f32) (harg23 : arg23.IsWhole) (arg24 : Memref sig .tc .vmem S992x512 .f32) (harg24 : arg24.IsWhole) (arg25 : Memref sig .tc .vmem S992x512 .f32) (harg25 : arg25.IsWhole)
    (x0 : Vec F S992x64 .f32) (x1 : Vec F S992x512 .f32) (x2 : Vec F S64x1024 .f32) (x3 : Vec F S64x1024 .f32) (x4 : Vec F S64x1024 .f32) (x5 : Vec F S1x1024 .f32) (x6 : Vec F S1x1024 .f32) (x7 : Vec F S1x1024 .f32) (x8 : Vec F S512x256 .f32) (x9 : Vec F S512x256 .f32) (x10 : Vec F S512x256 .f32) (x11 : Vec F S8x256 .f32) (x12 : Vec F S8x256 .f32) (x13 : Vec F S8x256 .f32) (x14 : Vec F S1x256 .f32) (x15 : Vec F S1x256 .f32) (x16 : Vec F S1x256 .f32) (x17 : Vec F S256x512 .f32) (x18 : Vec F S1x512 .f32) (x19 : Vec F S1024x512 .f32) (x20 : Vec F S1x512 .f32) (x21 : Vec F S1024x512 .f32) (x22 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare (View.canon [⟨r1_1, Taps.dense (Taps.nodeFeat (View.ld x0 r1_0) (View.ld x2 r1_2) (View.ld x3 r1_2) (View.ld x4 r1_2) (View.ld x5 r1_3) (View.ld x6 r1_3) (View.ld x7 r1_3)) (View.ld x19 r1_7) (View.ld x20 r1_8)⟩]) ∗ owns (c : Thread nD τ) arg24 fullShare (View.canon [⟨r1_1, Taps.dense (Taps.nodeFeat (View.ld x0 r1_0) (View.ld x2 r1_2) (View.ld x3 r1_2) (View.ld x4 r1_2) (View.ld x5 r1_3) (View.ld x6 r1_3) (View.ld x7 r1_3)) (View.ld x21 r1_7) (View.ld x22 r1_8)⟩]) ∗ owns (c : Thread nD τ) arg25 fullShare (View.canon [⟨r1_1, Taps.posDense (Taps.posFeat (View.ld x0 r1_0) (View.ld x1 r1_1) (View.ld x8 r1_4) (View.ld x9 r1_4) (View.ld x10 r1_4) (View.ld x11 r1_5) (View.ld x12 r1_5) (View.ld x13 r1_5) (View.ld x14 r1_6) (View.ld x15 r1_6) (View.ld x16 r1_6)) (View.ld x17 r1_9) (View.ld x18 r1_8)⟩])) -∗ K ⟨⟩))
      ⊢ wp frame (wpE (defs₀ (F := F)) Variants.none c none) E (cc1__front_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc1__front_body_eq_skeleton]; unfold cc1__front_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    refine (View.read_writes_eq_canon _ _ _ (cover1_23 _)).trans ?_
    rfl
  isplitl [H24]
  · iexists _; isplitr
    swap; · iexact H24
    ipureintro
    refine (View.read_writes_eq_canon _ _ _ (cover1_24 _)).trans ?_
    rfl
  iexists _; isplitr
  swap; · iexact H25
  ipureintro
  refine (View.read_writes_eq_canon _ _ _ (cover1_25 _)).trans ?_
  rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => (View.canon [⟨r1_1, Taps.dense (Taps.nodeFeat (View.ld (iblk1 V c 0 t) r1_0) (View.ld (iblk1 V c 2 t) r1_2) (View.ld (iblk1 V c 3 t) r1_2) (View.ld (iblk1 V c 4 t) r1_2) (View.ld (iblk1 V c 5 t) r1_3) (View.ld (iblk1 V c 6 t) r1_3) (View.ld (iblk1 V c 7 t) r1_3)) (View.ld (iblk1 V c 19 t) r1_7) (View.ld (iblk1 V c 20 t) r1_8)⟩])
    | ⟨24, _⟩ => (View.canon [⟨r1_1, Taps.dense (Taps.nodeFeat (View.ld (iblk1 V c 0 t) r1_0) (View.ld (iblk1 V c 2 t) r1_2) (View.ld (iblk1 V c 3 t) r1_2) (View.ld (iblk1 V c 4 t) r1_2) (View.ld (iblk1 V c 5 t) r1_3) (View.ld (iblk1 V c 6 t) r1_3) (View.ld (iblk1 V c 7 t) r1_3)) (View.ld (iblk1 V c 21 t) r1_7) (View.ld (iblk1 V c 22 t) r1_8)⟩])
    | ⟨25, _⟩ => (View.canon [⟨r1_1, Taps.posDense (Taps.posFeat (View.ld (iblk1 V c 0 t) r1_0) (View.ld (iblk1 V c 1 t) r1_1) (View.ld (iblk1 V c 8 t) r1_4) (View.ld (iblk1 V c 9 t) r1_4) (View.ld (iblk1 V c 10 t) r1_4) (View.ld (iblk1 V c 11 t) r1_5) (View.ld (iblk1 V c 12 t) r1_5) (View.ld (iblk1 V c 13 t) r1_5) (View.ld (iblk1 V c 14 t) r1_6) (View.ld (iblk1 V c 15 t) r1_6) (View.ld (iblk1 V c 16 t) r1_6)) (View.ld (iblk1 V c 17 t) r1_9) (View.ld (iblk1 V c 18 t) r1_8)⟩])
    | ⟨_ + 26, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = iblk1 V c 22 t := by dsimp only [dat1]
theorem after1_23 (c : Dev nD) (t : Fin cfg1.N) : (dat1 V c).after 23 t = (View.canon [⟨r1_1, Taps.dense (Taps.nodeFeat (View.ld (iblk1 V c 0 t) r1_0) (View.ld (iblk1 V c 2 t) r1_2) (View.ld (iblk1 V c 3 t) r1_2) (View.ld (iblk1 V c 4 t) r1_2) (View.ld (iblk1 V c 5 t) r1_3) (View.ld (iblk1 V c 6 t) r1_3) (View.ld (iblk1 V c 7 t) r1_3)) (View.ld (iblk1 V c 19 t) r1_7) (View.ld (iblk1 V c 20 t) r1_8)⟩]) := by dsimp only [dat1]
theorem after1_24 (c : Dev nD) (t : Fin cfg1.N) : (dat1 V c).after 24 t = (View.canon [⟨r1_1, Taps.dense (Taps.nodeFeat (View.ld (iblk1 V c 0 t) r1_0) (View.ld (iblk1 V c 2 t) r1_2) (View.ld (iblk1 V c 3 t) r1_2) (View.ld (iblk1 V c 4 t) r1_2) (View.ld (iblk1 V c 5 t) r1_3) (View.ld (iblk1 V c 6 t) r1_3) (View.ld (iblk1 V c 7 t) r1_3)) (View.ld (iblk1 V c 21 t) r1_7) (View.ld (iblk1 V c 22 t) r1_8)⟩]) := by dsimp only [dat1]
theorem after1_25 (c : Dev nD) (t : Fin cfg1.N) : (dat1 V c).after 25 t = (View.canon [⟨r1_1, Taps.posDense (Taps.posFeat (View.ld (iblk1 V c 0 t) r1_0) (View.ld (iblk1 V c 1 t) r1_1) (View.ld (iblk1 V c 8 t) r1_4) (View.ld (iblk1 V c 9 t) r1_4) (View.ld (iblk1 V c 10 t) r1_4) (View.ld (iblk1 V c 11 t) r1_5) (View.ld (iblk1 V c 12 t) r1_5) (View.ld (iblk1 V c 13 t) r1_5) (View.ld (iblk1 V c 14 t) r1_6) (View.ld (iblk1 V c 15 t) r1_6) (View.ld (iblk1 V c 16 t) r1_6)) (View.ld (iblk1 V c 17 t) r1_9) (View.ld (iblk1 V c 18 t) r1_8)⟩]) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d
theorem before1_22 (c : Dev nD) (t : Fin cfg1.N) (d) : (dat1 V c).before 22 t d = iblk1 V c 22 t :=
  before1_22_of V (dat1 V c) (A_eq1 V c 22) (after1_22 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel1 c Set.univ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Fold.lean ====
/- What every buffer holds between the launches.

   `W1`, `W3`, `W5` are the contents at each launch's entry, `W2`, `W4`, `W6` at its exit, and `W7` those at the end:
   a host stretch applies its operations, a launch replaces the arrays that it writes. -/
module

public import proofs.«01_k».proof.Proof.Launch0
public import proofs.«01_k».proof.Proof.Launch1
public import proofs.«01_k».proof.Proof.Gen.KernelIdeal.Frame.Region2
public import proofs.«01_k».proof.Proof.Gen.KernelIdeal.Frame.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)

end Cert.KernelIdeal.Gen

end
-- ==== Proof.Run.lean ====
/- The kernel's run: its three launches and the host operations between them, one after another.

   `run_ends` says that every execution ends, that every buffer then holds what `Fold.lean` says, and that every
   counter is at zero. -/
module

public import proofs.«01_k».proof.Proof.Fold

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every execution ends with every buffer at `W7` and every counter at zero. -/
theorem run_ends : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

end Cert.KernelIdeal.Gen

end
-- ==== Proof.Frames.lean ====
/- Both programs end, leave their arguments alone and leave every counter at zero.

   The program with the named constant does by its run.  The program over machine words is the same program once the
   name is read as the word that it stands for, so its runs are those runs. -/
module

public import proofs.«01_k».proof.Kernel
public import proofs.«01_k».proof.Defs
public import proofs.«01_k».proof.Proof.Gen.Kernel
public import proofs.«01_k».proof.Proof.Run

@[expose] public section

set_option maxRecDepth 65536
set_option maxHeartbeats 4000000

noncomputable section

namespace Cert.Proof

open Idealize.ShloMosaic Idealize.ShloMosaic.TcCoe Idealize.ShloMosaic.Tactic
open Cert.KernelIdeal Cert.KernelIdeal.Gen

section
variable {F : FTy → Type} [FloatOps F] [Named F]

/-- The frame of the program with the named constant, whatever the numbers are. -/
theorem ideal_frame (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, ∀ a ∈ argRefs, r.2.mem ((c.tc : Thread nD τ).loc a) = m ((c.tc : Thread nD τ).loc a))
      ∧ r.2.sem = fun _ => 0) :=
  (θ_run defs _ _).mono (fun r h => ⟨fun c a ha =>
    (h.1 c _ (mem_uc a ((show ∀ a ∈ argRefs, ¬ (Proc.devRef .tc a : DevRef τ sig).isScoped by decide) a ha))).trans
      (W7_args m ρ c a ha), h.2⟩) (run_ends m ρ)

end

/-- Over machine words a named constant is the word that the program writes. -/
@[reducible] def namedBits : Named Bits := ⟨fun _ _ {φ} b => Scalar.ofBits φ b⟩

attribute [local instance] namedBits

/-- The two programs are one over machine words. -/
theorem run_eq (m : (ℓ : Loc Cert.KernelIdeal.nD Cert.KernelIdeal.τ Cert.KernelIdeal.sig) → Buf (Elt Bits) ℓ)
    (g : Dev Cert.Kernel.nD → PrngReg) (Q) :
    θ_run (Cert.Kernel.defs (F := Bits)) (onTc (τ := Cert.Kernel.τ) (Cert.Kernel.main (F := Bits))) ⟨m, fun _ => 0, g⟩ Q
    = θ_run (Cert.KernelIdeal.defs (F := Bits)) (onTc (τ := Cert.KernelIdeal.τ) (Cert.KernelIdeal.main (F := Bits))) ⟨m, fun _ => 0, g⟩ Q := by
  sl_kernel_rfl

/-- The kernel's frame. -/
theorem kernel_frame : Cert.quiescent_Kernel := by
  intro m g _
  refine (run_eq m g _).mpr ?_
  refine (θ_run _ _ _).mono (fun r h => ?_) (ideal_frame (F := Bits) m g)
  refine ⟨fun c => ?_, h.2⟩
  have e := h.1 c
  and_intros <;> exact e _ (by decide)

/-- The frame of the program with the named constant. -/
theorem kernel_ideal_frame : Cert.quiescent_KernelIdeal := by
  intro m g _
  refine (θ_run _ _ _).mono (fun r h => ?_) (ideal_frame (F := Ideal) m g)
  refine ⟨fun c => ?_, h.2⟩
  have e := h.1 c
  and_intros <;> exact e _ (by decide)

end Cert.Proof
-- ==== Proof.ReferenceFrame.lean ====
/- The reference ends and leaves its arguments alone. -/
module

public import proofs.«01_k».proof.Defs
public import proofs.«01_k».proof.Proof.Gen.ReferenceIdeal
public import proofs.«01_k».proof.Proof.Gen.ReferenceIdeal.Run
public import Idealize.ShloMosaic.Lib.Claim
public import Idealize.ShloMosaic.Lib.Quiescent

@[expose] public section

set_option maxRecDepth 65536
-- the reference is one list of 273 operations
set_option maxHeartbeats 4000000

noncomputable section

namespace Cert.Proof

open Idealize.ShloMosaic Idealize.SL.Sem

theorem reference_frame : Cert.quiescent_ReferenceIdeal := by
  intro m g _
  exact (θ_run _ _ _).mono (fun r h => ⟨fun c => (h c).2.2.2, sem_eq_zero_of_no_sems (by decide) r.2⟩) (Cert.ReferenceIdeal.Value.run m g)

end Cert.Proof

end
-- ==== Proof.Indicators.lean ====
/- The zero-one matrices that the first launch builds, entry by entry.

   Each is a comparison of counters, their quotients and their remainders, turned into a number.  Here the words of the
   comparison become natural numbers. -/
module

public import proofs.«01_k».proof.Proof.Weights
public import Idealize.ShloMosaic.Lib.Pointwise

@[expose] public section

set_option maxRecDepth 16384

noncomputable section

namespace Cert.KernelIdeal.Taps

open Idealize.ShloMosaic Idealize.ShloMosaic.TcCoe
open Cert.KernelIdeal Cert.KernelIdeal.Gen

/-! ## Words -/

/-- A bit as a number. -/
theorem bit_num (b : BitVec 1) : FloatOps.sitofp (F := Ideal) .f32 (BitVec.setWidth 32 b) = if b = 1#1 then 1 else 0 := by
  have h : b = 0#1 ∨ b = 1#1 := by revert b; decide
  rcases h with rfl | rfl
  · simp [FloatOps.sitofp]
  · simp [FloatOps.sitofp]

theorem ofBool_one (p : Bool) : BitVec.ofBool p = 1#1 ↔ p = true := by cases p <;> decide

theorem cmp_eq (x y : BitVec 32) : IntOp.cmpi .eq x y = 1#1 ↔ x = y := by
  simp [IntOp.cmpi, ofBool_one]

/-- The remainder of one word, of the divisor's sign. -/
def modS (m x : BitVec 32) : BitVec 32 :=
  let w : BitVec 32 := Scalar.select (Scalar.cmpi .eq m 0#32) 1#32 m
  let r : BitVec 32 := IntOp.remsi .vector x w
  Scalar.select (IntOp.andi (IntOp.xori (IntOp.cmpi .slt r 0#32) (Scalar.cmpi .slt w 0#32)) (IntOp.cmpi .ne r 0#32))
    (IntOp.addi r w) r

/-- The quotient of one word, rounded down. -/
def divS (m x : BitVec 32) : BitVec 32 :=
  let q : BitVec 32 := IntOp.divsi .vector x m
  let sx : BitVec 32 := IntOp.subi (BitVec.setWidth 32 (IntOp.cmpi .sgt x 0#32)) (BitVec.setWidth 32 (IntOp.cmpi .slt x 0#32))
  let sm : BitVec 32 := Scalar.subi (Scalar.extui (Scalar.cmpi .sgt m 0#32)) (Scalar.extui (Scalar.cmpi .slt m 0#32))
  Scalar.select (IntOp.andi (IntOp.cmpi .ne sx sm) (IntOp.cmpi .ne (IntOp.remsi .vector x m) 0#32)) (IntOp.subi q 1#32) q

theorem mod64 (n : Fin 1024) : modS 64#32 (BitVec.ofNat 32 n.val) = BitVec.ofNat 32 (n.val % 64) := by
  revert n; decide +kernel

theorem mod16 (n : Fin 1024) : modS 16#32 (BitVec.ofNat 32 n.val) = BitVec.ofNat 32 (n.val % 16) := by
  revert n; decide +kernel

theorem div64 (n : Fin 1024) : divS 64#32 (BitVec.ofNat 32 n.val) = BitVec.ofNat 32 (n.val / 64) := by
  revert n; decide +kernel

theorem div16 (n : Fin 1024) : divS 16#32 (BitVec.ofNat 32 n.val) = BitVec.ofNat 32 (n.val / 16) := by
  revert n; decide +kernel

theorem modW_apply {s : Shape} (h : s.Broadcasts s) (m : BitVec 32) (x : IVec s 32) (i : s.Idx) :
    modW h m x i = modS m (x i) := rfl

theorem divW_apply {s : Shape} (m : BitVec 32) (x : IVec s 32) (i : s.Idx) : divW m x i = divS m (x i) := rfl

theorem mod64' (n : ℕ) (h : n < 1024) : modS 64#32 (BitVec.ofNat 32 n) = BitVec.ofNat 32 (n % 64) := mod64 ⟨n, h⟩
theorem mod16' (n : ℕ) (h : n < 1024) : modS 16#32 (BitVec.ofNat 32 n) = BitVec.ofNat 32 (n % 16) := mod16 ⟨n, h⟩
theorem div64' (n : ℕ) (h : n < 1024) : divS 64#32 (BitVec.ofNat 32 n) = BitVec.ofNat 32 (n / 64) := div64 ⟨n, h⟩
theorem div16' (n : ℕ) (h : n < 1024) : divS 16#32 (BitVec.ofNat 32 n) = BitVec.ofNat 32 (n / 16) := div16 ⟨n, h⟩

/-- The number of a truth value. -/
theorem ind_apply {s : Shape} (b : IVec s 1) (i : s.Idx) : ind (F := Ideal) b i = if b i = 1#1 then 1 else 0 := bit_num (b i)

/-- Two small words are equal exactly if their numbers are. -/
theorem word_inj {a b : ℕ} (ha : a < 4294967296) (hb : b < 4294967296) : BitVec.ofNat 32 a = BitVec.ofNat 32 b ↔ a = b := by
  rw [← BitVec.toNat_inj]; simp only [BitVec.toNat_ofNat]; omega

/-! ## Picking an entry out of a sum -/

theorem sum_pick {n : ℕ} (f : Fin n → EReal) (k : ℕ) (hk : k < n) (P : Fin n → Prop) [DecidablePred P]
    (hP : ∀ x, P x ↔ x.val = k) : ∑ x, f x * (if P x then 1 else 0) = f ⟨k, hk⟩ := by
  rw [Finset.sum_eq_single ⟨k, hk⟩]
  · rw [if_pos ((hP _).mpr rfl), mul_one]
  · intro b _ hb
    rw [if_neg fun h => hb (Fin.ext ((hP b).mp h)), mul_zero]
  · intro h; exact absurd (Finset.mem_univ _) h

theorem sum_pick' {n : ℕ} (f : Fin n → EReal) (k : ℕ) (hk : k < n) (P : Fin n → Prop) [DecidablePred P]
    (hP : ∀ x, P x ↔ x.val = k) : ∑ x, (if P x then 1 else 0) * f x = f ⟨k, hk⟩ := by
  simp only [mul_comm _ (f _)]; exact sum_pick f k hk P hP

/-! ## The matrices -/

theorem pick64_apply (c : ℕ) (hc : c < 2) (i : Fin 64) (j : Fin 32) :
    pick64 (F := Ideal) (BitVec.ofNat 32 c) (ix2 i j) = if i.val = 2 * j.val + c then 1 else 0 := by
  pointwise [pick64, ind_apply]
  refine if_congr ?_ rfl rfl
  rw [cmp_eq, ← BitVec.toNat_inj]
  simp only [IntOp.addi, IntOp.muli, BitVec.toNat_add, BitVec.toNat_mul, BitVec.toNat_ofNat]
  omega

theorem pick32_apply (c : ℕ) (hc : c < 2) (i : Fin 32) (j : Fin 16) :
    pick32 (F := Ideal) (BitVec.ofNat 32 c) (ix2 i j) = if i.val = 2 * j.val + c then 1 else 0 := by
  pointwise [pick32, ind_apply]
  refine if_congr ?_ rfl rfl
  rw [cmp_eq, ← BitVec.toNat_inj]
  simp only [IntOp.addi, IntOp.muli, BitVec.toNat_add, BitVec.toNat_mul, BitVec.toNat_ofNat]
  omega

theorem spreadNode_apply (i : Fin 16) (j : Fin 1024) :
    spreadNode (F := Ideal) (ix2 i j) = if i.val = j.val / 64 then 1 else 0 := by
  pointwise [spreadNode, ind_apply, divW_apply]
  rw [div64' _ (by omega), if_congr ((cmp_eq _ _).trans (word_inj (by omega) (by omega))) rfl rfl]

theorem spreadPos_apply (i : Fin 16) (j : Fin 256) :
    spreadPos (F := Ideal) (ix2 i j) = if i.val = j.val / 16 then 1 else 0 := by
  pointwise [spreadPos, ind_apply, divW_apply]
  rw [div16' _ (by omega), if_congr ((cmp_eq _ _).trans (word_inj (by omega) (by omega))) rfl rfl]

theorem spreadIn_apply (i : Fin 512) (j : Fin 32) :
    spreadIn (F := Ideal) (ix2 i j) = if j.val = i.val / 16 then 1 else 0 := by
  pointwise [spreadIn, ind_apply, divW_apply]
  rw [div16' _ (by omega), if_congr ((cmp_eq _ _).trans ((word_inj (by omega) (by omega)).trans eq_comm)) rfl rfl]

theorem spreadOut_apply (i : Fin 32) (j : Fin 512) :
    spreadOut (F := Ideal) (ix2 i j) = if i.val = j.val / 16 then 1 else 0 := by
  pointwise [spreadOut, ind_apply, divW_apply]
  rw [div16' _ (by omega), if_congr ((cmp_eq _ _).trans (word_inj (by omega) (by omega))) rfl rfl]

theorem lag_iff (a b t : ℕ) (ha : a < 4096) (hb : b < 4096) (ht : t < 4096) :
    IntOp.cmpi .eq (IntOp.subi (BitVec.ofNat 32 a) (BitVec.ofNat 32 b)) (BitVec.ofNat 32 t) = 1#1 ↔ a = b + t := by
  rw [cmp_eq, ← BitVec.toNat_inj]
  simp only [IntOp.subi, BitVec.toNat_sub, BitVec.toNat_ofNat]
  omega

theorem lagNode_iff (t : Fin 8) (i : Fin 64) (j : Fin 1024) :
    ind (F := Ideal) (cmpi .eq lagNode (broadcast S64x1024 (BitVec.ofNat 32 t.val))) (ix2 i j)
      = if j.val % 64 = i.val + t.val then 1 else 0 := by
  pointwise [lagNode, ind_apply, modW_apply]
  rw [mod64' _ (by omega), if_congr (lag_iff _ _ _ (by omega) (by omega) (by omega)) rfl rfl]

theorem lagPos_iff (t : Fin 8) (i : Fin 512) (j : Fin 256) :
    ind (F := Ideal) (cmpi .eq lagPos (broadcast S512x256 (BitVec.ofNat 32 t.val))) (ix2 i j)
      = if j.val % 16 = i.val % 16 + t.val then 1 else 0 := by
  pointwise [lagPos, ind_apply, modW_apply]
  rw [mod16' _ (by omega), mod16' _ (by omega), if_congr (lag_iff _ _ _ (by omega) (by omega) (by omega)) rfl rfl]

theorem edge_iff (a m t : ℕ) (ha : a < 4096) (hb : m < 4096) (ht : t < 4096) :
    IntOp.cmpi .eq (BitVec.ofNat 32 a) (IntOp.addi (IntOp.subi (BitVec.ofNat 32 m) 8#32) (BitVec.ofNat 32 t)) = 1#1
      ↔ a + 8 = m + t := by
  rw [cmp_eq, ← BitVec.toNat_inj]
  simp only [IntOp.subi, IntOp.addi, BitVec.toNat_add, BitVec.toNat_sub, BitVec.toNat_ofNat]
  omega

theorem ge_iff (w k : ℕ) (hw : w < 4096) (hk : k < 4096) :
    IntOp.cmpi .sge (BitVec.ofNat 32 w) (BitVec.ofNat 32 k) = 1#1 ↔ k ≤ w := by
  have e : ∀ n : ℕ, n < 4096 → (BitVec.ofNat 32 n).toInt = n := fun n h => by
    rw [BitVec.toInt_eq_toNat_of_lt (by simp only [BitVec.toNat_ofNat]; omega), BitVec.toNat_ofNat]; omega
  simp [IntOp.cmpi, ofBool_one, BitVec.sle, e w hw, e k hk]

theorem lt_iff (w k : ℕ) (hw : w < 4096) (hk : k < 4096) :
    IntOp.cmpi .slt (BitVec.ofNat 32 w) (BitVec.ofNat 32 k) = 1#1 ↔ w < k := by
  have e : ∀ n : ℕ, n < 4096 → (BitVec.ofNat 32 n).toInt = n := fun n h => by
    rw [BitVec.toInt_eq_toNat_of_lt (by simp only [BitVec.toNat_ofNat]; omega), BitVec.toNat_ofNat]; omega
  simp [IntOp.cmpi, ofBool_one, BitVec.slt, e w hw, e k hk]

theorem and_iff (a b : BitVec 1) : IntOp.andi a b = 1#1 ↔ a = 1#1 ∧ b = 1#1 := by
  revert a b; decide

end Cert.KernelIdeal.Taps
-- ==== Proof.Conv.lean ====
/- Three dilated convolutions over the reals, and their composition as eight taps and a bias.

   A signal is a vector of channels at every time.  `delay k` shifts it by `k` and puts zeros in front, so that a layer of
   dilation `k` is one matrix on the signal, another on the delayed signal, and a bias. -/
module

public import Mathlib.Data.Matrix.Mul
public import Mathlib.Data.Real.Basic
public import Mathlib.Tactic.Module
public import Mathlib.Tactic.Abel
public import Mathlib.Algebra.BigOperators.Fin

@[expose] public section

noncomputable section

namespace Cert.Value

open Matrix

/-- The signal `k` steps earlier, zero before the start. -/
def delay {n : ℕ} (k : ℕ) (x : ℕ → Fin n → ℝ) (w : ℕ) : Fin n → ℝ := if k ≤ w then x (w - k) else 0

/-- A layer of dilation `k`: `W 0` acts on the present, `W 1` on the past. -/
def layer {n o : ℕ} (k : ℕ) (W : Fin 2 → Matrix (Fin o) (Fin n) ℝ) (b : Fin o → ℝ) (x : ℕ → Fin n → ℝ) (w : ℕ) : Fin o → ℝ :=
  W 1 *ᵥ delay k x w + W 0 *ᵥ x w + b

/-- The three layers of a branch. -/
def branch {n o p q : ℕ} (W : Fin 2 → Matrix (Fin o) (Fin n) ℝ) (V : Fin 2 → Matrix (Fin p) (Fin o) ℝ)
    (U : Fin 2 → Matrix (Fin q) (Fin p) ℝ) (b0 : Fin o → ℝ) (b1 : Fin p → ℝ) (b2 : Fin q → ℝ) (x : ℕ → Fin n → ℝ) :
    ℕ → Fin q → ℝ :=
  layer 4 U b2 (layer 2 V b1 (layer 1 W b0 x))

theorem delay_add {n : ℕ} (k : ℕ) (x y : ℕ → Fin n → ℝ) (w : ℕ) : delay k (fun w => x w + y w) w = delay k x w + delay k y w := by
  unfold delay; split <;> simp

theorem delay_mul {n o : ℕ} (k : ℕ) (W : Matrix (Fin o) (Fin n) ℝ) (x : ℕ → Fin n → ℝ) (w : ℕ) :
    delay k (fun w => W *ᵥ x w) w = W *ᵥ delay k x w := by
  unfold delay; split <;> simp

theorem delay_delay {n : ℕ} (k l : ℕ) (x : ℕ → Fin n → ℝ) (w : ℕ) : delay k (delay l x) w = delay (k + l) x w := by
  unfold delay
  by_cases h : k ≤ w
  · by_cases h' : l ≤ w - k
    · rw [if_pos h, if_pos h', if_pos (by omega), Nat.sub_sub]
    · rw [if_pos h, if_neg h', if_neg (by omega)]
  · rw [if_neg h, if_neg (by omega)]

theorem delay_zero {n : ℕ} (x : ℕ → Fin n → ℝ) (w : ℕ) : delay 0 x w = x w := by simp [delay]

/-- A delayed layer is the layer's matrices on further delayed signals. -/
theorem delay_layer {n o : ℕ} (m k : ℕ) (W : Fin 2 → Matrix (Fin o) (Fin n) ℝ) (b : Fin o → ℝ) (x : ℕ → Fin n → ℝ) (w : ℕ) :
    delay m (layer k W b x) w = W 1 *ᵥ delay (m + k) x w + W 0 *ᵥ delay m x w + delay m (fun _ => b) w := by
  have h : layer k W b x = fun w => (fun w => (fun w => W 1 *ᵥ delay k x w) w + (fun w => W 0 *ᵥ x w) w) w + (fun _ => b) w := rfl
  rw [h, delay_add, delay_add, delay_mul, delay_mul, delay_delay]

/-- Tap `t` of the composition. -/
def tapMat {n o p q : ℕ} (W : Fin 2 → Matrix (Fin o) (Fin n) ℝ) (V : Fin 2 → Matrix (Fin p) (Fin o) ℝ)
    (U : Fin 2 → Matrix (Fin q) (Fin p) ℝ) (a b c : Fin 2) : Matrix (Fin q) (Fin n) ℝ := U a * (V b * W c)

/-- The bias that has arrived by time `w`. -/
def biasAt {o p q : ℕ} (V : Fin 2 → Matrix (Fin p) (Fin o) ℝ) (U : Fin 2 → Matrix (Fin q) (Fin p) ℝ)
    (b0 : Fin o → ℝ) (b1 : Fin p → ℝ) (b2 : Fin q → ℝ) (w : ℕ) : Fin q → ℝ :=
  b2 + delay 0 (fun _ => (U 0 * V 0) *ᵥ b0) w + delay 2 (fun _ => (U 0 * V 1) *ᵥ b0) w + delay 0 (fun _ => U 0 *ᵥ b1) w
    + delay 4 (fun _ => (U 1 * V 0) *ᵥ b0) w + delay 6 (fun _ => (U 1 * V 1) *ᵥ b0) w + delay 4 (fun _ => U 1 *ᵥ b1) w

/-- The composition is eight taps on delayed signals and the bias. -/
theorem branch_eq {n o p q : ℕ} (W : Fin 2 → Matrix (Fin o) (Fin n) ℝ) (V : Fin 2 → Matrix (Fin p) (Fin o) ℝ)
    (U : Fin 2 → Matrix (Fin q) (Fin p) ℝ) (b0 : Fin o → ℝ) (b1 : Fin p → ℝ) (b2 : Fin q → ℝ) (x : ℕ → Fin n → ℝ) (w : ℕ) :
    branch W V U b0 b1 b2 x w = biasAt V U b0 b1 b2 w
      + (tapMat W V U 0 0 0 *ᵥ delay 0 x w + tapMat W V U 0 0 1 *ᵥ delay 1 x w + tapMat W V U 0 1 0 *ᵥ delay 2 x w
        + tapMat W V U 0 1 1 *ᵥ delay 3 x w + tapMat W V U 1 0 0 *ᵥ delay 4 x w + tapMat W V U 1 0 1 *ᵥ delay 5 x w
        + tapMat W V U 1 1 0 *ᵥ delay 6 x w + tapMat W V U 1 1 1 *ᵥ delay 7 x w) := by
  have e : branch W V U b0 b1 b2 x w = delay 0 (branch W V U b0 b1 b2 x) w := (delay_zero _ _).symm
  rw [e]
  unfold branch
  simp only [delay_layer, Nat.zero_add, Nat.reduceAdd, mulVec_add, mulVec_mulVec, biasAt, tapMat, ← delay_mul _ _ (fun _ => _)]
  simp only [delay_zero, Nat.add_zero]
  abel

end Cert.Value
-- ==== Proof.Branch.lean ====
/- A branch on the signal that a node sees, as sums over banded matrices.

   A node's signal is its own series, scaled into the channels, followed by the positional channels.  The eight taps on it
   give a sum over the series against a band, a bias while the series lasts, and a sum over the positional channels. -/
module

public import proofs.«01_k».proof.Proof.Conv
public import Mathlib.Tactic.Ring
public import Mathlib.Tactic.Linarith

@[expose] public section

noncomputable section

namespace Cert.Value

open Matrix

section
variable {o p q : ℕ} (W : Fin 2 → Matrix (Fin o) (Fin 32) ℝ) (V : Fin 2 → Matrix (Fin p) (Fin o) ℝ)
  (U : Fin 2 → Matrix (Fin q) (Fin p) ℝ) (b0 : Fin o → ℝ) (b1 : Fin p → ℝ) (b2 : Fin q → ℝ)

/-- Tap number `t`, its bits telling which tap of each layer. -/
def tapAt (t : Fin 8) : Matrix (Fin q) (Fin 32) ℝ :=
  tapMat W V U ⟨t.val / 4, by omega⟩ ⟨t.val % 4 / 2, by omega⟩ ⟨t.val % 2, by omega⟩

theorem branch_sum (x : ℕ → Fin 32 → ℝ) (w : ℕ) :
    branch W V U b0 b1 b2 x w = biasAt V U b0 b1 b2 w + ∑ t : Fin 8, tapAt W V U t *ᵥ delay t.val x w := by
  rw [branch_eq, Fin.sum_univ_eight]; rfl

/-- The series after its end is zero. -/
def ext (s : Fin 64 → ℝ) (w : ℕ) : ℝ := if h : w < 64 then s ⟨w, h⟩ else 0

/-- The positional channels, placed after the series. -/
def extP (P : Fin 32 → Fin 16 → ℝ) (w : ℕ) (i : Fin 32) : ℝ := if h : 64 ≤ w ∧ w < 80 then P i ⟨w - 64, by omega⟩ else 0

/-- What a node sees at time `w`. -/
def seen (s : Fin 64 → ℝ) (P : Fin 32 → Fin 16 → ℝ) (ws wb : Fin 32 → ℝ) (w : ℕ) : Fin 32 → ℝ :=
  fun i => ext s w * ws i + (if w < 64 then wb i else 0) + extP P w i

/-- One tap on what a node sees. -/
theorem tap_seen (A : Matrix (Fin q) (Fin 32) ℝ) (s : Fin 64 → ℝ) (P : Fin 32 → Fin 16 → ℝ) (ws wb : Fin 32 → ℝ) (t w : ℕ)
    (k : Fin q) :
    (A *ᵥ delay t (seen s P ws wb) w) k
      = (if t ≤ w then ext s (w - t) else 0) * (A *ᵥ ws) k + (if t ≤ w ∧ w < 64 + t then (A *ᵥ wb) k else 0)
        + ∑ i, A k i * (if t ≤ w then extP P (w - t) i else 0) := by
  have d : delay t (seen s P ws wb) w = fun i => (if t ≤ w then ext s (w - t) else 0) * ws i
      + (if t ≤ w ∧ w < 64 + t then wb i else 0) + (if t ≤ w then extP P (w - t) i else 0) := by
    funext i
    by_cases h : t ≤ w
    · have e : (w - t < 64) ↔ (w < 64 + t) := by omega
      simp [delay, h, seen, e]
    · simp [delay, h]
  have i2 : (if t ≤ w ∧ w < 64 + t then (A *ᵥ wb) k else 0) = ∑ i, A k i * (if t ≤ w ∧ w < 64 + t then wb i else 0) := by
    split <;> simp [mulVec, dotProduct]
  rw [d, i2]
  simp only [mulVec, dotProduct, Finset.mul_sum, ← Finset.sum_add_distrib]
  exact Finset.sum_congr rfl fun i _ => by ring

/-- A band's row picks one time of the series. -/
theorem band_row (s : Fin 64 → ℝ) (t w : ℕ) (hw : w < 64) :
    ∑ k : Fin 64, s k * (if w = k.val + t then 1 else 0) = if t ≤ w then ext s (w - t) else 0 := by
  by_cases h : t ≤ w
  · rw [if_pos h, Finset.sum_eq_single ⟨w - t, by omega⟩]
    · rw [if_pos (by simp only; omega), ext, dif_pos (by omega), mul_one]
    · intro b _ hb
      rw [if_neg fun e => hb (Fin.ext (by simp only; omega)), mul_zero]
    · intro h; exact absurd (Finset.mem_univ _) h
  · rw [if_neg h]
    exact Finset.sum_eq_zero fun k _ => by rw [if_neg (by omega), mul_zero]

/-- The last eight times of the series, against the edge's row. -/
theorem edge_row (s : Fin 64 → ℝ) (t u : ℕ) (ht : 1 ≤ t) (ht' : t < 8) :
    ∑ m : Fin 8, s ⟨56 + m.val, by omega⟩ * (if u + 8 = m.val + t then 1 else 0)
      = if t ≤ 64 + u then ext s (64 + u - t) else 0 := by
  rw [if_pos (by omega)]
  by_cases h : u < t
  · rw [Finset.sum_eq_single ⟨u + 8 - t, by omega⟩]
    · rw [if_pos (by simp only; omega), ext, dif_pos (by omega), mul_one]
      congr 2; simp only; omega
    · intro b _ hb
      rw [if_neg fun e => hb (Fin.ext (by simp only; omega)), mul_zero]
    · intro h; exact absurd (Finset.mem_univ _) h
  · rw [ext, dif_neg (by omega)]
    exact Finset.sum_eq_zero fun k _ => by rw [if_neg (by omega), mul_zero]

/-- A positional band's row picks one time of one channel. -/
theorem pos_row (P : Fin 16 → ℝ) (t u : ℕ) (hu : u < 16) :
    ∑ v : Fin 16, P v * (if u = v.val + t then 1 else 0) = if h : t ≤ u then P ⟨u - t, by omega⟩ else 0 := by
  by_cases h : t ≤ u
  · rw [dif_pos h, Finset.sum_eq_single ⟨u - t, by omega⟩]
    · rw [if_pos (by simp only; omega), mul_one]
    · intro b _ hb
      rw [if_neg fun e => hb (Fin.ext (by simp only; omega)), mul_zero]
    · intro h; exact absurd (Finset.mem_univ _) h
  · rw [dif_neg h]
    exact Finset.sum_eq_zero fun k _ => by rw [if_neg (by omega), mul_zero]

/-- The bias of a band: what has arrived of the biases, and the taps on the features' bias. -/
def bandBias (wb : Fin 32 → ℝ) (w : ℕ) (k : Fin q) : ℝ :=
  biasAt V U b0 b1 b2 w k + ∑ t : Fin 8, (tapAt W V U t *ᵥ wb) k * (if t.val ≤ w ∧ w < 64 + t.val then 1 else 0)

/-- Over the series, a branch is the series against the band, and the bias. -/
theorem node_branch (s : Fin 64 → ℝ) (P : Fin 32 → Fin 16 → ℝ) (ws wb : Fin 32 → ℝ) (w : ℕ) (hw : w < 64) (k : Fin q) :
    branch W V U b0 b1 b2 (seen s P ws wb) w k
      = ∑ m : Fin 64, s m * (∑ t : Fin 8, (if w = m.val + t.val then 1 else 0) * (tapAt W V U t *ᵥ ws) k)
        + bandBias W V U b0 b1 b2 wb w k := by
  have e : ∑ m : Fin 64, s m * (∑ t : Fin 8, (if w = m.val + t.val then 1 else 0) * (tapAt W V U t *ᵥ ws) k)
      = ∑ t : Fin 8, (if t.val ≤ w then ext s (w - t.val) else 0) * (tapAt W V U t *ᵥ ws) k := by
    simp only [Finset.mul_sum, ← band_row s _ w hw, Finset.sum_mul]
    rw [Finset.sum_comm]
    exact Finset.sum_congr rfl fun t _ => Finset.sum_congr rfl fun m _ => by ring
  rw [e, branch_sum, Pi.add_apply, Finset.sum_apply, bandBias, ← add_assoc, add_comm (∑ t : Fin 8, _ * _) (biasAt _ _ _ _ _ _ _),
    add_assoc, ← Finset.sum_add_distrib]
  refine congrArg _ (Finset.sum_congr rfl fun t _ => ?_)
  rw [tap_seen]
  have z : ∀ i, (if t.val ≤ w then extP P (w - t.val) i else 0) = 0 := fun i => by
    split
    · rw [extP, dif_neg (by omega)]
    · rfl
  simp only [z, mul_zero, Finset.sum_const_zero, add_zero]
  split <;> simp

/-- After the series, a branch is the positional channels against their band, the series' last times against the edge, and
    the bias. -/
theorem pos_branch (s : Fin 64 → ℝ) (P : Fin 32 → Fin 16 → ℝ) (ws wb : Fin 32 → ℝ) (u : ℕ) (hu : u < 16) (k : Fin q) :
    branch W V U b0 b1 b2 (seen s P ws wb) (64 + u) k
      = ∑ i : Fin 32, ∑ v : Fin 16, P i v * (∑ t : Fin 8, (if u = v.val + t.val then 1 else 0) * tapAt W V U t k i)
        + ∑ m : Fin 8, s ⟨56 + m.val, by omega⟩ * (∑ t : Fin 7, (if u + 8 = m.val + (t.val + 1) then 1 else 0)
            * (tapAt W V U t.succ *ᵥ ws) k)
        + bandBias W V U b0 b1 b2 wb (64 + u) k := by
  have e1 : ∑ i : Fin 32, ∑ v : Fin 16, P i v * (∑ t : Fin 8, (if u = v.val + t.val then 1 else 0) * tapAt W V U t k i)
      = ∑ t : Fin 8, ∑ i, tapAt W V U t k i * (if t.val ≤ 64 + u then extP P (64 + u - t.val) i else 0) := by
    rw [Finset.sum_comm (s := (Finset.univ : Finset (Fin 8)))]
    refine Finset.sum_congr rfl fun i _ => ?_
    simp only [Finset.mul_sum]
    rw [Finset.sum_comm]
    refine Finset.sum_congr rfl fun t _ => ?_
    have r := pos_row (P i) t.val u hu
    have x : (if t.val ≤ 64 + u then extP P (64 + u - t.val) i else 0) = if h : t.val ≤ u then P i ⟨u - t.val, by omega⟩ else 0 := by
      rw [if_pos (by omega), extP]
      by_cases h : t.val ≤ u
      · rw [dif_pos h, dif_pos (by omega)]
        congr 2; omega
      · rw [dif_neg h, dif_neg (by omega)]
    rw [x, ← r, Finset.mul_sum]
    exact Finset.sum_congr rfl fun v _ => by ring
  have e2 : ∑ m : Fin 8, s ⟨56 + m.val, by omega⟩ * (∑ t : Fin 7, (if u + 8 = m.val + (t.val + 1) then 1 else 0)
        * (tapAt W V U t.succ *ᵥ ws) k)
      = ∑ t : Fin 8, (if t.val ≤ 64 + u then ext s (64 + u - t.val) else 0) * (tapAt W V U t *ᵥ ws) k := by
    rw [Fin.sum_univ_succ (fun t : Fin 8 => (if t.val ≤ 64 + u then ext s (64 + u - t.val) else 0) * (tapAt W V U t *ᵥ ws) k)]
    have z : (if ((0 : Fin 8)).val ≤ 64 + u then ext s (64 + u - ((0 : Fin 8)).val) else 0) = 0 := by
      simp [ext]
    rw [z, zero_mul, zero_add]
    simp only [Finset.mul_sum, Fin.val_succ]
    rw [Finset.sum_comm]
    refine Finset.sum_congr rfl fun t _ => ?_
    rw [← edge_row s (t.val + 1) u (by omega) (by omega), Finset.sum_mul]
    exact Finset.sum_congr rfl fun m _ => by ring
  rw [e1, e2, branch_sum, Pi.add_apply, Finset.sum_apply, bandBias]
  have a : ∀ t : Fin 8, (tapAt W V U t *ᵥ delay t.val (seen s P ws wb) (64 + u)) k
      = (∑ i, tapAt W V U t k i * (if t.val ≤ 64 + u then extP P (64 + u - t.val) i else 0))
        + (if t.val ≤ 64 + u then ext s (64 + u - t.val) else 0) * (tapAt W V U t *ᵥ ws) k
        + (tapAt W V U t *ᵥ wb) k * (if t.val ≤ 64 + u ∧ 64 + u < 64 + t.val then 1 else 0) := fun t => by
    rw [tap_seen, mul_ite, mul_one, mul_zero]; ring
  simp only [a, Finset.sum_add_distrib]
  ring

end

end Cert.Value
-- ==== Proof.Bands.lean ====
/- The banded matrices and the biases of the first launch, read at an entry, over real weights.

   A layer's flattened weights hold tap `c` of input channel `i` at column `2 i + c`; tap one acts on the present and tap
   zero on the past. -/
module

public import proofs.«01_k».proof.Proof.Indicators
public import proofs.«01_k».proof.Proof.Branch

@[expose] public section

set_option maxRecDepth 16384

noncomputable section

namespace Cert.KernelIdeal.Taps

open Idealize.ShloMosaic Idealize.ShloMosaic.TcCoe
open Cert.KernelIdeal Cert.KernelIdeal.Gen Cert.Value Matrix

/-! ## Reals among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_mat {m n p : ℕ} (A : Matrix (Fin m) (Fin n) ℝ) (B : Matrix (Fin n) (Fin p) ℝ) (i : Fin m) (j : Fin p) :
    (((A * B) i j : ℝ) : EReal) = ∑ k, (A i k : EReal) * (B k j : EReal) := by
  rw [Matrix.mul_apply, coe_sum]; simp only [EReal.coe_mul]

theorem coe_vec {m n : ℕ} (A : Matrix (Fin m) (Fin n) ℝ) (v : Fin n → ℝ) (i : Fin m) :
    (((A *ᵥ v) i : ℝ) : EReal) = ∑ k, (A i k : EReal) * (v k : EReal) := by
  rw [Matrix.mulVec, dotProduct, coe_sum]; simp only [EReal.coe_mul]

theorem coe_ind (P : Prop) [Decidable P] : (if P then (1 : EReal) else 0) = ((if P then 1 else 0 : ℝ) : EReal) := by
  split <;> simp

/-- Eight terms on top of a start are the start and their sum. -/
theorem sum8_apply {s : Shape} (z : FVec Ideal s .f32) (f : Fin 8 → FVec Ideal s .f32) (i : s.Idx) :
    sum8 z f i = z i + ∑ t, f t i := by
  rw [Fin.sum_univ_eight]
  simp only [← add_assoc]
  rfl

theorem zero_word {s : Shape} (i : s.Idx) : (broadcast s (Scalar.ofBits .f32 0x00000000#32) : FVec Ideal s .f32) i = 0 := by
  pointwise

/-! ## The layers -/

/-- A layer's matrix out of its flattened weights: tap `1 - a` of every input channel. -/
def layMat {n : ℕ} (R : Fin 16 → Fin (2 * n) → ℝ) (a : Fin 2) : Matrix (Fin 16) (Fin n) ℝ :=
  fun o i => R o ⟨2 * i.val + (1 - a.val), by omega⟩

theorem lay0_apply (w : FVec Ideal S16x64 .f32) (c : ℕ) (hc : c < 2) (o : Fin 16) (i : Fin 32) :
    lay0 w (BitVec.ofNat 32 c) (ix2 o i) = w (ix2 o ⟨2 * i.val + c, by omega⟩) := by
  pointwise [lay0]
  simp only [pick64_apply c hc]
  exact sum_pick (fun x => w (ix2 o x)) _ _ _ fun x => Iff.rfl

theorem lay_apply (w : FVec Ideal S16x32 .f32) (c : ℕ) (hc : c < 2) (o : Fin 16) (i : Fin 16) :
    lay w (BitVec.ofNat 32 c) (ix2 o i) = w (ix2 o ⟨2 * i.val + c, by omega⟩) := by
  pointwise [lay]
  simp only [pick32_apply c hc]
  exact sum_pick (fun x => w (ix2 o x)) _ _ _ fun x => Iff.rfl

section
variable {w0 : FVec Ideal S16x64 .f32} {w1 w2 : FVec Ideal S16x32 .f32} {b0 b1 b2 : FVec Ideal S16x1 .f32}
  {ws wb : FVec Ideal S32x1 .f32} {R0 : Fin 16 → Fin (2 * 32) → ℝ} {R1 R2 : Fin 16 → Fin (2 * 16) → ℝ}
  {c0 c1 c2 : Fin 16 → ℝ} {vs vb : Fin 32 → ℝ}
  (h0 : ∀ o k, w0 (ix2 o k) = (R0 o k : EReal)) (h1 : ∀ o k, w1 (ix2 o k) = (R1 o k : EReal))
  (h2 : ∀ o k, w2 (ix2 o k) = (R2 o k : EReal))
  (k0 : ∀ o, b0 (ix2 o 0) = (c0 o : EReal)) (k1 : ∀ o, b1 (ix2 o 0) = (c1 o : EReal)) (k2 : ∀ o, b2 (ix2 o 0) = (c2 o : EReal))
  (hs : ∀ i, ws (ix2 i 0) = (vs i : EReal)) (hb : ∀ i, wb (ix2 i 0) = (vb i : EReal))

include h0 in
theorem lay0_real (a : Fin 2) (o : Fin 16) (i : Fin 32) :
    lay0 w0 (BitVec.ofNat 32 (1 - a.val)) (ix2 o i) = (layMat R0 a o i : EReal) := by
  rw [lay0_apply w0 _ (by omega), h0]; rfl

include h1 in
theorem lay_real (a : Fin 2) (o : Fin 16) (i : Fin 16) :
    lay w1 (BitVec.ofNat 32 (1 - a.val)) (ix2 o i) = (layMat R1 a o i : EReal) := by
  rw [lay_apply w1 _ (by omega), h1]; rfl

include h0 h1 h2 in
/-- The composed taps. -/
theorem tap_real (t : Fin 8) (o : Fin 16) (i : Fin 32) :
    tap (taps w0 w1 w2) t (ix2 o i) = (tapAt (layMat R0) (layMat R1) (layMat R2) t o i : EReal) := by
  have e0 := lay0_real h0
  have e1 := lay_real h1
  have e2 := lay_real h2
  have a0 := e0 0; have a1 := e0 1; have a2 := e1 0; have a3 := e1 1; have a4 := e2 0; have a5 := e2 1
  simp only [Fin.val_zero, Fin.val_one, Nat.sub_zero, Nat.sub_self] at a0 a1 a2 a3 a4 a5
  have e : ∀ h, (⟨96 + i.val - 64 - 32, h⟩ : Fin 32) = i := fun h => Fin.ext (by simp only; omega)
  fin_cases t <;>
  · pointwise [tap, taps, lay2s]
    simp only [tapAt, tapMat, coe_mat]
    simp [a0, a1, a2, a3, a4, a5, o.isLt, i.isLt]
    try first
      | (intro h; omega)
      | (rw [dif_neg (by omega), dif_neg (by omega)]; simp only [e])

include h0 h1 h2 hs in
theorem tapRow_real (t : Fin 8) (o : Fin 16) :
    tapRow (taps w0 w1 w2) ws t (ix2 0 o) = ((tapAt (layMat R0) (layMat R1) (layMat R2) t *ᵥ vs) o : EReal) := by
  pointwise [tapRow]
  rw [coe_vec]
  exact Finset.sum_congr rfl fun i _ => by rw [hs, tap_real h0 h1 h2, mul_comm]

include h0 h1 h2 hs in
/-- The node features' band. -/
theorem nodeBand_real (m : Fin 64) (j : Fin 1024) :
    nodeBand w0 w1 w2 ws (ix2 m j)
      = ((∑ t : Fin 8, (if j.val % 64 = m.val + t.val then 1 else 0)
          * (tapAt (layMat R0) (layMat R1) (layMat R2) t *ᵥ vs) ⟨j.val / 64, by omega⟩ : ℝ) : EReal) := by
  have e : ∀ t : Fin 8, nodeTerm (taps w0 w1 w2) ws t (ix2 m j) = (((if j.val % 64 = m.val + t.val then 1 else 0)
          * (tapAt (layMat R0) (layMat R1) (layMat R2) t *ᵥ vs) ⟨j.val / 64, by omega⟩ : ℝ) : EReal) := by
    intro t
    pointwise [nodeTerm]
    rw [lagNode_iff, coe_ind, EReal.coe_mul, ← tapRow_real h0 h1 h2 hs]
    congr 1
    simp only [spreadNode_apply]
    exact sum_pick (fun x => tapRow (taps w0 w1 w2) ws t (ix2 0 x)) _ _ _ fun x => Iff.rfl
  rw [coe_sum, nodeBand, sum8_apply, zero_word, zero_add]
  exact Finset.sum_congr rfl fun t _ => e t

include h0 h1 h2 in
/-- The positional features' band. -/
theorem posBand_real (k : Fin 512) (j : Fin 256) :
    posBand w0 w1 w2 (ix2 k j)
      = ((∑ t : Fin 8, (if j.val % 16 = k.val % 16 + t.val then 1 else 0)
          * tapAt (layMat R0) (layMat R1) (layMat R2) t ⟨j.val / 16, by omega⟩ ⟨k.val / 16, by omega⟩ : ℝ) : EReal) := by
  have e : ∀ t : Fin 8, posTerm (taps w0 w1 w2) t (ix2 k j) = (((if j.val % 16 = k.val % 16 + t.val then 1 else 0)
          * tapAt (layMat R0) (layMat R1) (layMat R2) t ⟨j.val / 16, by omega⟩ ⟨k.val / 16, by omega⟩ : ℝ) : EReal) := by
    intro t
    pointwise [posTerm]
    rw [lagPos_iff, coe_ind, EReal.coe_mul, ← tap_real h0 h1 h2]
    congr 1
    simp only [spreadPos_apply, spreadIn_apply]
    rw [sum_pick (fun x => ∑ y, (if y.val = k.val / 16 then 1 else 0) * tap (taps w0 w1 w2) t (ix2 x y)) (j.val / 16) (by omega) _
      fun x => Iff.rfl]
    exact sum_pick' (fun y => tap (taps w0 w1 w2) t (ix2 ⟨j.val / 16, by omega⟩ y)) (k.val / 16) (by omega) _ fun x => Iff.rfl
  rw [coe_sum, posBand, sum8_apply, zero_word, zero_add]
  exact Finset.sum_congr rfl fun t _ => e t

include h0 h1 h2 hs in
/-- The edge's rows. -/
theorem posEdge_real (m : Fin 8) (j : Fin 256) :
    posEdge w0 w1 w2 ws (ix2 m j)
      = ((∑ t : Fin 7, (if j.val % 16 + 8 = m.val + (t.val + 1) then 1 else 0)
          * (tapAt (layMat R0) (layMat R1) (layMat R2) t.succ *ᵥ vs) ⟨j.val / 16, by omega⟩ : ℝ) : EReal) := by
  have e : ∀ t : Fin 8, edgeTerm (taps w0 w1 w2) ws t (ix2 m j) = (((if j.val % 16 + 8 = m.val + t.val then 1 else 0)
          * (tapAt (layMat R0) (layMat R1) (layMat R2) t *ᵥ vs) ⟨j.val / 16, by omega⟩ : ℝ) : EReal) := by
    intro t
    pointwise [edgeTerm, ind_apply, modW_apply]
    rw [mod16' _ (by omega), if_congr (edge_iff _ _ _ (by omega) (by omega) (by omega)) rfl rfl, coe_ind, EReal.coe_mul,
      ← tapRow_real h0 h1 h2 hs]
    congr 1
    simp only [spreadPos_apply]
    exact sum_pick (fun x => tapRow (taps w0 w1 w2) ws t (ix2 0 x)) _ _ _ fun x => Iff.rfl
  rw [coe_sum, Fin.sum_univ_seven, posEdge]
  refine Eq.trans (b := (0 : EReal) + edgeTerm (taps w0 w1 w2) ws 1 (ix2 m j) + edgeTerm (taps w0 w1 w2) ws 2 (ix2 m j)
    + edgeTerm (taps w0 w1 w2) ws 3 (ix2 m j) + edgeTerm (taps w0 w1 w2) ws 4 (ix2 m j) + edgeTerm (taps w0 w1 w2) ws 5 (ix2 m j)
    + edgeTerm (taps w0 w1 w2) ws 6 (ix2 m j) + edgeTerm (taps w0 w1 w2) ws 7 (ix2 m j)) ?_ ?_
  · rw [← zero_word (ix2 m j)]; rfl
  · rw [zero_add]; simp only [e]; rfl

theorem coe_delay {n : ℕ} (k w : ℕ) (v : Fin n → ℝ) (o : Fin n) :
    ((delay k (fun _ => v) w o : ℝ) : EReal) = (v o : EReal) * (if k ≤ w then 1 else 0) := by
  unfold delay; split <;> simp

/-- A bias that arrives `k` steps late. -/
theorem late_real {L : FVec Ideal S16x16 .f32} {b : FVec Ideal S16x1 .f32} {M : Matrix (Fin 16) (Fin 16) ℝ} {c : Fin 16 → ℝ}
    (hL : ∀ o p, L (ix2 o p) = (M o p : EReal)) (hb : ∀ o, b (ix2 o 0) = (c o : EReal)) (k : ℕ) (hk : k < 4096)
    (o : Fin 16) (w : Fin 80) :
    late L b (BitVec.ofNat 32 k) (ix2 o w) = (delay k (fun _ => M *ᵥ c) w.val o : EReal) := by
  rw [coe_delay, coe_vec]
  pointwise [late, outer, ind_apply, times]
  rw [if_congr (ge_iff _ _ (by omega) hk) rfl rfl]
  simp only [hL, hb]

include h0 h1 h2 hb in
theorem tapBias_real (t : Fin 8) (o : Fin 16) (w : Fin 80) :
    tapBias (taps w0 w1 w2) wb t (ix2 o w)
      = (((tapAt (layMat R0) (layMat R1) (layMat R2) t *ᵥ vb) o * (if t.val ≤ w.val ∧ w.val < 64 + t.val then 1 else 0) : ℝ) : EReal) := by
  rw [EReal.coe_mul, coe_vec, ← coe_ind]
  pointwise [tapBias, outer, ind_apply, times]
  rw [if_congr ((and_iff _ _).trans (and_congr (ge_iff _ _ (by omega) (by omega)) (lt_iff _ _ (by omega) (by omega)))) rfl rfl]
  simp only [hb, tap_real h0 h1 h2]

include h0 h1 h2 k0 k1 k2 hb in
/-- The bias of a band. -/
theorem biasRow_real (o : Fin 16) (w : Fin 80) :
    biasRow w0 w1 w2 b0 b1 b2 wb (ix2 o w)
      = (bandBias (layMat R0) (layMat R1) (layMat R2) c0 c1 c2 vb w.val o : EReal) := by
  have e1 := lay_real h1
  have e2 := lay_real h2
  have a2 := e1 0; have a3 := e1 1; have a4 := e2 0; have a5 := e2 1
  simp only [Fin.val_zero, Fin.val_one, Nat.sub_zero, Nat.sub_self] at a2 a3 a4 a5
  have hL : ∀ (L : FVec Ideal S32x32 .f32), L = matmul dot_S32x16_S16x32_S32x32_1_0_0_1_n_n none (lay2s w2)
      (concatenate S16x32 1 [⟨S16x16, lay w1 1#32⟩, ⟨S16x16, lay w1 0#32⟩] concatenates_S16x16_S16x16_S16x32_d1)
      (constant S32x32 .f32 0x00000000#32) →
      (∀ o p, extractStridedSlice S16x16 ![0, 0] L slices_S32x32_o0_0_S16x16 (ix2 o p) = ((layMat R2 0 * layMat R1 0) o p : EReal))
      ∧ (∀ o p, extractStridedSlice S16x16 ![0, 16] L slices_S32x32_o0_16_S16x16 (ix2 o p) = ((layMat R2 0 * layMat R1 1) o p : EReal))
      ∧ (∀ o p, extractStridedSlice S16x16 ![16, 0] L slices_S32x32_o16_0_S16x16 (ix2 o p) = ((layMat R2 1 * layMat R1 0) o p : EReal))
      ∧ (∀ o p, extractStridedSlice S16x16 ![16, 16] L slices_S32x32_o16_16_S16x16 (ix2 o p) = ((layMat R2 1 * layMat R1 1) o p : EReal)) := by
    rintro L rfl
    refine ⟨fun o p => ?_, fun o p => ?_, fun o p => ?_, fun o p => ?_⟩ <;>
    · pointwise [lay2s]
      simp [a2, a3, a4, a5, coe_mat, o.isLt, p.isLt]
  obtain ⟨q0, q1, q2, q3⟩ := hL _ rfl
  have t := tapBias_real h0 h1 h2 hb
  have l : outer (shapeCast S16x1 b2 shapeCasts_S16x1_S16x1) (broadcast S1x80 (Scalar.ofBits .f32 0x3F800000#32)) (ix2 o w)
      = (c2 o : EReal) := by
    pointwise [outer]
    rw [k2]
  have g0 := late_real q0 k0 0 (by omega) o w
  have g1 := late_real q1 k0 2 (by omega) o w
  have g2 := late_real a4 k1 0 (by omega) o w
  have g3 := late_real q2 k0 4 (by omega) o w
  have g4 := late_real q3 k0 6 (by omega) o w
  have g5 := late_real a5 k1 4 (by omega) o w
  unfold biasRow
  rw [sum8_apply, bandBias, biasAt, EReal.coe_add, coe_sum]
  simp only [Pi.add_apply, EReal.coe_add, ← t, ← g0, ← g1, ← g2, ← g3, ← g4, ← g5, ← l]
  rfl

end

end Cert.KernelIdeal.Taps
-- ==== Proof.RefConv.lean ====
/- The reference's convolutions and gated unit, as plain functions of its arguments, and their values over real arguments.

   A layer of dilation `k` multiplies one matrix with the signal `k` steps earlier, another with the signal itself, and adds
   the bias.  Three layers make a branch. -/
module

public import proofs.«01_k».proof.ReferenceIdeal
public import proofs.«01_k».proof.Proof.Gen.ReferenceIdeal
public import proofs.«01_k».proof.Proof.Bands

@[expose] public section

set_option maxRecDepth 16384

noncomputable section

namespace Cert.ReferenceIdeal.Ref

open Idealize.ShloMosaic Idealize.ShloMosaic.TcCoe
open Cert.ReferenceIdeal Cert.ReferenceIdeal.Gen Cert.Value Matrix
open Cert.KernelIdeal.Taps (layMat coe_vec)

section
variable {F : FTy → Type} [FloatOps F]

/-- What every node sees: its scaled series, then the positional channels. -/
def signal (d : FVec F S16x63x64 .f32) (ws : FVec F S32x1 .f32) (wb : FVec F S32 .f32) (p : FVec F S16x32x62x16 .f32) :
    FVec F S16x32x62x80 .f32 :=
  concatenate S16x32x62x80 3 [⟨S16x32x62x64, (addf (mulf (broadcastInDim S16x32x62x64 ![0, 1, 2, 3] bcast_S16x1x62x64_S16x32x62x64_0_1_2_3 (broadcastInDim S16x1x62x64 ![0, 2, 3] bcast_S16x62x64_S16x1x62x64_0_2_3 (extractStridedSlice S16x62x64 ![0, 0, 0] d slices_S16x63x64_S16x62x64_0_0_0))) (broadcastInDim S16x32x62x64 ![0, 1, 2, 3] bcast_S1x32x1x1_S16x32x62x64_0_1_2_3 (broadcastInDim S1x32x1x1 ![1] bcast_S32_S1x32x1x1_1 (shapeCast _ ws shapeCasts_S32x1_S32)))) (broadcastInDim S16x32x62x64 ![0, 1, 2, 3] bcast_S1x32x1x1_S16x32x62x64_0_1_2_3 (broadcastInDim S1x32x1x1 ![1] bcast_S32_S1x32x1x1_1 wb)))⟩, ⟨S16x32x62x16, p⟩] concatenates_S16x32x62x64_S16x32x62x16_S16x32x62x80_d3

/-- A bias at every channel. -/
def bias (b : FVec F S16 .f32) : FVec F S16x16x62x80 .f32 :=
  broadcastInDim S16x16x62x80 ![0, 1, 2, 3] bcast_S1x16x1x1_S16x16x62x80_0_1_2_3 (broadcastInDim S1x16x1x1 ![1] bcast_S16_S1x16x1x1_1 b)

/-- The first layer's two taps on two signals. -/
def mix0 (past x : FVec F S16x32x62x80 .f32) (w : FVec F S16x32x1x2 .f32) : FVec F S16x16x62x80 .f32 :=
  addf (transpose S16x16x62x80 [1, 0, 2, 3] (Host.dotGeneral dot_S16x32_S16x32x62x80_S16x16x62x80_1_1_0_023_n_n none (shapeCast _ (extractStridedSlice S16x32x1x1 ![0, 0, 0, 0] w slices_S16x32x1x2_S16x32x1x1_0_0_0_0) shapeCasts_S16x32x1x1_S16x32) past) transposes_S16x16x62x80_S16x16x62x80_1_0_2_3)
    (transpose S16x16x62x80 [1, 0, 2, 3] (Host.dotGeneral dot_S16x32_S16x32x62x80_S16x16x62x80_1_1_0_023_n_n none (shapeCast _ (extractStridedSlice S16x32x1x1 ![0, 0, 0, 1] w slices_S16x32x1x2_S16x32x1x1_0_0_0_1) shapeCasts_S16x32x1x1_S16x32) x) transposes_S16x16x62x80_S16x16x62x80_1_0_2_3)

/-- A later layer's two taps on two signals. -/
def mix (past x : FVec F S16x16x62x80 .f32) (w : FVec F S16x16x1x2 .f32) : FVec F S16x16x62x80 .f32 :=
  addf (transpose S16x16x62x80 [1, 0, 2, 3] (Host.dotGeneral dot_S16x16_S16x16x62x80_S16x16x62x80_1_1_0_023_n_n none (shapeCast _ (extractStridedSlice S16x16x1x1 ![0, 0, 0, 0] w slices_S16x16x1x2_S16x16x1x1_0_0_0_0) shapeCasts_S16x16x1x1_S16x16) past) transposes_S16x16x62x80_S16x16x62x80_1_0_2_3)
    (transpose S16x16x62x80 [1, 0, 2, 3] (Host.dotGeneral dot_S16x16_S16x16x62x80_S16x16x62x80_1_1_0_023_n_n none (shapeCast _ (extractStridedSlice S16x16x1x1 ![0, 0, 0, 1] w slices_S16x16x1x2_S16x16x1x1_0_0_0_1) shapeCasts_S16x16x1x1_S16x16) x) transposes_S16x16x62x80_S16x16x62x80_1_0_2_3)

/-- The signal one step earlier. -/
def past1 (x : FVec F S16x32x62x80 .f32) : FVec F S16x32x62x80 .f32 :=
  extractStridedSlice S16x32x62x80 ![0, 0, 0, 0] (pad S16x32x62x81 ![0, 0, 0, 1] ![0, 0, 0, 0] ![0, 0, 0, 0] x (sitofp .f32 (constantI S_ 32 0#32)) pads_S16x32x62x80_S16x32x62x81_000_000_000_100 h_S_) slices_S16x32x62x81_S16x32x62x80_0_0_0_0

/-- The signal two steps earlier. -/
def past2 (x : FVec F S16x16x62x80 .f32) : FVec F S16x16x62x80 .f32 :=
  extractStridedSlice S16x16x62x80 ![0, 0, 0, 0] (pad S16x16x62x82 ![0, 0, 0, 2] ![0, 0, 0, 0] ![0, 0, 0, 0] x (sitofp .f32 (constantI S_ 32 0#32)) pads_S16x16x62x80_S16x16x62x82_000_000_000_200 h_S_) slices_S16x16x62x82_S16x16x62x80_0_0_0_0

/-- The signal four steps earlier. -/
def past4 (x : FVec F S16x16x62x80 .f32) : FVec F S16x16x62x80 .f32 :=
  extractStridedSlice S16x16x62x80 ![0, 0, 0, 0] (pad S16x16x62x84 ![0, 0, 0, 4] ![0, 0, 0, 0] ![0, 0, 0, 0] x (sitofp .f32 (constantI S_ 32 0#32)) pads_S16x16x62x80_S16x16x62x84_000_000_000_400 h_S_) slices_S16x16x62x84_S16x16x62x80_0_0_0_0

def conv1 (x : FVec F S16x32x62x80 .f32) (w : FVec F S16x32x1x2 .f32) (b : FVec F S16 .f32) : FVec F S16x16x62x80 .f32 :=
  addf (mix0 (past1 x) x w) (bias b)

def conv2 (x : FVec F S16x16x62x80 .f32) (w : FVec F S16x16x1x2 .f32) (b : FVec F S16 .f32) : FVec F S16x16x62x80 .f32 :=
  addf (mix (past2 x) x w) (bias b)

def conv4 (x : FVec F S16x16x62x80 .f32) (w : FVec F S16x16x1x2 .f32) (b : FVec F S16 .f32) : FVec F S16x16x62x80 .f32 :=
  addf (mix (past4 x) x w) (bias b)

/-- A branch. -/
def dcn (x : FVec F S16x32x62x80 .f32) (w0 : FVec F S16x32x1x2 .f32) (b0 : FVec F S16 .f32) (w1 : FVec F S16x16x1x2 .f32)
    (b1 : FVec F S16 .f32) (w2 : FVec F S16x16x1x2 .f32) (b2 : FVec F S16 .f32) : FVec F S16x16x62x80 .f32 :=
  conv4 (conv2 (conv1 x w0 b0) w1 b1) w2 b2

/-- The gated unit. -/
def glu (a g r : FVec F S16x16x62x80 .f32) : FVec F S16x16x62x80 .f32 :=
  maximumf (addf (mulf (Host.tanh a) (Host.divf (broadcastInDim S16x16x62x80 ![] bcast_S_S16x16x62x80 (constant S_ .f32 0x3F800000#32))
      (addf (broadcastInDim S16x16x62x80 ![] bcast_S_S16x16x62x80 (constant S_ .f32 0x3F800000#32)) (Host.exp (Host.negf g))))) r)
    (broadcastInDim S16x16x62x80 ![] bcast_S_S16x16x62x80 (constant S_ .f32 0x00000000#32))

end

/-! ## Values -/

/-- The gated unit on numbers. -/
def act (a g r : ℝ) : ℝ := max (Real.tanh a * (1 + Real.exp (-g))⁻¹ + r) 0

theorem glu_real {a g r : FVec Ideal S16x16x62x80 .f32} {x y z : ℝ} {i : S16x16x62x80.Idx} (ha : a i = (x : EReal)) (hg : g i = (y : EReal))
    (hr : r i = (z : EReal)) : glu a g r i = (act x y z : EReal) := by
  have one : (FloatOps.ofBits .f32 0x3F800000#32 : Ideal .f32) = ((1 : ℝ) : EReal) := Ideal.ofBits_one_f32
  have zero : (FloatOps.ofBits .f32 0x00000000#32 : Ideal .f32) = ((0 : ℝ) : EReal) := Ideal.ofBits_zero_f32
  show max (Ideal.tanh (a i) * Ideal.div (FloatOps.ofBits .f32 0x3F800000#32 : Ideal .f32)
    ((FloatOps.ofBits .f32 0x3F800000#32 : Ideal .f32) + Ideal.exp (-(g i))) + r i) (FloatOps.ofBits .f32 0x00000000#32 : Ideal .f32) = _
  have e : (1 + Real.exp (-y)) ≠ 0 := by positivity
  rw [one, zero, ha, hg, hr, ← EReal.coe_neg, Ideal.exp_coe, Ideal.tanh_coe, ← EReal.coe_add, Ideal.div_coe e, ← EReal.coe_mul, ← EReal.coe_mul,
    ← EReal.coe_add, ← EReal.coe_strictMono.monotone.map_max, act, one_mul, one_div]

section
variable (B : Fin 16) (n : Fin 62)

theorem signal_real {d : FVec Ideal S16x63x64 .f32} {ws : FVec Ideal S32x1 .f32} {wb : FVec Ideal S32 .f32}
    {p : FVec Ideal S16x32x62x16 .f32} {s : Fin 64 → ℝ} {P : Fin 32 → Fin 16 → ℝ} {vs vb : Fin 32 → ℝ}
    (hd : ∀ k, d (ix3 B ⟨n.val, by omega⟩ k) = (s k : EReal)) (hs : ∀ i, ws (ix2 i 0) = (vs i : EReal))
    (hb : ∀ i, wb (ix1 i) = (vb i : EReal)) (hp : ∀ i v, p (ix4 B i n v) = (P i v : EReal)) (i : Fin 32) (w : Fin 80) :
    signal d ws wb p (ix4 B i n w) = (seen s P vs vb w.val i : EReal) := by
  pointwise [signal]
  by_cases h : w.val < 64
  · simp only [h, dite_true]
    have e : extP P w.val i = 0 := by rw [extP, dif_neg (by omega)]
    rw [seen, Value.ext, dif_pos h, if_pos h, e, add_zero, EReal.coe_add, EReal.coe_mul, ← hs, ← hb, ← hd]
  · simp only [h, dite_false]
    rw [seen, Value.ext, dif_neg h, if_neg h, extP, dif_pos (by omega), hp, zero_mul, zero_add, zero_add]

theorem zero_pad : (FloatOps.sitofp .f32 (0#32 : BitVec 32) : Ideal .f32) = ((0 : ℝ) : EReal) := by simp [FloatOps.sitofp]

/-- A padded signal is the delayed one. -/
theorem past_real {q : ℕ} {X : ℕ → Fin q → ℝ} {f : Fin 80 → EReal} (k : ℕ) (i : Fin q) (hf : ∀ w, f w = (X w.val i : EReal)) (w : Fin 80) :
    (if h : k ≤ w.val ∧ w.val - k < 80 then f ⟨w.val - k, h.2⟩ else (FloatOps.sitofp .f32 (0#32 : BitVec 32) : Ideal .f32))
      = (delay k X w.val i : EReal) := by
  unfold delay
  by_cases h : k ≤ w.val
  · rw [dif_pos ⟨h, by omega⟩, if_pos h, hf]
  · rw [dif_neg (fun h' => h h'.1), if_neg h, zero_pad]; rfl

theorem past1_real {x : FVec Ideal S16x32x62x80 .f32} {X : ℕ → Fin 32 → ℝ} (hx : ∀ i (w : Fin 80), x (ix4 B i n w) = (X w.val i : EReal))
    (i : Fin 32) (w : Fin 80) : past1 x (ix4 B i n w) = (delay 1 X w.val i : EReal) := by
  pointwise [past1]
  exact past_real 1 i (f := fun w => x (ix4 B i n w)) (hx i) w

theorem past2_real {x : FVec Ideal S16x16x62x80 .f32} {X : ℕ → Fin 16 → ℝ} (hx : ∀ i (w : Fin 80), x (ix4 B i n w) = (X w.val i : EReal))
    (i : Fin 16) (w : Fin 80) : past2 x (ix4 B i n w) = (delay 2 X w.val i : EReal) := by
  pointwise [past2]
  exact past_real 2 i (f := fun w => x (ix4 B i n w)) (hx i) w

theorem past4_real {x : FVec Ideal S16x16x62x80 .f32} {X : ℕ → Fin 16 → ℝ} (hx : ∀ i (w : Fin 80), x (ix4 B i n w) = (X w.val i : EReal))
    (i : Fin 16) (w : Fin 80) : past4 x (ix4 B i n w) = (delay 4 X w.val i : EReal) := by
  pointwise [past4]
  exact past_real 4 i (f := fun w => x (ix4 B i n w)) (hx i) w

theorem mix0_real {a x : FVec Ideal S16x32x62x80 .f32} {w : FVec Ideal S16x32x1x2 .f32} {A X : ℕ → Fin 32 → ℝ}
    {R : Fin 16 → Fin (2 * 32) → ℝ} (ha : ∀ i (w : Fin 80), a (ix4 B i n w) = (A w.val i : EReal))
    (hx : ∀ i (w : Fin 80), x (ix4 B i n w) = (X w.val i : EReal))
    (hw : ∀ o i (c : Fin 2), w (ix4 o i 0 c) = (R o ⟨2 * i.val + c.val, by omega⟩ : EReal)) (o : Fin 16) (t : Fin 80) :
    mix0 a x w (ix4 B o n t) = ((layMat R 1 *ᵥ A t.val + layMat R 0 *ᵥ X t.val) o : EReal) := by
  rw [Pi.add_apply, EReal.coe_add, coe_vec, coe_vec]
  pointwise [mix0]
  simp only [hw, ha, hx]; rfl

theorem mix_real {a x : FVec Ideal S16x16x62x80 .f32} {w : FVec Ideal S16x16x1x2 .f32} {A X : ℕ → Fin 16 → ℝ}
    {R : Fin 16 → Fin (2 * 16) → ℝ} (ha : ∀ i (w : Fin 80), a (ix4 B i n w) = (A w.val i : EReal))
    (hx : ∀ i (w : Fin 80), x (ix4 B i n w) = (X w.val i : EReal))
    (hw : ∀ o i (c : Fin 2), w (ix4 o i 0 c) = (R o ⟨2 * i.val + c.val, by omega⟩ : EReal)) (o : Fin 16) (t : Fin 80) :
    mix a x w (ix4 B o n t) = ((layMat R 1 *ᵥ A t.val + layMat R 0 *ᵥ X t.val) o : EReal) := by
  rw [Pi.add_apply, EReal.coe_add, coe_vec, coe_vec]
  pointwise [mix]
  simp only [hw, ha, hx]; rfl

theorem bias_real {b : FVec Ideal S16 .f32} {c : Fin 16 → ℝ} (hb : ∀ o, b (ix1 o) = (c o : EReal)) (o : Fin 16) (t : Fin 80) :
    bias b (ix4 B o n t) = (c o : EReal) := by
  pointwise [bias]
  exact hb o

/-- The reference's branch is the branch of the signal. -/
theorem dcn_real {x : FVec Ideal S16x32x62x80 .f32} {w0 : FVec Ideal S16x32x1x2 .f32} {b0 : FVec Ideal S16 .f32}
    {w1 : FVec Ideal S16x16x1x2 .f32} {b1 : FVec Ideal S16 .f32} {w2 : FVec Ideal S16x16x1x2 .f32} {b2 : FVec Ideal S16 .f32}
    {X : ℕ → Fin 32 → ℝ} {R0 : Fin 16 → Fin (2 * 32) → ℝ} {R1 R2 : Fin 16 → Fin (2 * 16) → ℝ} {c0 c1 c2 : Fin 16 → ℝ}
    (hx : ∀ i (w : Fin 80), x (ix4 B i n w) = (X w.val i : EReal))
    (h0 : ∀ o i (c : Fin 2), w0 (ix4 o i 0 c) = (R0 o ⟨2 * i.val + c.val, by omega⟩ : EReal))
    (h1 : ∀ o i (c : Fin 2), w1 (ix4 o i 0 c) = (R1 o ⟨2 * i.val + c.val, by omega⟩ : EReal))
    (h2 : ∀ o i (c : Fin 2), w2 (ix4 o i 0 c) = (R2 o ⟨2 * i.val + c.val, by omega⟩ : EReal))
    (k0 : ∀ o, b0 (ix1 o) = (c0 o : EReal)) (k1 : ∀ o, b1 (ix1 o) = (c1 o : EReal)) (k2 : ∀ o, b2 (ix1 o) = (c2 o : EReal))
    (o : Fin 16) (t : Fin 80) :
    dcn x w0 b0 w1 b1 w2 b2 (ix4 B o n t)
      = (branch (layMat R0) (layMat R1) (layMat R2) c0 c1 c2 X t.val o : EReal) := by
  have e1 : ∀ o (t : Fin 80), conv1 x w0 b0 (ix4 B o n t) = (layer 1 (layMat R0) c0 X t.val o : EReal) := fun o t => by
    show mix0 (past1 x) x w0 (ix4 B o n t) + bias b0 (ix4 B o n t) = _
    rw [mix0_real B n (past1_real B n hx) hx h0, bias_real B n k0, ← EReal.coe_add]; rfl
  have e2 : ∀ o (t : Fin 80), conv2 (conv1 x w0 b0) w1 b1 (ix4 B o n t) = (layer 2 (layMat R1) c1 (layer 1 (layMat R0) c0 X) t.val o : EReal) :=
    fun o t => by
      show mix (past2 _) _ w1 (ix4 B o n t) + bias b1 (ix4 B o n t) = _
      rw [mix_real B n (past2_real B n e1) e1 h1, bias_real B n k1, ← EReal.coe_add]; rfl
  show mix (past4 _) _ w2 (ix4 B o n t) + bias b2 (ix4 B o n t) = _
  rw [mix_real B n (past4_real B n e2) e2 h2, bias_real B n k2, ← EReal.coe_add]; rfl

end

end Cert.ReferenceIdeal.Ref
-- ==== Proof.Features.lean ====
/- What a branch of the second launch holds at an entry, over real weights: the composed convolutions on what the node sees. -/
module

public import proofs.«01_k».proof.Proof.Bands
public import proofs.«01_k».proof.Proof.Front

@[expose] public section

set_option maxRecDepth 16384

noncomputable section

namespace Cert.KernelIdeal.Taps

open Idealize.ShloMosaic Idealize.ShloMosaic.TcCoe
open Cert.KernelIdeal Cert.KernelIdeal.Gen Cert.Value Matrix

/-- A place in a row of pairs. -/
theorem place_lt {m n : ℕ} (i : Fin m) (v : Fin n) : i.val * n + v.val < m * n :=
  calc i.val * n + v.val < i.val * n + n := by omega
    _ = (i.val + 1) * n := by rw [Nat.add_mul, Nat.one_mul]
    _ ≤ m * n := Nat.mul_le_mul_right n i.isLt

/-- A sum over pairs, the second counter running faster. -/
theorem sum_pairs {M : Type*} [AddCommMonoid M] {m n : ℕ} (f : Fin (m * n) → M) :
    ∑ k, f k = ∑ i : Fin m, ∑ v : Fin n, f ⟨i.val * n + v.val, by
      calc i.val * n + v.val < i.val * n + n := by omega
        _ = (i.val + 1) * n := by rw [Nat.add_mul, Nat.one_mul]
        _ ≤ m * n := Nat.mul_le_mul_right n i.isLt⟩ := by
  rw [← Fintype.sum_prod_type', ← Equiv.sum_comp finProdFinEquiv]
  refine Finset.sum_congr rfl fun x _ => congrArg f (Fin.ext ?_)
  simp only [finProdFinEquiv_apply_val]
  rw [Nat.mul_comm, Nat.add_comm]

section
variable {w0 : FVec Ideal S16x64 .f32} {w1 w2 : FVec Ideal S16x32 .f32} {b0 b1 b2 : FVec Ideal S16x1 .f32}
  {ws wb : FVec Ideal S32x1 .f32} {R0 : Fin 16 → Fin (2 * 32) → ℝ} {R1 R2 : Fin 16 → Fin (2 * 16) → ℝ}
  {c0 c1 c2 : Fin 16 → ℝ} {vs vb : Fin 32 → ℝ}
  (h0 : ∀ o k, w0 (ix2 o k) = (R0 o k : EReal)) (h1 : ∀ o k, w1 (ix2 o k) = (R1 o k : EReal))
  (h2 : ∀ o k, w2 (ix2 o k) = (R2 o k : EReal))
  (k0 : ∀ o, b0 (ix2 o 0) = (c0 o : EReal)) (k1 : ∀ o, b1 (ix2 o 0) = (c1 o : EReal)) (k2 : ∀ o, b2 (ix2 o 0) = (c2 o : EReal))
  (hs : ∀ i, ws (ix2 i 0) = (vs i : EReal)) (hb : ∀ i, wb (ix2 i 0) = (vb i : EReal))
  {x : FVec Ideal S992x64 .f32} {p : FVec Ideal S992x512 .f32} (r : Fin 992) {s : Fin 64 → ℝ} {P : Fin 32 → Fin 16 → ℝ}
  (hx : ∀ k, x (ix2 r k) = (s k : EReal))
  (hp : ∀ (i : Fin 32) (v : Fin 16), p (ix2 r ⟨i.val * 16 + v.val, place_lt i v⟩) = (P i v : EReal))

include h0 h1 h2 k0 k1 k2 hs hb hx in
/-- A branch over the series. -/
theorem nodeLin_real {b : FVec Ideal S1x1024 .f32} (o : Fin 16) (w : Fin 64)
    (hB : b (ix2 0 ⟨o.val * 64 + w.val, place_lt o w⟩) = biasNode w0 w1 w2 b0 b1 b2 wb (ix2 o w)) :
    nodeLin x (nodeBand w0 w1 w2 ws) b (ix2 r ⟨o.val * 64 + w.val, place_lt o w⟩)
      = (branch (layMat R0) (layMat R1) (layMat R2) c0 c1 c2 (seen s P vs vb) w.val o : EReal) := by
  have d : ∀ h, (⟨(o.val * 64 + w.val) / 64, h⟩ : Fin 16) = o := fun h => Fin.ext (by simp only; omega)
  have e : (o.val * 64 + w.val) % 64 = w.val := by omega
  have hB' : biasNode w0 w1 w2 b0 b1 b2 wb (ix2 o w) = biasRow w0 w1 w2 b0 b1 b2 wb (ix2 o ⟨w.val, by omega⟩) := by
    pointwise [biasNode]
  rw [node_branch _ _ _ _ _ _ s P vs vb w.val w.isLt o, EReal.coe_add, coe_sum]
  pointwise [nodeLin]
  rw [hB, hB', biasRow_real h0 h1 h2 k0 k1 k2 hb]
  refine congrArg₂ _ (Finset.sum_congr rfl fun m _ => ?_) rfl
  rw [hx, nodeBand_real h0 h1 h2 hs, EReal.coe_mul]
  simp only [d, e]

include h0 h1 h2 k0 k1 k2 hs hb hx hp in
/-- A branch over the positional channels. -/
theorem posLin_real {b : FVec Ideal S1x256 .f32} (o : Fin 16) (u : Fin 16)
    (hB : b (ix2 0 ⟨o.val * 16 + u.val, place_lt o u⟩) = biasPos w0 w1 w2 b0 b1 b2 wb (ix2 o u)) :
    posLin x p (posBand w0 w1 w2) (posEdge w0 w1 w2 ws) b (ix2 r ⟨o.val * 16 + u.val, place_lt o u⟩)
      = (branch (layMat R0) (layMat R1) (layMat R2) c0 c1 c2 (seen s P vs vb) (64 + u.val) o : EReal) := by
  have d : ∀ h, (⟨(o.val * 16 + u.val) / 16, h⟩ : Fin 16) = o := fun h => Fin.ext (by simp only; omega)
  have e : (o.val * 16 + u.val) % 16 = u.val := by omega
  have hB' : biasPos w0 w1 w2 b0 b1 b2 wb (ix2 o u) = biasRow w0 w1 w2 b0 b1 b2 wb (ix2 o ⟨64 + u.val, by omega⟩) := by
    pointwise [biasPos]
  rw [pos_branch _ _ _ _ _ _ s P vs vb u.val u.isLt o, EReal.coe_add, EReal.coe_add, coe_sum, coe_sum]
  pointwise [posLin]
  rw [hB, hB', biasRow_real h0 h1 h2 k0 k1 k2 hb]
  refine congrArg₂ _ (congrArg₂ _ ?_ (Finset.sum_congr rfl fun m _ => ?_)) rfl
  · rw [sum_pairs (m := 32) (n := 16)]
    refine Finset.sum_congr rfl fun i _ => ?_
    rw [coe_sum]
    refine Finset.sum_congr rfl fun v _ => ?_
    have d' : ∀ h, (⟨(i.val * 16 + v.val) / 16, h⟩ : Fin 32) = i := fun h => Fin.ext (by simp only; omega)
    have e' : (i.val * 16 + v.val) % 16 = v.val := by omega
    rw [hp, posBand_real h0 h1 h2, EReal.coe_mul]
    simp only [d, e, d', e']
  · rw [hx, posEdge_real h0 h1 h2 hs, EReal.coe_mul]
    simp only [d, e]

end

end Cert.KernelIdeal.Taps
-- ==== Proof.Args.lean ====
/- The arguments, the features that they give, and which of them are numbers.

   `feat A b n t o` is the feature of channel `o` at node `n` and time `t` in batch entry `b`: three convolution branches on
   what the node sees, through the gated unit.  Times below 64 belong to the series, the sixteen after them to the positional
   channels. -/
module

public import proofs.«01_k».proof.Proof.RefConv
public import proofs.«01_k».proof.Proof.Features

@[expose] public section

set_option maxRecDepth 16384

noncomputable section

namespace Cert.Value

open Idealize.ShloMosaic Idealize.ShloMosaic.TcCoe
open Cert.KernelIdeal Cert.KernelIdeal.Gen Cert.KernelIdeal.Taps
open Cert.ReferenceIdeal.Ref (act)

/-- The arguments, in order. -/
structure Args where
  a0 : FVec Ideal S16x63x64 .f32
  a1 : FVec Ideal S16x32x62x16 .f32
  a2 : IVec S2x4000 32
  a3 : FVec Ideal S32x1 .f32
  a4 : FVec Ideal S32 .f32
  a5 : FVec Ideal S16x32x1x2 .f32
  a6 : FVec Ideal S16 .f32
  a7 : FVec Ideal S16x16x1x2 .f32
  a8 : FVec Ideal S16 .f32
  a9 : FVec Ideal S16x16x1x2 .f32
  a10 : FVec Ideal S16 .f32
  a11 : FVec Ideal S16x32x1x2 .f32
  a12 : FVec Ideal S16 .f32
  a13 : FVec Ideal S16x16x1x2 .f32
  a14 : FVec Ideal S16 .f32
  a15 : FVec Ideal S16x16x1x2 .f32
  a16 : FVec Ideal S16 .f32
  a17 : FVec Ideal S16x32x1x2 .f32
  a18 : FVec Ideal S16 .f32
  a19 : FVec Ideal S16x16x1x2 .f32
  a20 : FVec Ideal S16 .f32
  a21 : FVec Ideal S16x16x1x2 .f32
  a22 : FVec Ideal S16 .f32
  a23 : FVec Ideal S32x16 .f32
  a24 : FVec Ideal S32 .f32
  a25 : FVec Ideal S1024x512 .f32
  a26 : FVec Ideal S512 .f32
  a27 : FVec Ideal S1024x512 .f32
  a28 : FVec Ideal S512 .f32
  a29 : FVec Ideal S2x256 .f32
  a30 : FVec Ideal S512 .f32
  a31 : FVec Ideal S1x8 .f32
  a32 : FVec Ideal S1 .f32
  a33 : FVec Ideal S1x62 .f32
  a34 : FVec Ideal S1 .f32

/-- Every entry is a number. -/
def Num {s : Shape} (x : FVec Ideal s .f32) : Prop := ∀ i, x i = (EReal.toReal (x i) : EReal)

/-- The arguments that are numbers, and edges between nodes. -/
structure Fine (A : Args) : Prop where
  n0 : ∀ (b : Fin 16) (n : Fin 62) (k : Fin 64), A.a0 (ix3 b ⟨n.val, by omega⟩ k) = (EReal.toReal (A.a0 (ix3 b ⟨n.val, by omega⟩ k)) : EReal)
  n1 : Num A.a1
  n3 : Num A.a3
  n4 : Num A.a4
  n5 : Num A.a5
  n6 : Num A.a6
  n7 : Num A.a7
  n8 : Num A.a8
  n9 : Num A.a9
  n10 : Num A.a10
  n11 : Num A.a11
  n12 : Num A.a12
  n13 : Num A.a13
  n14 : Num A.a14
  n15 : Num A.a15
  n16 : Num A.a16
  n17 : Num A.a17
  n18 : Num A.a18
  n19 : Num A.a19
  n20 : Num A.a20
  n21 : Num A.a21
  n22 : Num A.a22
  n25 : Num A.a25
  n26 : Num A.a26
  n30 : Num A.a30
  n31 : Num A.a31
  n32 : Num A.a32
  n33 : Num A.a33
  edge : ∀ (r : Fin 2) (e : Fin 4000), ∃ n : Fin 62, A.a2 (ix2 r e) = BitVec.ofNat 32 n.val

/-- A convolution's weights as rows of pairs. -/
def lay32 (w : FVec Ideal S16x32x1x2 .f32) (o : Fin 16) (k : Fin (2 * 32)) : ℝ := EReal.toReal (w (ix4 o ⟨k.val / 2, by omega⟩ 0 ⟨k.val % 2, by omega⟩))
def lay16 (w : FVec Ideal S16x16x1x2 .f32) (o : Fin 16) (k : Fin (2 * 16)) : ℝ := EReal.toReal (w (ix4 o ⟨k.val / 2, by omega⟩ 0 ⟨k.val % 2, by omega⟩))

/-- A list of numbers. -/
def vec {n : ℕ} (x : FVec Ideal ⟨1, ![n]⟩ .f32) (i : Fin n) : ℝ := EReal.toReal (x (ix1 i))

/-- A branch of three convolutions. -/
def line (w0 : FVec Ideal S16x32x1x2 .f32) (b0 : FVec Ideal S16 .f32) (w1 : FVec Ideal S16x16x1x2 .f32) (b1 : FVec Ideal S16 .f32)
    (w2 : FVec Ideal S16x16x1x2 .f32) (b2 : FVec Ideal S16 .f32) (X : ℕ → Fin 32 → ℝ) : ℕ → Fin 16 → ℝ :=
  branch (layMat (lay32 w0)) (layMat (lay16 w1)) (layMat (lay16 w2)) (vec b0) (vec b1) (vec b2) X

/-- What a node sees. -/
def wave (A : Args) (b : Fin 16) (n : Fin 62) : ℕ → Fin 32 → ℝ :=
  seen (fun k => EReal.toReal (A.a0 (ix3 b ⟨n.val, by omega⟩ k))) (fun i v => EReal.toReal (A.a1 (ix4 b i n v)))
    (fun i => EReal.toReal (A.a3 (ix2 i 0))) (vec A.a4)

/-- A node's feature. -/
def feat (A : Args) (b : Fin 16) (n : Fin 62) (t : ℕ) (o : Fin 16) : ℝ :=
  act (line A.a5 A.a6 A.a7 A.a8 A.a9 A.a10 (wave A b n) t o) (line A.a11 A.a12 A.a13 A.a14 A.a15 A.a16 (wave A b n) t o)
    (line A.a17 A.a18 A.a19 A.a20 A.a21 A.a22 (wave A b n) t o)

/-- A dense layer on a node's features over the series. -/
def lin (A : Args) (W : FVec Ideal S1024x512 .f32) (c : FVec Ideal S512 .f32) (b : Fin 16) (n : Fin 62) (k : Fin 512) : EReal :=
  ∑ x : Fin 1024, (feat A b n (x.val % 64) ⟨x.val / 64, by omega⟩ : EReal) * W (ix2 x k) + c (ix1 k)

theorem lin_real (A : Args) {W : FVec Ideal S1024x512 .f32} {c : FVec Ideal S512 .f32} (hW : Num W) (hc : Num c) (b : Fin 16) (n : Fin 62) (k : Fin 512) :
    lin A W c b n k = (EReal.toReal (lin A W c b n k) : EReal) := by
  have h : ∃ r : ℝ, lin A W c b n k = (r : EReal) := by
    refine ⟨∑ x : Fin 1024, feat A b n (x.val % 64) ⟨x.val / 64, by omega⟩ * EReal.toReal (W (ix2 x k)) + EReal.toReal (c (ix1 k)), ?_⟩
    rw [EReal.coe_add, coe_sum, ← hc, lin]
    refine congrArg₂ _ (Finset.sum_congr rfl fun x _ => ?_) rfl
    rw [EReal.coe_mul, ← hW]
  obtain ⟨r, e⟩ := h
  rw [e]; rfl

/-- The layer on a node's positional features. -/
def mixed (A : Args) (b : Fin 16) (o : Fin 32) (n : Fin 62) (u : Fin 16) : EReal :=
  ∑ x : Fin 16, (feat A b n (64 + u.val) x : EReal) * A.a23 (ix2 o x) + A.a24 (ix1 o)

/-- The ends of the edges. -/
def node (A : Args) (r : Fin 2) (e : Fin 4000) : Fin 62 := ⟨(A.a2 (ix2 r e)).toNat % 62, by omega⟩

theorem node_word {A : Args} (hA : Fine A) (r : Fin 2) (e : Fin 4000) : A.a2 (ix2 r e) = BitVec.ofNat 32 (node A r e).val := by
  obtain ⟨n, h⟩ := hA.edge r e
  have : (node A r e).val = n.val := by
    show (A.a2 (ix2 r e)).toNat % 62 = n.val
    rw [h, BitVec.toNat_ofNat]; omega
  rw [this, h]

end Cert.Value
-- ==== Proof.Readout.lean ====
/- The readout and the layer on the positional features, each a sum over a few rows only.

   The arrays that the first launch builds for them are zero but at the rows of one time, so a sum over all rows is a sum
   over those. -/
module

public import proofs.«01_k».proof.Proof.Indicators
public import proofs.«01_k».proof.Proof.Bands

@[expose] public section

set_option maxRecDepth 16384

noncomputable section

namespace Cert.KernelIdeal.Taps

open Idealize.ShloMosaic Idealize.ShloMosaic.TcCoe
open Cert.KernelIdeal Cert.KernelIdeal.Gen Cert.Value

/-- A sum over the entries of one remainder. -/
theorem sum_comb {M : Type*} [AddCommMonoid M] {n p q : ℕ} (hn : n = p * q) (t : Fin q) (f : Fin n → M) :
    ∑ k, (if k.val % q = t.val then f k else 0)
      = ∑ r : Fin p, f ⟨r.val * q + t.val, by
          subst hn; calc r.val * q + t.val < (r.val + 1) * q := by rw [Nat.add_mul, Nat.one_mul]; omega
            _ ≤ p * q := Nat.mul_le_mul_right q r.isLt⟩ := by
  rw [← Finset.sum_filter]
  have hq : 0 < q := t.pos
  refine Finset.sum_bij' (fun k _ => (⟨k.val / q, Nat.div_lt_of_lt_mul (by rw [Nat.mul_comm, ← hn]; exact k.isLt)⟩ : Fin p))
    (fun r _ => ⟨r.val * q + t.val, by
          subst hn; calc r.val * q + t.val < (r.val + 1) * q := by rw [Nat.add_mul, Nat.one_mul]; omega
            _ ≤ p * q := Nat.mul_le_mul_right q r.isLt⟩) ?_ ?_ ?_ ?_ ?_
  · intros; exact Finset.mem_univ _
  · intro r _
    refine Finset.mem_filter.mpr ⟨Finset.mem_univ _, ?_⟩
    show (r.val * q + t.val) % q = t.val
    rw [Nat.mul_comm, Nat.mul_add_mod, Nat.mod_eq_of_lt t.isLt]
  · intro k hk
    have h := (Finset.mem_filter.mp hk).2
    refine Fin.ext ?_
    show k.val / q * q + t.val = k.val
    rw [← h, Nat.mul_comm]; exact Nat.div_add_mod _ _
  · intro r _
    refine Fin.ext ?_
    show (r.val * q + t.val) / q = r.val
    rw [Nat.mul_comm, Nat.mul_add_div hq, Nat.div_eq_of_lt t.isLt, Nat.add_zero]
  · intro k hk
    have h := (Finset.mem_filter.mp hk).2
    congr 1
    refine Fin.ext ?_
    show k.val = k.val / q * q + t.val
    rw [← h, Nat.mul_comm]; exact (Nat.div_add_mod _ _).symm

theorem readOut_apply (w : FVec Ideal S1x8 .f32) (k : Fin 512) (t : Fin 64) :
    readOut w (ix2 k t) = if k.val % 64 = t.val then w (ix2 0 ⟨k.val / 64, by omega⟩) else 0 := by
  pointwise [readOut, ind_apply, modW_apply, divW_apply]
  rw [mod64' _ (by omega), div64' _ (by omega), if_congr ((cmp_eq _ _).trans (word_inj (by omega) (by omega))) rfl rfl]
  rw [sum_pick' (fun x => w (ix2 0 x)) (k.val / 64) (by omega) _ (fun x => (cmp_eq _ _).trans ((word_inj (by omega) (by omega)).trans eq_comm))]
  split
  · exact one_mul _
  · exact zero_mul _

theorem readBias_apply (w2 : FVec Ideal S1x8 .f32) (b2 : FVec Ideal S1x1 .f32) (w1 : FVec Ideal S1x62 .f32) (b1 : FVec Ideal S1x1 .f32)
    (gb : FVec Ideal S8x64 .f32) (t : Fin 64) :
    readBias w2 b2 w1 b1 gb (ix2 0 t) = (b1 (ix2 0 0) + (∑ n : Fin 62, w1 (ix2 0 n)) * b2 (ix2 0 0))
      + (∑ n : Fin 62, w1 (ix2 0 n)) * ∑ r : Fin 8, w2 (ix2 0 r) * gb (ix2 r t) := by
  pointwise [readBias]

theorem mixPos_apply (w : FVec Ideal S32x16 .f32) (k : Fin 256) (j : Fin 512) :
    mixPos w (ix2 k j) = if k.val % 16 = j.val % 16 then w (ix2 ⟨j.val / 16, by omega⟩ ⟨k.val / 16, by omega⟩) else 0 := by
  pointwise [mixPos, ind_apply, modW_apply, divW_apply, spreadOut_apply]
  rw [mod16' _ (by omega), mod16' _ (by omega), div16' _ (by omega), if_congr ((cmp_eq _ _).trans (word_inj (by omega) (by omega))) rfl rfl]
  rw [sum_pick _ (j.val / 16) (by omega) _ (fun x => Iff.rfl)]
  rw [sum_pick' (fun y => w (ix2 ⟨j.val / 16, by omega⟩ y)) (k.val / 16) (by omega) _ (fun x => (cmp_eq _ _).trans ((word_inj (by omega) (by omega)).trans eq_comm))]
  split
  · exact one_mul _
  · exact zero_mul _

theorem mixBias_apply (b : FVec Ideal S32x1 .f32) (j : Fin 512) :
    mixBias b (ix2 0 j) = b (ix2 ⟨j.val / 16, by omega⟩ 0) := by
  pointwise [mixBias, spreadOut_apply]
  exact sum_pick (fun x => b (ix2 x 0)) (j.val / 16) (by omega) _ (fun x => Iff.rfl)

/-- The readout, its rows taken first over the nodes and then over the rows of a time. -/
theorem readout_split (G : Fin 62 → Fin 512 → ℝ) (g : Fin 512 → ℝ) (u : Fin 8 → ℝ) (β : ℝ) (v : Fin 62 → ℝ) (b1 : EReal) (t : Fin 64) :
    ∑ k : Fin 512, ((∑ n, v n * G n k : ℝ) : EReal) * (if k.val % 64 = t.val then (u ⟨k.val / 64, by omega⟩ : EReal) else 0)
        + ((b1 + (∑ n, (v n : EReal)) * (β : EReal)) + (∑ n, (v n : EReal)) * ∑ r : Fin 8, (u r : EReal) * (g ⟨r.val * 64 + t.val, by omega⟩ : EReal))
      = ∑ n : Fin 62, (∑ r : Fin 8, ((G n ⟨r.val * 64 + t.val, by omega⟩ : EReal) + (g ⟨r.val * 64 + t.val, by omega⟩ : EReal)) * (u r : EReal) + (β : EReal))
          * (v n : EReal) + b1 := by
  have h1 : ∀ k : Fin 512, ((∑ n, v n * G n k : ℝ) : EReal) * (if k.val % 64 = t.val then (u ⟨k.val / 64, by omega⟩ : EReal) else 0)
      = if k.val % 64 = t.val then (((∑ n, v n * G n k) * u ⟨k.val / 64, by omega⟩ : ℝ) : EReal) else 0 := fun k => by
    split
    · rw [EReal.coe_mul]
    · rw [mul_zero]
  rw [Finset.sum_congr rfl fun k _ => h1 k, sum_comb (p := 8) (q := 64) rfl]
  simp only [← EReal.coe_mul, ← EReal.coe_add, ← coe_sum]
  rw [add_assoc b1, add_left_comm, ← EReal.coe_add, ← EReal.coe_add, add_comm b1]
  congr 2
  have h2 : ∀ r : Fin 8, (⟨(r.val * 64 + t.val) / 64, by omega⟩ : Fin 8) = r := fun r => Fin.ext (by show (r.val * 64 + t.val) / 64 = r.val; omega)
  simp only [h2, add_mul, Finset.sum_add_distrib, Finset.sum_mul, Finset.mul_sum]
  have h3 : ∀ n r, v n * (u r * g ⟨r.val * 64 + t.val, by omega⟩) = g ⟨r.val * 64 + t.val, by omega⟩ * u r * v n := fun n r => by ring
  have h4 : ∀ n (r : Fin 8), v n * G n ⟨r.val * 64 + t.val, by omega⟩ * u r = G n ⟨r.val * 64 + t.val, by omega⟩ * u r * v n := fun n r => by ring
  have h5 : ∀ n, v n * β = β * v n := fun n => by ring
  simp only [h3, h4, h5]
  rw [Finset.sum_comm (f := fun r n => g ⟨r.val * 64 + t.val, by omega⟩ * u r * v n)]
  rw [Finset.sum_comm (f := fun r n => G n ⟨r.val * 64 + t.val, by omega⟩ * u r * v n)]
  ring

end Cert.KernelIdeal.Taps
-- ==== Proof.Softmax.lean ====
/- A softmax over the edges into a node, summed edge by edge or pair by pair.

   `count` says how many edges run between two nodes.  A score belongs to a pair of nodes, so a sum over the edges into a
   node is a sum over the sources, each as often as `count` says.  The scores may be infinite: a score minus the largest one
   is never above zero, so its exponential is a number. -/
module

public import Idealize.ShloMosaic.PureOps.Ideal
public import Mathlib.Algebra.BigOperators.Fin

@[expose] public section

noncomputable section

namespace Cert.Value

open Idealize.ShloMosaic

/-- The score of a pair of nodes: their features summed, passed through the leaky unit and weighed by `a`. -/
def edgeScore (l r a : Fin 256 → EReal) : EReal :=
  ∑ x, (if 0 ≤ l x + r x then l x + r x else Ideal.ofBits FTy.f32 0x3E4CCCCD#32 * (l x + r x)) * a x

/-- The score of a pair in the head that column `k` belongs to. -/
def colScore (l r : Fin 62 → Fin 512 → EReal) (a : Fin 2 → Fin 256 → EReal) (k : Fin 512) (i j : Fin 62) : EReal :=
  edgeScore (fun x => l j ⟨k.val / 256 * 256 + x.val, by omega⟩) (fun x => r i ⟨k.val / 256 * 256 + x.val, by omega⟩) (a ⟨k.val / 256, by omega⟩)

/-- The small constant of the norm. -/
def tiny : ℝ := (Ideal.ofBits FTy.f32 0x24E69595#32).toReal

theorem tiny_word : Ideal.ofBits FTy.f32 0x24E69595#32 = (tiny : EReal) ∧ 0 < tiny := by
  have h : ∃ r : ℝ, 0 < r ∧ Ideal.ofBits FTy.f32 0x24E69595#32 = (r : EReal) := by
    simp [Ideal.ofBits, Ideal.ieee]
    refine ⟨_, ?_, rfl⟩
    positivity
  obtain ⟨r, hr, e⟩ := h
  rw [tiny, e]; exact ⟨rfl, hr⟩

variable {ι ν : Type*} [Fintype ι] [Fintype ν] [DecidableEq ν] (src dst : ι → ν)

/-- The edges from `j` to `i`. -/
def count (i j : ν) : ℝ := ∑ e, (if dst e = i then 1 else 0) * (if src e = j then 1 else 0)

theorem count_nonneg (i j : ν) : 0 ≤ count src dst i j :=
  Finset.sum_nonneg fun e _ => mul_nonneg (by split <;> norm_num) (by split <;> norm_num)

theorem count_pos_iff (i j : ν) : 0 < count src dst i j ↔ ∃ e, dst e = i ∧ src e = j := by
  constructor
  · intro h
    by_contra hn
    push Not at hn
    refine absurd h (not_lt.mpr (le_of_eq (Finset.sum_eq_zero fun e _ => ?_)))
    by_cases hd : dst e = i
    · rw [if_neg (hn e hd), mul_zero]
    · rw [if_neg hd, zero_mul]
  · rintro ⟨e, hd, hs⟩
    refine Finset.sum_pos' (fun e _ => mul_nonneg (by split <;> norm_num) (by split <;> norm_num)) ⟨e, Finset.mem_univ _, ?_⟩
    rw [if_pos hd, if_pos hs]; norm_num

/-- A sum over the edges into `i` is a sum over their sources. -/
theorem sum_edges (i : ν) (f : ν → ℝ) : ∑ e, (if dst e = i then f (src e) else 0) = ∑ j, count src dst i j * f j := by
  simp only [count, Finset.sum_mul]
  rw [Finset.sum_comm]
  refine Finset.sum_congr rfl fun e _ => ?_
  by_cases hd : dst e = i
  · simp [hd]
  · simp [hd]

variable (s : ν → ν → EReal)

/-- The largest score into a node. -/
def most (i : ν) : EReal := Finset.univ.fold max ⊥ fun j => if 0 < count src dst i j then s i j else ⊥

theorem most_edges (i : ν) : (Finset.univ.fold max ⊥ fun e => if dst e = i then s (dst e) (src e) else ⊥) = most src dst s i := by
  refine le_antisymm ?_ ?_
  · refine Finset.fold_max_le _ |>.mpr ⟨bot_le, fun e _ => ?_⟩
    split
    · next h =>
      refine Finset.le_fold_max _ |>.mpr (.inr ⟨src e, Finset.mem_univ _, ?_⟩)
      rw [if_pos ((count_pos_iff src dst i (src e)).mpr ⟨e, h, rfl⟩), h]
    · exact bot_le
  · refine Finset.fold_max_le _ |>.mpr ⟨bot_le, fun j _ => ?_⟩
    split
    · next h =>
      obtain ⟨e, hd, hs⟩ := (count_pos_iff src dst i j).mp h
      refine Finset.le_fold_max _ |>.mpr (.inr ⟨e, Finset.mem_univ _, ?_⟩)
      rw [if_pos hd, hd, hs]
    · exact bot_le

/-- A pair's weight before it is normed. -/
def soft (i j : ν) : ℝ := (Ideal.exp (s i j - most src dst s i)).toReal

theorem exp_sub_real {x y : EReal} (h : x ≤ y) : ∃ a : ℝ, 0 ≤ a ∧ Ideal.exp (x - y) = (a : EReal) := by
  have z : ∃ a : ℝ, 0 ≤ a ∧ Ideal.exp ⊥ = (a : EReal) := ⟨0, le_rfl, by rw [Ideal.exp_bot]; rfl⟩
  induction x with
  | bot => rw [EReal.bot_sub]; exact z
  | top => rw [top_le_iff.mp h, EReal.sub_top]; exact z
  | coe x =>
    induction y with
    | bot => exact absurd h (by simp)
    | top => rw [EReal.sub_top]; exact z
    | coe y => exact ⟨Real.exp (x - y), (Real.exp_pos _).le, by rw [← EReal.coe_sub, Ideal.exp_coe]⟩

theorem soft_nonneg (i j : ν) : 0 ≤ soft src dst s i j := by
  unfold soft
  induction s i j - most src dst s i with
  | bot => rw [Ideal.exp_bot]; simp
  | top => rw [Ideal.exp_top]; simp
  | coe x => rw [Ideal.exp_coe]; exact (Real.exp_pos x).le

theorem le_most {i j : ν} (h : 0 < count src dst i j) : s i j ≤ most src dst s i :=
  Finset.le_fold_max _ |>.mpr (.inr ⟨j, Finset.mem_univ _, by rw [if_pos h]⟩)

/-- A pair with an edge: its weight is a number. -/
theorem exp_pair {i j : ν} (h : 0 < count src dst i j) : Ideal.exp (s i j - most src dst s i) = (soft src dst s i j : EReal) := by
  obtain ⟨a, _, ha⟩ := exp_sub_real (le_most src dst s h)
  rw [soft, ha]; rfl

theorem exp_edge (e : ι) : Ideal.exp (s (dst e) (src e) - most src dst s (dst e)) = (soft src dst s (dst e) (src e) : EReal) :=
  exp_pair src dst s ((count_pos_iff src dst _ _).mpr ⟨e, rfl, rfl⟩)

/-- The weight of all edges of a pair, a pair without edges masked out. -/
theorem exp_masked (i j : ν) :
    Ideal.exp ((if 0 < count src dst i j then s i j else ⊥) - most src dst s i) * (count src dst i j : EReal)
      = (count src dst i j * soft src dst s i j : ℝ) := by
  by_cases h : 0 < count src dst i j
  · rw [if_pos h, exp_pair src dst s h, ← EReal.coe_mul, mul_comm]
  · have e : count src dst i j = 0 := le_antisymm (not_lt.mp h) (count_nonneg src dst i j)
    rw [if_neg h, EReal.bot_sub, Ideal.exp_bot, e, zero_mul, zero_mul]; rfl

/-- The weights into a node. -/
def norm (i : ν) : ℝ := ∑ j, count src dst i j * soft src dst s i j

theorem norm_nonneg (i : ν) : 0 ≤ norm src dst s i :=
  Finset.sum_nonneg fun j _ => mul_nonneg (count_nonneg src dst i j) (soft_nonneg src dst s i j)

/-- What a node gathers of the features `x`, the weights normed with a small constant. -/
def gain (ε : ℝ) (x : ν → ℝ) (i : ν) : ℝ := ∑ j, count src dst i j * soft src dst s i j * (1 / (norm src dst s i + ε)) * x j

theorem gain_edges (ε : ℝ) (x : ν → ℝ) (i : ν) :
    ∑ e, (if dst e = i then soft src dst s (dst e) (src e) * (1 / (norm src dst s (dst e) + ε)) * x (src e) else 0)
      = gain src dst s ε x i := by
  have := sum_edges src dst i fun j => soft src dst s i j * (1 / (norm src dst s i + ε)) * x j
  rw [gain]
  simp only [← mul_assoc] at this ⊢
  rw [← this]
  refine Finset.sum_congr rfl fun e _ => ?_
  split
  · next h => rw [h]
  · rfl

theorem norm_edges (i : ν) : ∑ e, (if dst e = i then soft src dst s (dst e) (src e) else 0) = norm src dst s i := by
  rw [norm, ← sum_edges src dst i fun j => soft src dst s i j]
  refine Finset.sum_congr rfl fun e _ => ?_
  split
  · next h => rw [h]
  · rfl

end Cert.Value
-- ==== Proof.RefAttend.lean ====
/- The reference's attention and readout, as plain functions of its arguments. -/
module

public import proofs.«01_k».proof.ReferenceIdeal
public import proofs.«01_k».proof.Proof.Gen.ReferenceIdeal
public import Idealize.ShloMosaic.Lib.Tactic

@[expose] public section

set_option maxRecDepth 16384

noncomputable section

namespace Cert.ReferenceIdeal.Ref

open Idealize.ShloMosaic Idealize.ShloMosaic.TcCoe
open Cert.ReferenceIdeal Cert.ReferenceIdeal.Gen

variable {F : FTy → Type} [FloatOps F]

/-- The edges' sources, then a loop at every node. -/
def sources (e : IVec S2x4000 32) : IVec S4062 32 :=
  concatenate S4062 0 [⟨S4000, (shapeCast _ (extractStridedSlice S1x4000 ![0, 0] e slices_S2x4000_S1x4000_0_0) shapeCasts_S1x4000_S4000)⟩, ⟨S62, iotaInDim S62 32 0⟩] concatenates_S4000_S62_S4062_d0

/-- The edges' targets, then a loop at every node. -/
def targets (e : IVec S2x4000 32) : IVec S4062 32 :=
  concatenate S4062 0 [⟨S4000, (shapeCast _ (extractStridedSlice S1x4000 ![1, 0] e slices_S2x4000_S1x4000_1_0) shapeCasts_S1x4000_S4000)⟩, ⟨S62, iotaInDim S62 32 0⟩] concatenates_S4000_S62_S4062_d0

/-- A list of nodes as a column of row numbers. -/
def rows (i : IVec S4062 32) : IVec S4062x1 32 :=
  broadcastInDim S4062x1 ![0] bcast_S4062_S4062x1_0 (select (cmpi .slt i (broadcastInDim S4062 ![] bcast_S_S4062 (constantI S_ 32 0#32))) (addi i (broadcastInDim S4062 ![] bcast_S_S4062 (constantI S_ 32 62#32))) i)

/-- The node features, channel by channel. -/
def feats (g : FVec F S16x16x62x80 .f32) : FVec F S16x62x1024 .f32 :=
  shapeCast _ (transpose S16x62x16x64 [0, 2, 1, 3] (extractStridedSlice S16x16x62x64 ![0, 0, 0, 0] g slices_S16x16x62x80_S16x16x62x64_0_0_0_0) transposes_S16x16x62x64_S16x62x16x64_0_2_1_3) shapeCasts_S16x62x16x64_S16x62x1024

/-- A dense layer on the node features. -/
def proj (f : FVec F S16x62x1024 .f32) (W : FVec F S1024x512 .f32) (b : FVec F S512 .f32) : FVec F S16x62x512 .f32 :=
  addf (Host.dotGeneral dot_S16x62x1024_S1024x512_S16x62x512_2_0_01_1_n_n none f W) (broadcastInDim S16x62x512 ![0, 1, 2] bcast_S1x1x512_S16x62x512_0_1_2 (broadcastInDim S1x1x512 ![2] bcast_S512_S1x1x512_2 b))

/-- The rows of the edges' ends. -/
def pick (x : FVec F S16x62x512 .f32) (i : IVec S4062 32) : FVec F S16x4062x512 .f32 :=
  Host.gather gather_S16x62x512_S4062x1_S16x4062x512_02_1_n_n_1_1_161512 x (rows i)

def pick2 (x : FVec F S16x62x2 .f32) (i : IVec S4062 32) : FVec F S16x4062x2 .f32 :=
  Host.gather gather_S16x62x2_S4062x1_S16x4062x2_02_1_n_n_1_1_1612 x (rows i)

/-- What the scores weigh. -/
def pairSum (l r : FVec F S16x4062x512 .f32) : FVec F S16x4062x2x256 .f32 :=
  shapeCast _ (addf l r) shapeCasts_S16x4062x512_S16x4062x2x256

/-- The edges' scores. -/
def scores (z : FVec F S16x4062x2x256 .f32) (a : FVec F S2x256 .f32) : FVec F S16x4062x2 .f32 :=
  Host.reduceAdd (mulf (select (cmpf .oge z (broadcastInDim S16x4062x2x256 ![] bcast_S_S16x4062x2x256 (constant S_ .f32 0x00000000#32))) z (mulf (broadcastInDim S16x4062x2x256 ![] bcast_S_S16x4062x2x256 (constant S_ .f32 0x3E4CCCCD#32)) z)) (broadcastInDim S16x4062x2x256 ![0, 1, 2, 3] bcast_S1x1x2x256_S16x4062x2x256_0_1_2_3 (broadcastInDim S1x1x2x256 ![2, 3] bcast_S2x256_S1x1x2x256_2_3 a))) (constant S_ .f32 0x00000000#32) reducesTo_S16x4062x2x256_S16x4062x2_d3 h_S_

/-- The largest score into each node. -/
def top (s : FVec F S16x4062x2 .f32) (t : IVec S4062 32) : FVec F S16x62x2 .f32 :=
  Host.reduce FloatOps.maximumf (select (broadcastInDim S16x62x4062x2 ![0, 1, 2, 3] bcast_S1x62x4062x1_S16x62x4062x2_0_1_2_3 (broadcastInDim S1x62x4062x1 ![1, 2] bcast_S62x4062_S1x62x4062x1_1_2 (cmpi .eq (broadcastInDim S62x4062 ![0, 1] bcast_S1x4062_S62x4062_0_1 (broadcastInDim S1x4062 ![1] bcast_S4062_S1x4062_1 t)) (broadcastInDim S62x4062 ![0, 1] bcast_S62x1_S62x4062_0_1 (broadcastInDim S62x1 ![0] bcast_S62_S62x1_0 (iotaInDim S62 32 0)))))) (broadcastInDim S16x62x4062x2 ![0, 1, 2, 3] bcast_S16x1x4062x2_S16x62x4062x2_0_1_2_3 (broadcastInDim S16x1x4062x2 ![0, 2, 3] bcast_S16x4062x2_S16x1x4062x2_0_2_3 s)) (broadcastInDim S16x62x4062x2 ![] bcast_S_S16x62x4062x2 (id (constant S_ .f32 0xFF800000#32)))) (constant S_ .f32 0xFF800000#32) reducesTo_S16x62x4062x2_S16x62x2_d2 h_S_

/-- The edges' weights before they are normed. -/
def weight (s : FVec F S16x4062x2 .f32) (t : IVec S4062 32) : FVec F S16x4062x2 .f32 :=
  Host.exp (subf s (pick2 (top s t) t))

/-- The weights' sum into each node. -/
def total (w : FVec F S16x4062x2 .f32) (t : IVec S4062 32) : FVec F S16x62x2 .f32 :=
  Host.scatterAdd scatter_S16x62x2_S4062x1_S16x4062x2_02_1_1_1 (broadcastInDim S16x62x2 ![] bcast_S_S16x62x2 (constant S_ .f32 0x00000000#32)) (rows t) w

/-- The edges' weights. -/
def share (w : FVec F S16x4062x2 .f32) (t : IVec S4062 32) : FVec F S16x4062x2 .f32 :=
  Host.divf w (addf (pick2 (total w t) t) (broadcastInDim S16x4062x2 ![] bcast_S_S16x4062x2 (constant S_ .f32 0x24E69595#32)))

/-- What an edge brings. -/
def message (a : FVec F S16x4062x2 .f32) (l : FVec F S16x4062x512 .f32) : FVec F S16x4062x512 .f32 :=
  shapeCast _ (mulf (broadcastInDim S16x4062x2x256 ![0, 1, 2, 3] bcast_S16x4062x2x1_S16x4062x2x256_0_1_2_3 (broadcastInDim S16x4062x2x1 ![0, 1, 2] bcast_S16x4062x2_S16x4062x2x1_0_1_2 a)) (shapeCast _ l shapeCasts_S16x4062x512_S16x4062x2x256)) shapeCasts_S16x4062x2x256_S16x4062x512

/-- What all edges bring to each node. -/
def gathered (y : FVec F S16x4062x512 .f32) (t : IVec S4062 32) : FVec F S16x62x512 .f32 :=
  Host.scatterAdd scatter_S16x62x512_S4062x1_S16x4062x512_02_1_1_1 (broadcastInDim S16x62x512 ![] bcast_S_S16x62x512 (constant S_ .f32 0x00000000#32)) (rows t) y

/-- The attended node features. -/
def attend (l r : FVec F S16x62x512 .f32) (a : FVec F S2x256 .f32) (s t : IVec S4062 32) : FVec F S16x62x512 .f32 :=
  gathered (message (share (weight (scores (pairSum (pick l s) (pick r t)) a) t) t) (pick l s)) t

/-- The two readout layers. -/
def readout (y : FVec F S16x62x512 .f32) (gb : FVec F S512 .f32) (w2 : FVec F S1x8 .f32) (b2 : FVec F S1 .f32) (w1 : FVec F S1x62 .f32)
    (b1 : FVec F S1 .f32) : FVec F S16x64 .f32 :=
  shapeCast _ (addf (Host.dotGeneral dot_S16x64x62_S62x1_S16x64x1_2_0_01_1_n_n none (shapeCast _ (addf (Host.dotGeneral dot_S16x64x62x8_S8x1_S16x64x62x1_3_0_012_1_n_n none (transpose S16x64x62x8 [0, 3, 1, 2] (shapeCast _ (addf y (broadcastInDim S16x62x512 ![0, 1, 2] bcast_S1x1x512_S16x62x512_0_1_2 (broadcastInDim S1x1x512 ![2] bcast_S512_S1x1x512_2 gb))) shapeCasts_S16x62x512_S16x62x8x64) transposes_S16x62x8x64_S16x64x62x8_0_3_1_2) (transpose S8x1 [1, 0] w2 transposes_S1x8_S8x1_1_0)) (broadcastInDim S16x64x62x1 ![0, 1, 2, 3] bcast_S1x1x1x1_S16x64x62x1_0_1_2_3 (broadcastInDim S1x1x1x1 ![3] bcast_S1_S1x1x1x1_3 b2))) shapeCasts_S16x64x62x1_S16x64x62) (transpose S62x1 [1, 0] w1 transposes_S1x62_S62x1_1_0)) (broadcastInDim S16x64x1 ![0, 1, 2] bcast_S1x1x1_S16x64x1_0_1_2 (broadcastInDim S1x1x1 ![2] bcast_S1_S1x1x1_2 b1))) shapeCasts_S16x64x1_S16x64

/-- The prediction. -/
def predict (x : FVec F S16x64 .f32) : FVec F S16x1x64 .f32 :=
  broadcastInDim S16x1x64 ![0, 2] bcast_S16x64_S16x1x64_0_2 (Host.divf (broadcastInDim S16x64 ![] bcast_S_S16x64 (constant S_ .f32 0x3F800000#32)) (addf (broadcastInDim S16x64 ![] bcast_S_S16x64 (constant S_ .f32 0x3F800000#32)) (Host.exp (Host.negf x))))

/-- The learned positional features. -/
def posLearned (g : FVec F S16x16x62x80 .f32) (w : FVec F S32x16 .f32) (b : FVec F S32 .f32) : FVec F S16x32x62x16 .f32 :=
  transpose S16x32x62x16 [0, 3, 1, 2] (addf (Host.dotGeneral dot_S16x62x16x16_S16x32_S16x62x16x32_3_0_012_1_n_n none (transpose S16x62x16x16 [0, 2, 3, 1] (extractStridedSlice S16x16x62x16 ![0, 0, 0, 64] g slices_S16x16x62x80_S16x16x62x16_0_0_0_64) transposes_S16x16x62x16_S16x62x16x16_0_2_3_1) (transpose S16x32 [1, 0] w transposes_S32x16_S16x32_1_0)) (broadcastInDim S16x62x16x32 ![0, 1, 2, 3] bcast_S1x1x1x32_S16x62x16x32_0_1_2_3 (broadcastInDim S1x1x1x32 ![3] bcast_S32_S1x1x1x32_3 b))) transposes_S16x62x16x32_S16x32x62x16_0_3_1_2

end Cert.ReferenceIdeal.Ref
-- ==== Proof.Edges.lean ====
/- How many edges run between each pair of nodes, as the kernel counts them and as the reference lists them. -/
module

public import proofs.«01_k».proof.Proof.Indicators
public import proofs.«01_k».proof.Proof.Bands
public import proofs.«01_k».proof.Proof.Softmax
public import proofs.«01_k».proof.Proof.RefAttend

@[expose] public section

set_option maxRecDepth 16384

noncomputable section

namespace Cert.Value

open Idealize.ShloMosaic Idealize.ShloMosaic.TcCoe
open Cert.KernelIdeal Cert.KernelIdeal.Gen Cert.KernelIdeal.Taps

/-- The ends of the edges at one side, then a loop at every node. -/
def ends (f : Fin 4000 → Fin 62) (e : Fin 4062) : Fin 62 :=
  if h : e.val < 4000 then f ⟨e.val, h⟩ else ⟨e.val - 4000, by omega⟩

theorem count_ends (f g : Fin 4000 → Fin 62) (i j : Fin 62) :
    count (ends f) (ends g) i j = ∑ e, (if g e = i then 1 else 0) * (if f e = j then 1 else 0) + if i = j then 1 else 0 := by
  unfold count
  refine (Fin.sum_univ_add (a := 4000) (b := 62) fun e => (if ends g e = i then (1 : ℝ) else 0) * (if ends f e = j then 1 else 0)).trans ?_
  have h1 : ∀ (f : Fin 4000 → Fin 62) (e : Fin 4000), ends f (Fin.castAdd 62 e) = f e := fun f e => dif_pos e.isLt
  have h2 : ∀ (f : Fin 4000 → Fin 62) (e : Fin 62), ends f (Fin.natAdd 4000 e) = e := fun f e =>
    (dif_neg (show ¬ (4000 + e.val < 4000) by omega)).trans (Fin.ext (by show 4000 + e.val - 4000 = e.val; omega))
  simp only [h1, h2]
  congr 1
  simp [Finset.sum_ite_eq, eq_comm]

theorem edges_real (f g : Fin 4000 → Fin 62) {s t : IVec S1x4000 32} (hs : ∀ e, s (ix2 0 e) = BitVec.ofNat 32 (f e).val)
    (ht : ∀ e, t (ix2 0 e) = BitVec.ofNat 32 (g e).val) (i j : Fin 62) :
    edges (F := Ideal) s t (ix2 i j) = (count (ends f) (ends g) i j : EReal) := by
  pointwise [edges, ind_apply]
  have h : ∀ (i n : Fin 62), IntOp.cmpi .eq (BitVec.ofNat 32 i.val) (BitVec.ofNat 32 n.val) = 1#1 ↔ n = i := fun i n =>
    (cmp_eq _ _).trans ((word_inj (by omega) (by omega)).trans (eq_comm.trans Fin.ext_iff.symm))
  simp only [hs, ht, h]
  rw [count_ends, EReal.coe_add, coe_sum]
  refine congrArg₂ _ ?_ ?_
  · refine Finset.sum_congr rfl fun e _ => ?_
    rw [EReal.coe_mul]
    refine congrArg₂ _ ?_ ?_ <;> split <;> rfl
  · by_cases e : i = j
    · rw [if_pos e, if_pos e.symm]; rfl
    · rw [if_neg e, if_neg (Ne.symm e)]; rfl

theorem sources_apply (f : Fin 4000 → Fin 62) {a : IVec S2x4000 32} (ha : ∀ e, a (ix2 0 e) = BitVec.ofNat 32 (f e).val) (e : Fin 4062) :
    Cert.ReferenceIdeal.Ref.sources a (ix1 e) = BitVec.ofNat 32 (ends f e).val := by
  unfold ends
  pointwise [Cert.ReferenceIdeal.Ref.sources]
  split
  · exact ha _
  · rfl

theorem targets_apply (f : Fin 4000 → Fin 62) {a : IVec S2x4000 32} (ha : ∀ e, a (ix2 1 e) = BitVec.ofNat 32 (f e).val) (e : Fin 4062) :
    Cert.ReferenceIdeal.Ref.targets a (ix1 e) = BitVec.ofNat 32 (ends f e).val := by
  unfold ends
  pointwise [Cert.ReferenceIdeal.Ref.targets]
  split
  · exact ha _
  · rfl

end Cert.Value
-- ==== Proof.KernelFeat.lean ====
/- The kernel's arrays as functions of the arguments, and what they hold on arguments that are numbers. -/
module

public import proofs.«01_k».proof.Proof.Args
public import proofs.«01_k».proof.Proof.Readout
public import proofs.«01_k».proof.Proof.Edges

@[expose] public section

set_option maxRecDepth 16384

noncomputable section

namespace Cert.KernelIdeal.Taps

open Idealize.ShloMosaic Idealize.ShloMosaic.TcCoe
open Cert.KernelIdeal Cert.KernelIdeal.Gen Cert.Value
open Cert.ReferenceIdeal.Ref (act)

/-! ## The arrays -/

/-- The series, one row for each node of each batch entry. -/
def series (A : Args) : FVec Ideal S992x64 .f32 :=
  shapeCast S992x64 (extractStridedSlice S16x62x64 ![0, 0, 0] A.a0 slices_S16x63x64_S16x62x64_0_0_0) shapeCasts_S16x62x64_S992x64

/-- The positional channels, one row for each node of each batch entry. -/
def places (A : Args) : FVec Ideal S992x512 .f32 :=
  shapeCast S992x512 (transpose S16x62x32x16 [0, 2, 1, 3] A.a1 transposes_S16x32x62x16_S16x62x32x16_0_2_1_3) shapeCasts_S16x62x32x16_S992x512

/-- The first layer's weights, taps and channels in one axis. -/
def flat32 (w : FVec Ideal S16x32x1x2 .f32) : FVec Ideal S16x64 .f32 := shapeCast S16x64 w shapeCasts_S16x32x1x2_S16x64
/-- A later layer's weights, taps and channels in one axis. -/
def flat16 (w : FVec Ideal S16x16x1x2 .f32) : FVec Ideal S16x32 .f32 := shapeCast S16x32 w shapeCasts_S16x16x1x2_S16x32
/-- A bias as a column. -/
def col16 (b : FVec Ideal S16 .f32) : FVec Ideal S16x1 .f32 := broadcastInDim S16x1 ![0] bcast_S16_S16x1_0 b
/-- A bias as a column. -/
def col32 (b : FVec Ideal S32 .f32) : FVec Ideal S32x1 .f32 := broadcastInDim S32x1 ![0] bcast_S32_S32x1_0 b
/-- A bias as a row. -/
def row512 (b : FVec Ideal S512 .f32) : FVec Ideal S1x512 .f32 := broadcastInDim S1x512 ![1] bcast_S512_S1x512_1 b
/-- One number as a matrix. -/
def one1 (b : FVec Ideal S1 .f32) : FVec Ideal S1x1 .f32 := shapeCast S1x1 b shapeCasts_S1_S1x1
/-- A row cut into eight. -/
def eight (b : FVec Ideal S512 .f32) : FVec Ideal S8x64 .f32 := shapeCast S8x64 b shapeCasts_S512_S8x64

section
variable (w0 : FVec Ideal S16x32x1x2 .f32) (b0 : FVec Ideal S16 .f32) (w1 : FVec Ideal S16x16x1x2 .f32) (b1 : FVec Ideal S16 .f32)
  (w2 : FVec Ideal S16x16x1x2 .f32) (b2 : FVec Ideal S16 .f32) (ws : FVec Ideal S32x1 .f32) (wb : FVec Ideal S32 .f32)

/-- The matrix that a branch multiplies the series by. -/
def bandN : FVec Ideal S64x1024 .f32 := nodeBand (flat32 w0) (flat16 w1) (flat16 w2) ws
/-- The bias of a branch over the series. -/
def biasN : FVec Ideal S16x64 .f32 := biasNode (flat32 w0) (flat16 w1) (flat16 w2) (col16 b0) (col16 b1) (col16 b2) (col32 wb)
/-- The matrix that a branch multiplies the positional channels by. -/
def bandP : FVec Ideal S512x256 .f32 := posBand (flat32 w0) (flat16 w1) (flat16 w2)
/-- The matrix that a branch multiplies the last times of the series by. -/
def edgeP : FVec Ideal S8x256 .f32 := posEdge (flat32 w0) (flat16 w1) (flat16 w2) ws
/-- The bias of a branch over the positions. -/
def biasP : FVec Ideal S16x16 .f32 := biasPos (flat32 w0) (flat16 w1) (flat16 w2) (col16 b0) (col16 b1) (col16 b2) (col32 wb)

/-- A branch over the series. -/
def lineN (A : Args) : FVec Ideal S992x1024 .f32 :=
  nodeLin (series A) (bandN w0 w1 w2 A.a3) (shapeCast S1x1024 (biasN w0 b0 w1 b1 w2 b2 A.a4) shapeCasts_S16x64_S1x1024)
/-- A branch over the positions. -/
def lineP (A : Args) : FVec Ideal S992x256 .f32 :=
  posLin (series A) (places A) (bandP w0 w1 w2) (edgeP w0 w1 w2 A.a3) (shapeCast S1x256 (biasP w0 b0 w1 b1 w2 b2 A.a4) shapeCasts_S16x16_S1x256)
end

/-- The node features. -/
def featN (A : Args) : FVec Ideal S992x1024 .f32 :=
  gate (lineN A.a5 A.a6 A.a7 A.a8 A.a9 A.a10 A) (lineN A.a11 A.a12 A.a13 A.a14 A.a15 A.a16 A) (lineN A.a17 A.a18 A.a19 A.a20 A.a21 A.a22 A)

/-- The positional features. -/
def featP (A : Args) : FVec Ideal S992x256 .f32 :=
  gate (lineP A.a5 A.a6 A.a7 A.a8 A.a9 A.a10 A) (lineP A.a11 A.a12 A.a13 A.a14 A.a15 A.a16 A) (lineP A.a17 A.a18 A.a19 A.a20 A.a21 A.a22 A)

/-! ## Their entries -/

/-- The row of node `n` of batch entry `b` is its series. -/
theorem series_apply (A : Args) (b : Fin 16) (n : Fin 62) (k : Fin 64) :
    series A (ix2 ⟨b.val * 62 + n.val, by omega⟩ k) = A.a0 (ix3 b ⟨n.val, by omega⟩ k) := by
  have e1 : ∀ h, (⟨(b.val * 62 + n.val) / 62, h⟩ : Fin 16) = b := fun h => Fin.ext (by show (b.val * 62 + n.val) / 62 = b.val; omega)
  have e2 : (b.val * 62 + n.val) % 62 = n.val := by omega
  pointwise [series]

/-- The row of node `n` of batch entry `b` holds the node's positional channels, channel by channel. -/
theorem places_apply (A : Args) (b : Fin 16) (n : Fin 62) (i : Fin 32) (v : Fin 16) :
    places A (ix2 ⟨b.val * 62 + n.val, by omega⟩ ⟨i.val * 16 + v.val, by omega⟩) = A.a1 (ix4 b i n v) := by
  have e1 : ∀ h, (⟨(b.val * 62 + n.val) / 62, h⟩ : Fin 16) = b := fun h => Fin.ext (by show (b.val * 62 + n.val) / 62 = b.val; omega)
  have e2 : ∀ h, (⟨(b.val * 62 + n.val) % 62, h⟩ : Fin 62) = n := fun h => Fin.ext (by show (b.val * 62 + n.val) % 62 = n.val; omega)
  have e3 : ∀ h, (⟨(i.val * 16 + v.val) / 16, h⟩ : Fin 32) = i := fun h => Fin.ext (by show (i.val * 16 + v.val) / 16 = i.val; omega)
  have e4 : ∀ h, (⟨(i.val * 16 + v.val) % 16, h⟩ : Fin 16) = v := fun h => Fin.ext (by show (i.val * 16 + v.val) % 16 = v.val; omega)
  pointwise [places]

/-- The first layer's weights as a matrix of numbers. -/
theorem flat32_real {w : FVec Ideal S16x32x1x2 .f32} (h : Num w) (o : Fin 16) (k : Fin (2 * 32)) : flat32 w (ix2 o k) = (lay32 w o k : EReal) := by
  have e : flat32 w (ix2 o k) = w (ix4 o ⟨k.val / 2, by omega⟩ 0 ⟨k.val % 2, by omega⟩) := by pointwise [flat32]
  rw [e, lay32]; exact h _

/-- A later layer's weights as a matrix of numbers. -/
theorem flat16_real {w : FVec Ideal S16x16x1x2 .f32} (h : Num w) (o : Fin 16) (k : Fin (2 * 16)) : flat16 w (ix2 o k) = (lay16 w o k : EReal) := by
  have e : flat16 w (ix2 o k) = w (ix4 o ⟨k.val / 2, by omega⟩ 0 ⟨k.val % 2, by omega⟩) := by pointwise [flat16]
  rw [e, lay16]; exact h _

/-- A bias as a column of numbers. -/
theorem col16_real {b : FVec Ideal S16 .f32} (h : Num b) (o : Fin 16) : col16 b (ix2 o 0) = (vec b o : EReal) := by
  have e : col16 b (ix2 o 0) = b (ix1 o) := by pointwise [col16]
  rw [e]; exact h _

/-- A column holds the vector. -/
theorem col32_apply (b : FVec Ideal S32 .f32) (o : Fin 32) : col32 b (ix2 o 0) = b (ix1 o) := by pointwise [col32]
/-- A row holds the vector. -/
theorem row512_apply (b : FVec Ideal S512 .f32) (k : Fin 512) : row512 b (ix2 0 k) = b (ix1 k) := by pointwise [row512]
/-- One number, as a matrix. -/
theorem one1_apply (b : FVec Ideal S1 .f32) : one1 b (ix2 0 0) = b (ix1 0) := by pointwise [one1]
/-- The bias of the attention, cut into eight rows. -/
theorem eight_apply (b : FVec Ideal S512 .f32) (r : Fin 8) (t : Fin 64) : eight b (ix2 r t) = b (ix1 ⟨r.val * 64 + t.val, by omega⟩) := by
  pointwise [eight]

section
variable {A : Args} (hA : Fine A) {w0 : FVec Ideal S16x32x1x2 .f32} {b0 : FVec Ideal S16 .f32} {w1 : FVec Ideal S16x16x1x2 .f32}
    {b1 : FVec Ideal S16 .f32} {w2 : FVec Ideal S16x16x1x2 .f32} {b2 : FVec Ideal S16 .f32} (h0 : Num w0) (k0 : Num b0) (h1 : Num w1)
    (k1 : Num b1) (h2 : Num w2) (k2 : Num b2) (b : Fin 16) (o : Fin 16) (n : Fin 62)
include hA h0 k0 h1 k1 h2 k2

/-- A branch of the second launch over the series is the composed convolutions at the same time. -/
theorem lineN_real (t : Fin 64) : lineN w0 b0 w1 b1 w2 b2 A (ix2 ⟨b.val * 62 + n.val, by omega⟩ ⟨o.val * 64 + t.val, by omega⟩)
    = (line w0 b0 w1 b1 w2 b2 (wave A b n) t.val o : EReal) := by
  refine nodeLin_real (flat32_real h0) (flat16_real h1) (flat16_real h2) (col16_real k0) (col16_real k1) (col16_real k2) (wb := col32 A.a4)
    (fun i => hA.n3 _) (fun i => (col32_apply _ i).trans (hA.n4 _)) _
    (P := fun i v => EReal.toReal (A.a1 (ix4 b i n v))) (fun k => (series_apply A b n k).trans (hA.n0 b n k)) o t ?_
  have e1 : ∀ h, (⟨(o.val * 64 + t.val) / 64, h⟩ : Fin 16) = o := fun h => Fin.ext (by show (o.val * 64 + t.val) / 64 = o.val; omega)
  have e2 : ∀ h, (⟨(o.val * 64 + t.val) % 64, h⟩ : Fin 64) = t := fun h => Fin.ext (by show (o.val * 64 + t.val) % 64 = t.val; omega)
  pointwise
  simp only [e1, e2, biasN]

/-- A branch of the second launch over the positions is the composed convolutions at the times after the series. -/
theorem lineP_real (u : Fin 16) : lineP w0 b0 w1 b1 w2 b2 A (ix2 ⟨b.val * 62 + n.val, by omega⟩ ⟨o.val * 16 + u.val, by omega⟩)
    = (line w0 b0 w1 b1 w2 b2 (wave A b n) (64 + u.val) o : EReal) := by
  refine posLin_real (flat32_real h0) (flat16_real h1) (flat16_real h2) (col16_real k0) (col16_real k1) (col16_real k2) (wb := col32 A.a4)
    (fun i => hA.n3 _) (fun i => (col32_apply _ i).trans (hA.n4 _)) _
    (fun k => (series_apply A b n k).trans (hA.n0 b n k)) (fun i v => (places_apply A b n i v).trans (hA.n1 _)) o u ?_
  have e1 : ∀ h, (⟨(o.val * 16 + u.val) / 16, h⟩ : Fin 16) = o := fun h => Fin.ext (by show (o.val * 16 + u.val) / 16 = o.val; omega)
  have e2 : ∀ h, (⟨(o.val * 16 + u.val) % 16, h⟩ : Fin 16) = u := fun h => Fin.ext (by show (o.val * 16 + u.val) % 16 = u.val; omega)
  pointwise
  simp only [e1, e2, biasP]
end

/-- The gated unit on numbers. -/
theorem gate_real {s : Shape} {a g r : FVec Ideal s .f32} {x y z : ℝ} {i : s.Idx} (ha : a i = (x : EReal)) (hg : g i = (y : EReal))
    (hr : r i = (z : EReal)) : gate a g r i = (act x y z : EReal) := by
  have zero : (FloatOps.ofBits .f32 0x00000000#32 : Ideal .f32) = ((0 : ℝ) : EReal) := Ideal.ofBits_zero_f32
  show max (Ideal.tanh (a i) * Ideal.logistic (g i) + r i) (FloatOps.ofBits .f32 0x00000000#32 : Ideal .f32) = _
  rw [zero, ha, hg, hr, Ideal.tanh_coe, Ideal.logistic_coe, ← EReal.coe_mul, ← EReal.coe_add, ← EReal.coe_strictMono.monotone.map_max, act]

section
variable {A : Args} (hA : Fine A)
include hA

/-- The node features are the gated features at the times of the series. -/
theorem featN_real (b : Fin 16) (n : Fin 62) (k : Fin 1024) :
    featN A (ix2 ⟨b.val * 62 + n.val, by omega⟩ k) = (feat A b n (k.val % 64) ⟨k.val / 64, by omega⟩ : EReal) := by
  have e : k = ⟨(⟨k.val / 64, by omega⟩ : Fin 16).val * 64 + (⟨k.val % 64, by omega⟩ : Fin 64).val, by omega⟩ :=
    Fin.ext (by show k.val = k.val / 64 * 64 + k.val % 64; omega)
  have h : ∀ (o : Fin 16) (t : Fin 64), featN A (ix2 ⟨b.val * 62 + n.val, by omega⟩ ⟨o.val * 64 + t.val, by omega⟩) = (feat A b n t.val o : EReal) :=
    fun o t => gate_real (lineN_real hA hA.n5 hA.n6 hA.n7 hA.n8 hA.n9 hA.n10 b o n t)
      (lineN_real hA hA.n11 hA.n12 hA.n13 hA.n14 hA.n15 hA.n16 b o n t) (lineN_real hA hA.n17 hA.n18 hA.n19 hA.n20 hA.n21 hA.n22 b o n t)
  exact (congrArg (fun k => featN A (ix2 ⟨b.val * 62 + n.val, by omega⟩ k)) e).trans (h _ _)

/-- The positional features are the gated features at the times after the series. -/
theorem featP_real (b : Fin 16) (n : Fin 62) (o u : Fin 16) :
    featP A (ix2 ⟨b.val * 62 + n.val, by omega⟩ ⟨o.val * 16 + u.val, by omega⟩) = (feat A b n (64 + u.val) o : EReal) :=
  gate_real (lineP_real hA hA.n5 hA.n6 hA.n7 hA.n8 hA.n9 hA.n10 b o n u)
    (lineP_real hA hA.n11 hA.n12 hA.n13 hA.n14 hA.n15 hA.n16 b o n u) (lineP_real hA hA.n17 hA.n18 hA.n19 hA.n20 hA.n21 hA.n22 b o n u)

/-- A dense layer on the node features. -/
theorem dense_lin (W : FVec Ideal S1024x512 .f32) (c : FVec Ideal S512 .f32) (b : Fin 16) (n : Fin 62) (k : Fin 512) :
    dense (featN A) W (row512 c) (ix2 ⟨b.val * 62 + n.val, by omega⟩ k) = lin A W c b n k := by
  have e : dense (featN A) W (row512 c) (ix2 ⟨b.val * 62 + n.val, by omega⟩ k)
      = ∑ x, featN A (ix2 ⟨b.val * 62 + n.val, by omega⟩ x) * W (ix2 x k) + row512 c (ix2 0 k) := by pointwise [dense]
  rw [e, lin, row512_apply]
  simp only [featN_real hA]

/-- The layer on the positional features. -/
theorem posDense_mixed (b : Fin 16) (n : Fin 62) (o : Fin 32) (u : Fin 16) :
    posDense (featP A) (mixPos A.a23) (mixBias (col32 A.a24)) (ix2 ⟨b.val * 62 + n.val, by omega⟩ ⟨o.val * 16 + u.val, by omega⟩) = mixed A b o n u := by
  have e : posDense (featP A) (mixPos A.a23) (mixBias (col32 A.a24)) (ix2 ⟨b.val * 62 + n.val, by omega⟩ ⟨o.val * 16 + u.val, by omega⟩)
      = ∑ x, featP A (ix2 ⟨b.val * 62 + n.val, by omega⟩ x) * mixPos A.a23 (ix2 x ⟨o.val * 16 + u.val, by omega⟩)
        + mixBias (col32 A.a24) (ix2 0 ⟨o.val * 16 + u.val, by omega⟩) := by pointwise [posDense]
  have e1 : ∀ h, (⟨(o.val * 16 + u.val) / 16, h⟩ : Fin 32) = o := fun h => Fin.ext (by show (o.val * 16 + u.val) / 16 = o.val; omega)
  have e2 : (o.val * 16 + u.val) % 16 = u.val := by omega
  rw [e, mixed, mixBias_apply, col32_apply, e1]
  refine congrArg₂ _ ?_ rfl
  have h1 : ∀ x : Fin 256, featP A (ix2 ⟨b.val * 62 + n.val, by omega⟩ x) * mixPos A.a23 (ix2 x ⟨o.val * 16 + u.val, by omega⟩)
      = if x.val % 16 = u.val then featP A (ix2 ⟨b.val * 62 + n.val, by omega⟩ x) * A.a23 (ix2 o ⟨x.val / 16, by omega⟩) else 0 := fun x => by
    rw [mixPos_apply]
    simp only [e1, e2]
    split
    · rfl
    · exact mul_zero _
  rw [Finset.sum_congr rfl fun x _ => h1 x, sum_comb (p := 16) (q := 16) rfl u]
  refine Finset.sum_congr rfl fun x _ => ?_
  have e3 : ∀ h, (⟨(x.val * 16 + u.val) / 16, h⟩ : Fin 16) = x := fun h => Fin.ext (by show (x.val * 16 + u.val) / 16 = x.val; omega)
  rw [featP_real hA]
  simp only [e3]

end

end Cert.KernelIdeal.Taps
-- ==== Proof.Attend.lean ====
/- What a step of the third launch writes, as a plain function of the blocks that it reads.

   One head scores every pair of nodes, keeps the pairs that have an edge, norms the weights with the edges counted, and
   takes the readout's node weights through them; the readout over the rows comes last. -/
module

public import proofs.«01_k».proof.Proof.Front
public import proofs.«01_k».proof.Proof.Gen.KernelIdeal.Frame.Region2
public import proofs.«01_k».proof.Proof.Softmax
public import proofs.«01_k».proof.Proof.Bands
public import Idealize.ShloMosaic.Lib.Pointwise

@[expose] public section

set_option maxRecDepth 16384

noncomputable section

namespace Cert.KernelIdeal.Taps

open Idealize.ShloMosaic Idealize.ShloMosaic.TcCoe
open Cert.KernelIdeal Cert.KernelIdeal.Gen

section
variable {F : FTy → Type} [FloatOps F] [Named F]

/-- The score of every pair of nodes. -/
def pairScore (l r : FVec F S62x256 .f32) (a : FVec F S1x256 .f32) : FVec F S62x62 .f32 :=
  let z := addf (broadcastTo S62x62x256 (shapeCast S1x62x256 l shapeCasts_S62x256_S1x62x256) broadcasts_S1x62x256_S62x62x256)
    (broadcastTo S62x62x256 (shapeCast S62x1x256 r shapeCasts_S62x256_S62x1x256) broadcasts_S62x1x256_S62x62x256)
  multiReduction .add [2] S62x62
    (mulf (select (cmpf .oge z (broadcast S62x62x256 (Scalar.ofBits .f32 0x00000000#32))) z
        (mulf (broadcast S62x62x256 (Scalar.ofBits .f32 0x3E4CCCCD#32)) z))
      (broadcastTo S62x62x256 (shapeCast S1x1x256 (shapeCast S256 a shapeCasts_S1x256_S256) shapeCasts_S256_S1x1x256)
        broadcasts_S1x1x256_S62x62x256))
    0x00000000#32 reduces_S62x62x256_S62x62 (.inl rfl) rfl

/-- The scores of the pairs that have an edge. -/
def masked (M s : FVec F S62x62 .f32) : FVec F S62x62 .f32 :=
  select (cmpf .ogt M (broadcast S62x62 (Scalar.ofBits .f32 0x00000000#32))) s (broadcast S62x62 (Named.named κ "mask" 0xF149F2CA#32))

/-- The largest score of each row. -/
def rowTop (s : FVec F S62x62 .f32) : FVec F S62x62 .f32 :=
  broadcastTo S62x62 (shapeCast S62x1 (multiReduction .maximumf [1] S62 s 0xFF800000#32 reduces_S62x62_S62 (.inl rfl) rfl) shapeCasts_S62_S62x1)
    broadcasts_S62x1_S62x62

/-- The weights before they are normed, every edge counted. -/
def rowExp (M s : FVec F S62x62 .f32) : FVec F S62x62 .f32 := mulf (exp (subf s (rowTop s))) M

/-- The normed weights. -/
def rowNorm (p : FVec F S62x62 .f32) : FVec F S62x62 .f32 :=
  divf p (broadcastTo S62x62 (addf (shapeCast S62x1 (multiReduction .add [1] S62 p 0x00000000#32 reduces_S62x62_S62 (.inl rfl) rfl) shapeCasts_S62_S62x1)
    (broadcast S62x1 (Scalar.ofBits .f32 0x24E69595#32))) broadcasts_S62x1_S62x62)

/-- One head. -/
def headOut (M : FVec F S62x62 .f32) (l r : FVec F S62x256 .f32) (a : FVec F S1x256 .f32) (w : FVec F S1x62 .f32) : FVec F S1x256 .f32 :=
  matmul dot_S1x62_S62x256_S1x256_1_0_0_1_n_n none
    (matmul dot_S1x62_S62x62_S1x62_1_0_0_1_n_n none w (rowNorm (rowExp M (masked M (pairScore l r a)))) (constant S1x62 .f32 0x00000000#32))
    l (constant S1x256 .f32 0x00000000#32)

/-- Both heads. -/
def heads (l r : FVec F S62x512 .f32) (a : FVec F S2x256 .f32) (M : FVec F S62x62 .f32) (w : FVec F S1x62 .f32) : FVec F S1x512 .f32 :=
  concatenate S1x512 1
    [⟨S1x256, headOut M (extractStridedSlice S62x256 ![0, 0] l slices_S62x512_o0_0_S62x256)
        (extractStridedSlice S62x256 ![0, 0] r slices_S62x512_o0_0_S62x256) (extractStridedSlice S1x256 ![0, 0] a slices_S2x256_o0_0_S1x256) w⟩,
     ⟨S1x256, headOut M (extractStridedSlice S62x256 ![0, 256] l slices_S62x512_o0_256_S62x256)
        (extractStridedSlice S62x256 ![0, 256] r slices_S62x512_o0_256_S62x256) (extractStridedSlice S1x256 ![1, 0] a slices_S2x256_o1_0_S1x256) w⟩]
    concatenates_S1x256_S1x256_S1x512_d1

/-- The prediction of one batch entry. -/
def blockOut (x0 x1 : FVec F S1x62x512 .f32) (x2 : FVec F S2x256 .f32) (x3 : FVec F S62x62 .f32) (x4 : FVec F S1x62 .f32)
    (x5 : FVec F S512x64 .f32) (x6 : FVec F S1x64 .f32) : FVec F S1x1x64 .f32 :=
  shapeCast S1x1x64 (logistic (addf (matmul dot_S1x512_S512x64_S1x64_1_0_0_1_n_n none
      (heads (shapeCast S62x512 x0 shapeCasts_S1x62x512_S62x512) (shapeCast S62x512 x1 shapeCasts_S1x62x512_S62x512) x2
        (shapeCast S62x62 x3 shapeCasts_S62x62_S62x62) x4)
      (shapeCast S512x64 x5 shapeCasts_S512x64_S512x64) (constant S1x64 .f32 0x00000000#32))
    (shapeCast S1x64 x6 shapeCasts_S1x64_S1x64))) shapeCasts_S1x64_S1x1x64

theorem zeros2 : (![0, 0] : Fin 2 → ℕ) = fun _ => 0 := by funext a; fin_cases a <;> rfl
theorem zeros3 : (![0, 0, 0] : Fin 3 → ℕ) = fun _ => 0 := by funext a; fin_cases a <;> rfl

theorem out2_7_eq (x0 x1 : Vec F S1x62x512 .f32) (x2 : Vec F S2x256 .f32) (x3 : Vec F S62x62 .f32) (x4 : Vec F S1x62 .f32)
    (x5 : Vec F S512x64 .f32) (x6 : Vec F S1x64 .f32) : out2_7 x0 x1 x2 x3 x4 x5 x6 = blockOut x0 x1 x2 x3 x4 x5 x6 := by
  unfold out2_7
  rw [View.canon_unit_zero zeros3]
  simp only [View.ld_unit_zero (S := S1x62x512) zeros3, View.ld_unit_zero (S := S2x256) zeros2, View.ld_unit_zero (S := S62x62) zeros2,
    View.ld_unit_zero (S := S1x62) zeros2, View.ld_unit_zero (S := S512x64) zeros2, View.ld_unit_zero (S := S1x64) zeros2]
  rfl

end

open Cert.Value

theorem blockOut_apply (x0 x1 : FVec Ideal S1x62x512 .f32) (x2 : FVec Ideal S2x256 .f32) (x3 : FVec Ideal S62x62 .f32) (x4 : FVec Ideal S1x62 .f32)
    (x5 : FVec Ideal S512x64 .f32) (x6 : FVec Ideal S1x64 .f32) (t : Fin 64) : blockOut x0 x1 x2 x3 x4 x5 x6 (ix3 0 0 t)
      = Ideal.logistic (∑ k : Fin 512, heads (shapeCast S62x512 x0 shapeCasts_S1x62x512_S62x512) (shapeCast S62x512 x1 shapeCasts_S1x62x512_S62x512) x2
        x3 x4 (ix2 0 k) * x5 (ix2 k t) + x6 (ix2 0 t)) := by
  pointwise [blockOut]

theorem pairScore_apply (l r : FVec Ideal S62x256 .f32) (a : FVec Ideal S1x256 .f32) (i j : Fin 62) :
    pairScore l r a (ix2 i j) = edgeScore (fun x => l (ix2 j x)) (fun x => r (ix2 i x)) (fun x => a (ix2 0 x)) := by
  pointwise [pairScore, edgeScore]

theorem masked_apply (M s : FVec Ideal S62x62 .f32) (i j : Fin 62) :
    masked M s (ix2 i j) = if 0 < M (ix2 i j) then s (ix2 i j) else ⊥ := by
  have e : (Named.named κ "mask" 0xF149F2CA#32 : Ideal .f32) = ⊥ := IdealRules.named_const.ideal_named_scalar _ _ _ _ rfl
  rw [← e]
  pointwise [masked]

theorem rowTop_apply (s : FVec Ideal S62x62 .f32) (i j : Fin 62) :
    rowTop s (ix2 i j) = Finset.univ.fold max ⊥ fun x => s (ix2 i x) := by
  have e : (⊥ : EReal) = Ideal.ofBits FTy.f32 0xFF800000#32 := by simp [Ideal.ofBits, Ideal.ieee]
  rw [e]
  pointwise [rowTop]

theorem rowExp_apply (M s : FVec Ideal S62x62 .f32) (i j : Fin 62) :
    rowExp M s (ix2 i j) = Ideal.exp (s (ix2 i j) - rowTop s (ix2 i j)) * M (ix2 i j) := by
  pointwise [rowExp]

theorem rowNorm_apply (s : FVec Ideal S62x62 .f32) (i j : Fin 62) :
    rowNorm s (ix2 i j) = Ideal.div (s (ix2 i j)) (∑ x, s (ix2 i x) + Ideal.ofBits FTy.f32 0x24E69595#32) := by
  pointwise [rowNorm]

theorem headOut_apply (M : FVec Ideal S62x62 .f32) (l r : FVec Ideal S62x256 .f32) (a : FVec Ideal S1x256 .f32) (w : FVec Ideal S1x62 .f32) (c : Fin 256) :
    headOut M l r a w (ix2 0 c)
      = ∑ x : Fin 62, (∑ y : Fin 62, w (ix2 0 y) * rowNorm (rowExp M (masked M (pairScore l r a))) (ix2 y x)) * l (ix2 x c) := by
  pointwise [headOut]

section
variable {ι : Type*} [Fintype ι] (src dst : ι → Fin 62)

/-- The normed weights of a head, the matrix of the edges holding their counts. -/
theorem rowNorm_real {M : FVec Ideal S62x62 .f32} (hM : ∀ i j, M (ix2 i j) = (count src dst i j : EReal))
    (S : FVec Ideal S62x62 .f32) {s : Fin 62 → Fin 62 → EReal} (hS : ∀ i j, S (ix2 i j) = s i j) (i j : Fin 62) :
    rowNorm (rowExp M (masked M S)) (ix2 i j)
      = (count src dst i j * soft src dst s i j * (1 / (norm src dst s i + tiny)) : ℝ) := by
  have hm : ∀ i j, masked M S (ix2 i j) = if 0 < count src dst i j then s i j else ⊥ := fun i j => by
    rw [masked_apply, hM, hS]
    simp only [EReal.coe_pos]
  have he : ∀ i j, rowExp M (masked M S) (ix2 i j) = (count src dst i j * soft src dst s i j : ℝ) := fun i j => by
    rw [rowExp_apply, rowTop_apply, hm, hM]
    simp only [hm]
    exact exp_masked src dst s i j
  rw [rowNorm_apply]
  simp only [he]
  rw [← coe_sum, tiny_word.1, ← EReal.coe_add]
  rw [show ∑ x, count src dst i x * soft src dst s i x = norm src dst s i from rfl]
  rw [Ideal.div_coe (ne_of_gt (add_pos_of_nonneg_of_pos (norm_nonneg src dst s i) tiny_word.2)), ← EReal.coe_mul]

/-- A head's row: what the nodes gather, weighed by the readout's node weights. -/
theorem headOut_real {M : FVec Ideal S62x62 .f32} (hM : ∀ i j, M (ix2 i j) = (count src dst i j : EReal))
    {l r : FVec Ideal S62x256 .f32} {a : FVec Ideal S1x256 .f32} {w : FVec Ideal S1x62 .f32} {L : Fin 62 → Fin 256 → ℝ} {v : Fin 62 → ℝ}
    (hl : ∀ j x, l (ix2 j x) = (L j x : EReal)) (hw : ∀ i, w (ix2 0 i) = (v i : EReal)) (c : Fin 256) :
    headOut M l r a w (ix2 0 c)
      = (∑ i, v i * gain src dst (fun i j => edgeScore (fun x => l (ix2 j x)) (fun x => r (ix2 i x)) fun x => a (ix2 0 x)) tiny
          (fun j => L j c) i : ℝ) := by
  rw [headOut_apply]
  simp only [rowNorm_real src dst hM _ (pairScore_apply l r a), hl, hw, ← EReal.coe_mul, ← coe_sum]
  congr 1
  simp only [gain, Finset.sum_mul, Finset.mul_sum]
  rw [Finset.sum_comm]
  refine Finset.sum_congr rfl fun i _ => Finset.sum_congr rfl fun j _ => ?_
  ring

end

/-- Both heads' row, head by head. -/
theorem heads_apply (l r : FVec Ideal S62x512 .f32) (a : FVec Ideal S2x256 .f32) (M : FVec Ideal S62x62 .f32) (w : FVec Ideal S1x62 .f32) (k : Fin 512) :
    heads l r a M w (ix2 0 k) = if h : k.val < 256 then
        headOut M (extractStridedSlice S62x256 ![0, 0] l slices_S62x512_o0_0_S62x256)
          (extractStridedSlice S62x256 ![0, 0] r slices_S62x512_o0_0_S62x256) (extractStridedSlice S1x256 ![0, 0] a slices_S2x256_o0_0_S1x256) w
          (ix2 0 ⟨k.val, h⟩)
      else headOut M (extractStridedSlice S62x256 ![0, 256] l slices_S62x512_o0_256_S62x256)
        (extractStridedSlice S62x256 ![0, 256] r slices_S62x512_o0_256_S62x256) (extractStridedSlice S1x256 ![1, 0] a slices_S2x256_o1_0_S1x256) w
        (ix2 0 ⟨k.val - 256, by omega⟩) := by
  pointwise [heads]

theorem part0 (l : FVec Ideal S62x512 .f32) (j : Fin 62) (x : Fin 256) :
    extractStridedSlice S62x256 ![0, 0] l slices_S62x512_o0_0_S62x256 (ix2 j x) = l (ix2 j ⟨x.val, by omega⟩) := by
  pointwise

theorem part1 (l : FVec Ideal S62x512 .f32) (j : Fin 62) (x : Fin 256) :
    extractStridedSlice S62x256 ![0, 256] l slices_S62x512_o0_256_S62x256 (ix2 j x) = l (ix2 j ⟨256 + x.val, by omega⟩) := by
  pointwise

theorem att0 (a : FVec Ideal S2x256 .f32) (x : Fin 256) :
    extractStridedSlice S1x256 ![0, 0] a slices_S2x256_o0_0_S1x256 (ix2 0 x) = a (ix2 0 x) := by
  pointwise

theorem att1 (a : FVec Ideal S2x256 .f32) (x : Fin 256) :
    extractStridedSlice S1x256 ![1, 0] a slices_S2x256_o1_0_S1x256 (ix2 0 x) = a (ix2 1 x) := by
  pointwise

/-- Both heads' row. -/
theorem heads_real {ι : Type*} [Fintype ι] (src dst : ι → Fin 62) {M : FVec Ideal S62x62 .f32}
    (hM : ∀ i j, M (ix2 i j) = (count src dst i j : EReal)) {l r : FVec Ideal S62x512 .f32} {a : FVec Ideal S2x256 .f32}
    {w : FVec Ideal S1x62 .f32} {L : Fin 62 → Fin 512 → ℝ} {v : Fin 62 → ℝ} (hl : ∀ j x, l (ix2 j x) = (L j x : EReal))
    (hw : ∀ i, w (ix2 0 i) = (v i : EReal)) (k : Fin 512) :
    heads l r a M w (ix2 0 k)
      = (∑ i, v i * gain src dst (colScore (fun j x => l (ix2 j x)) (fun i x => r (ix2 i x)) (fun h x => a (ix2 h x)) k) tiny (fun j => L j k) i : ℝ) := by
  rw [heads_apply]
  split
  · next h =>
    rw [headOut_real src dst hM (L := fun j x => L j ⟨x.val, by omega⟩) (fun j x => by rw [part0, hl]) hw]
    have e : k.val / 256 = 0 := by omega
    have e1 : ∀ x : Fin 256, (⟨k.val / 256 * 256 + x.val, by omega⟩ : Fin 512) = ⟨x.val, by omega⟩ := fun x => Fin.ext (by show k.val / 256 * 256 + x.val = x.val; omega)
    have e2 : (⟨k.val / 256, by omega⟩ : Fin 2) = 0 := Fin.ext e
    have es : colScore (fun j x => l (ix2 j x)) (fun i x => r (ix2 i x)) (fun h x => a (ix2 h x)) k = fun i j =>
        edgeScore (fun x => l (ix2 j ⟨x.val, by omega⟩)) (fun x => r (ix2 i ⟨x.val, by omega⟩)) fun x => a (ix2 0 x) := by
      funext i j; unfold colScore; rw [e2]; simp only [e1]
    rw [es]
    simp only [part0, att0]
  · next h =>
    rw [headOut_real src dst hM (L := fun j x => L j ⟨256 + x.val, by omega⟩) (fun j x => by rw [part1, hl]) hw]
    have e : k.val / 256 = 1 := by omega
    have e1 : ∀ x : Fin 256, (⟨k.val / 256 * 256 + x.val, by omega⟩ : Fin 512) = ⟨256 + x.val, by omega⟩ := fun x => Fin.ext (by show k.val / 256 * 256 + x.val = 256 + x.val; omega)
    have e2 : (⟨k.val / 256, by omega⟩ : Fin 2) = 1 := Fin.ext e
    have e3 : (⟨256 + (k.val - 256), by omega⟩ : Fin 512) = k := Fin.ext (by show 256 + (k.val - 256) = k.val; omega)
    have es : colScore (fun j x => l (ix2 j x)) (fun i x => r (ix2 i x)) (fun h x => a (ix2 h x)) k = fun i j =>
        edgeScore (fun x => l (ix2 j ⟨256 + x.val, by omega⟩)) (fun x => r (ix2 i ⟨256 + x.val, by omega⟩)) fun x => a (ix2 1 x) := by
      funext i j; unfold colScore; rw [e2]; simp only [e1]
    rw [es]
    simp only [part1, att1, e3]

end Cert.KernelIdeal.Taps
-- ==== Proof.Arrays0.lean ====
/- What the first launch leaves in each array that it writes. -/
module

public import proofs.«01_k».proof.Proof.Attend
public import proofs.«01_k».proof.Proof.Launch0
public import Idealize.ShloMosaic.Lib.Pipeline.ValueKit.Geometry

@[expose] public section

set_option maxRecDepth 16384

noncomputable section

namespace Cert.KernelIdeal.Gen

open Idealize.ShloMosaic Idealize.ShloMosaic.TcCoe
open Idealize.ShloMosaic.Pipeline (Dat Cfg Window)
open Cert.KernelIdeal.Taps (zeros2 zeros3)

variable {F : FTy → Type} [FloatOps F] [Named F]
variable (V : (c : Dev nD) → (b : Ref sig .tc) → Buf (Elt F) ((c : Thread nD τ).loc b))

/-- The launch's only step. -/
abbrev point0 : Fin cfg0.N := ⟨0, by decide⟩

/-! Each input is read whole. -/

theorem block0_0 (c : Dev nD) (t : Fin cfg0.N) : iblk0 V c 0 t = V c main_v5 := by
  funext j
  show V c main_v5 (((cfg0.win 0).blk t).view.emb j) = V c main_v5 j
  congr 1
  funext a
  apply Fin.ext
  fin_cases a
  · show 0 * _ + 1 * (j 0).val = (j 0).val; omega
  · show 0 * _ + 1 * (j 1).val = (j 1).val; omega

theorem block0_1 (c : Dev nD) (t : Fin cfg0.N) : iblk0 V c 1 t = V c main_v6 := by
  funext j
  show V c main_v6 (((cfg0.win 1).blk t).view.emb j) = V c main_v6 j
  congr 1
  funext a
  apply Fin.ext
  fin_cases a
  · show 0 * _ + 1 * (j 0).val = (j 0).val; omega
  · show 0 * _ + 1 * (j 1).val = (j 1).val; omega

theorem block0_2 (c : Dev nD) (t : Fin cfg0.N) : iblk0 V c 2 t = V c main_v7 := by
  funext j
  show V c main_v7 (((cfg0.win 2).blk t).view.emb j) = V c main_v7 j
  congr 1
  funext a
  apply Fin.ext
  fin_cases a
  · show 0 * _ + 1 * (j 0).val = (j 0).val; omega
  · show 0 * _ + 1 * (j 1).val = (j 1).val; omega

theorem block0_3 (c : Dev nD) (t : Fin cfg0.N) : iblk0 V c 3 t = V c main_v14 := by
  funext j
  show V c main_v14 (((cfg0.win 3).blk t).view.emb j) = V c main_v14 j
  congr 1
  funext a
  apply Fin.ext
  fin_cases a
  · show 0 * _ + 1 * (j 0).val = (j 0).val; omega
  · show 0 * _ + 1 * (j 1).val = (j 1).val; omega

theorem block0_4 (c : Dev nD) (t : Fin cfg0.N) : iblk0 V c 4 t = V c main_v15 := by
  funext j
  show V c main_v15 (((cfg0.win 4).blk t).view.emb j) = V c main_v15 j
  congr 1
  funext a
  apply Fin.ext
  fin_cases a
  · show 0 * _ + 1 * (j 0).val = (j 0).val; omega
  · show 0 * _ + 1 * (j 1).val = (j 1).val; omega

theorem block0_5 (c : Dev nD) (t : Fin cfg0.N) : iblk0 V c 5 t = V c main_v16 := by
  funext j
  show V c main_v16 (((cfg0.win 5).blk t).view.emb j) = V c main_v16 j
  congr 1
  funext a
  apply Fin.ext
  fin_cases a
  · show 0 * _ + 1 * (j 0).val = (j 0).val; omega
  · show 0 * _ + 1 * (j 1).val = (j 1).val; omega

theorem block0_6 (c : Dev nD) (t : Fin cfg0.N) : iblk0 V c 6 t = V c main_v8 := by
  funext j
  show V c main_v8 (((cfg0.win 6).blk t).view.emb j) = V c main_v8 j
  congr 1
  funext a
  apply Fin.ext
  fin_cases a
  · show 0 * _ + 1 * (j 0).val = (j 0).val; omega
  · show 0 * _ + 1 * (j 1).val = (j 1).val; omega

theorem block0_7 (c : Dev nD) (t : Fin cfg0.N) : iblk0 V c 7 t = V c main_v9 := by
  funext j
  show V c main_v9 (((cfg0.win 7).blk t).view.emb j) = V c main_v9 j
  congr 1
  funext a
  apply Fin.ext
  fin_cases a
  · show 0 * _ + 1 * (j 0).val = (j 0).val; omega
  · show 0 * _ + 1 * (j 1).val = (j 1).val; omega

theorem block0_8 (c : Dev nD) (t : Fin cfg0.N) : iblk0 V c 8 t = V c main_v10 := by
  funext j
  show V c main_v10 (((cfg0.win 8).blk t).view.emb j) = V c main_v10 j
  congr 1
  funext a
  apply Fin.ext
  fin_cases a
  · show 0 * _ + 1 * (j 0).val = (j 0).val; omega
  · show 0 * _ + 1 * (j 1).val = (j 1).val; omega

theorem block0_9 (c : Dev nD) (t : Fin cfg0.N) : iblk0 V c 9 t = V c main_v17 := by
  funext j
  show V c main_v17 (((cfg0.win 9).blk t).view.emb j) = V c main_v17 j
  congr 1
  funext a
  apply Fin.ext
  fin_cases a
  · show 0 * _ + 1 * (j 0).val = (j 0).val; omega
  · show 0 * _ + 1 * (j 1).val = (j 1).val; omega

theorem block0_10 (c : Dev nD) (t : Fin cfg0.N) : iblk0 V c 10 t = V c main_v18 := by
  funext j
  show V c main_v18 (((cfg0.win 10).blk t).view.emb j) = V c main_v18 j
  congr 1
  funext a
  apply Fin.ext
  fin_cases a
  · show 0 * _ + 1 * (j 0).val = (j 0).val; omega
  · show 0 * _ + 1 * (j 1).val = (j 1).val; omega

theorem block0_11 (c : Dev nD) (t : Fin cfg0.N) : iblk0 V c 11 t = V c main_v19 := by
  funext j
  show V c main_v19 (((cfg0.win 11).blk t).view.emb j) = V c main_v19 j
  congr 1
  funext a
  apply Fin.ext
  fin_cases a
  · show 0 * _ + 1 * (j 0).val = (j 0).val; omega
  · show 0 * _ + 1 * (j 1).val = (j 1).val; omega

theorem block0_12 (c : Dev nD) (t : Fin cfg0.N) : iblk0 V c 12 t = V c main_v11 := by
  funext j
  show V c main_v11 (((cfg0.win 12).blk t).view.emb j) = V c main_v11 j
  congr 1
  funext a
  apply Fin.ext
  fin_cases a
  · show 0 * _ + 1 * (j 0).val = (j 0).val; omega
  · show 0 * _ + 1 * (j 1).val = (j 1).val; omega

theorem block0_13 (c : Dev nD) (t : Fin cfg0.N) : iblk0 V c 13 t = V c main_v12 := by
  funext j
  show V c main_v12 (((cfg0.win 13).blk t).view.emb j) = V c main_v12 j
  congr 1
  funext a
  apply Fin.ext
  fin_cases a
  · show 0 * _ + 1 * (j 0).val = (j 0).val; omega
  · show 0 * _ + 1 * (j 1).val = (j 1).val; omega

theorem block0_14 (c : Dev nD) (t : Fin cfg0.N) : iblk0 V c 14 t = V c main_v13 := by
  funext j
  show V c main_v13 (((cfg0.win 14).blk t).view.emb j) = V c main_v13 j
  congr 1
  funext a
  apply Fin.ext
  fin_cases a
  · show 0 * _ + 1 * (j 0).val = (j 0).val; omega
  · show 0 * _ + 1 * (j 1).val = (j 1).val; omega

theorem block0_15 (c : Dev nD) (t : Fin cfg0.N) : iblk0 V c 15 t = V c main_v20 := by
  funext j
  show V c main_v20 (((cfg0.win 15).blk t).view.emb j) = V c main_v20 j
  congr 1
  funext a
  apply Fin.ext
  fin_cases a
  · show 0 * _ + 1 * (j 0).val = (j 0).val; omega
  · show 0 * _ + 1 * (j 1).val = (j 1).val; omega

theorem block0_16 (c : Dev nD) (t : Fin cfg0.N) : iblk0 V c 16 t = V c main_v21 := by
  funext j
  show V c main_v21 (((cfg0.win 16).blk t).view.emb j) = V c main_v21 j
  congr 1
  funext a
  apply Fin.ext
  fin_cases a
  · show 0 * _ + 1 * (j 0).val = (j 0).val; omega
  · show 0 * _ + 1 * (j 1).val = (j 1).val; omega

theorem block0_17 (c : Dev nD) (t : Fin cfg0.N) : iblk0 V c 17 t = V c main_v22 := by
  funext j
  show V c main_v22 (((cfg0.win 17).blk t).view.emb j) = V c main_v22 j
  congr 1
  funext a
  apply Fin.ext
  fin_cases a
  · show 0 * _ + 1 * (j 0).val = (j 0).val; omega
  · show 0 * _ + 1 * (j 1).val = (j 1).val; omega

theorem block0_18 (c : Dev nD) (t : Fin cfg0.N) : iblk0 V c 18 t = V c main_arg3 := by
  funext j
  show V c main_arg3 (((cfg0.win 18).blk t).view.emb j) = V c main_arg3 j
  congr 1
  funext a
  apply Fin.ext
  fin_cases a
  · show 0 * _ + 1 * (j 0).val = (j 0).val; omega
  · show 0 * _ + 1 * (j 1).val = (j 1).val; omega

theorem block0_19 (c : Dev nD) (t : Fin cfg0.N) : iblk0 V c 19 t = V c main_v23 := by
  funext j
  show V c main_v23 (((cfg0.win 19).blk t).view.emb j) = V c main_v23 j
  congr 1
  funext a
  apply Fin.ext
  fin_cases a
  · show 0 * _ + 1 * (j 0).val = (j 0).val; omega
  · show 0 * _ + 1 * (j 1).val = (j 1).val; omega

theorem block0_20 (c : Dev nD) (t : Fin cfg0.N) : iblk0 V c 20 t = V c main_arg23 := by
  funext j
  show V c main_arg23 (((cfg0.win 20).blk t).view.emb j) = V c main_arg23 j
  congr 1
  funext a
  apply Fin.ext
  fin_cases a
  · show 0 * _ + 1 * (j 0).val = (j 0).val; omega
  · show 0 * _ + 1 * (j 1).val = (j 1).val; omega

theorem block0_21 (c : Dev nD) (t : Fin cfg0.N) : iblk0 V c 21 t = V c main_v24 := by
  funext j
  show V c main_v24 (((cfg0.win 21).blk t).view.emb j) = V c main_v24 j
  congr 1
  funext a
  apply Fin.ext
  fin_cases a
  · show 0 * _ + 1 * (j 0).val = (j 0).val; omega
  · show 0 * _ + 1 * (j 1).val = (j 1).val; omega

theorem block0_22 (c : Dev nD) (t : Fin cfg0.N) : iblk0 V c 22 t = V c main_arg31 := by
  funext j
  show V c main_arg31 (((cfg0.win 22).blk t).view.emb j) = V c main_arg31 j
  congr 1
  funext a
  apply Fin.ext
  fin_cases a
  · show 0 * _ + 1 * (j 0).val = (j 0).val; omega
  · show 0 * _ + 1 * (j 1).val = (j 1).val; omega

theorem block0_23 (c : Dev nD) (t : Fin cfg0.N) : iblk0 V c 23 t = V c main_v25 := by
  funext j
  show V c main_v25 (((cfg0.win 23).blk t).view.emb j) = V c main_v25 j
  congr 1
  funext a
  apply Fin.ext
  fin_cases a
  · show 0 * _ + 1 * (j 0).val = (j 0).val; omega
  · show 0 * _ + 1 * (j 1).val = (j 1).val; omega

theorem block0_24 (c : Dev nD) (t : Fin cfg0.N) : iblk0 V c 24 t = V c main_arg33 := by
  funext j
  show V c main_arg33 (((cfg0.win 24).blk t).view.emb j) = V c main_arg33 j
  congr 1
  funext a
  apply Fin.ext
  fin_cases a
  · show 0 * _ + 1 * (j 0).val = (j 0).val; omega
  · show 0 * _ + 1 * (j 1).val = (j 1).val; omega

theorem block0_25 (c : Dev nD) (t : Fin cfg0.N) : iblk0 V c 25 t = V c main_v26 := by
  funext j
  show V c main_v26 (((cfg0.win 25).blk t).view.emb j) = V c main_v26 j
  congr 1
  funext a
  apply Fin.ext
  fin_cases a
  · show 0 * _ + 1 * (j 0).val = (j 0).val; omega
  · show 0 * _ + 1 * (j 1).val = (j 1).val; omega

theorem block0_26 (c : Dev nD) (t : Fin cfg0.N) : iblk0 V c 26 t = V c main_v27 := by
  funext j
  show V c main_v27 (((cfg0.win 26).blk t).view.emb j) = V c main_v27 j
  congr 1
  funext a
  apply Fin.ext
  fin_cases a
  · show 0 * _ + 1 * (j 0).val = (j 0).val; omega
  · show 0 * _ + 1 * (j 1).val = (j 1).val; omega

theorem block0_27 (c : Dev nD) (t : Fin cfg0.N) : iblk0 V c 27 t = V c main_arg2 := by
  funext j
  show V c main_arg2 (((cfg0.win 27).blk t).view.emb j) = V c main_arg2 j
  congr 1
  funext a
  apply Fin.ext
  fin_cases a
  · show 0 * _ + 1 * (j 0).val = (j 0).val; omega
  · show 0 * _ + 1 * (j 1).val = (j 1).val; omega

/-! Each result is one function of the inputs. -/

theorem arr0_28 (c : Dev nD) : (dat0 V c).arrAt 28 cfg0.N
    = Taps.nodeBand (V c main_v5) (V c main_v8) (V c main_v11) (V c main_arg3) := by
  refine (dat0 V c).arrAt_eq_of_after_last 28 point0 (by decide +kernel) _ fun j => ?_
  rw [after0_28, View.canon_unit_zero zeros2]
  blk_simp
  simp only [block0_0, block0_6, block0_12, block0_18, View.ld_unit_zero (S := S16x64) zeros2, View.ld_unit_zero (S := S16x32) zeros2, View.ld_unit_zero (S := S32x1) zeros2]

theorem arr0_29 (c : Dev nD) : (dat0 V c).arrAt 29 cfg0.N
    = Taps.nodeBand (V c main_v6) (V c main_v9) (V c main_v12) (V c main_arg3) := by
  refine (dat0 V c).arrAt_eq_of_after_last 29 point0 (by decide +kernel) _ fun j => ?_
  rw [after0_29, View.canon_unit_zero zeros2]
  blk_simp
  simp only [block0_1, block0_7, block0_13, block0_18, View.ld_unit_zero (S := S16x64) zeros2, View.ld_unit_zero (S := S16x32) zeros2, View.ld_unit_zero (S := S32x1) zeros2]

theorem arr0_30 (c : Dev nD) : (dat0 V c).arrAt 30 cfg0.N
    = Taps.nodeBand (V c main_v7) (V c main_v10) (V c main_v13) (V c main_arg3) := by
  refine (dat0 V c).arrAt_eq_of_after_last 30 point0 (by decide +kernel) _ fun j => ?_
  rw [after0_30, View.canon_unit_zero zeros2]
  blk_simp
  simp only [block0_2, block0_8, block0_14, block0_18, View.ld_unit_zero (S := S16x64) zeros2, View.ld_unit_zero (S := S16x32) zeros2, View.ld_unit_zero (S := S32x1) zeros2]

theorem arr0_31 (c : Dev nD) : (dat0 V c).arrAt 31 cfg0.N
    = Taps.biasNode (V c main_v5) (V c main_v8) (V c main_v11) (V c main_v14) (V c main_v17) (V c main_v20) (V c main_v23) := by
  refine (dat0 V c).arrAt_eq_of_after_last 31 point0 (by decide +kernel) _ fun j => ?_
  rw [after0_31, View.canon_unit_zero zeros2]
  blk_simp
  simp only [block0_0, block0_6, block0_12, block0_3, block0_9, block0_15, block0_19, View.ld_unit_zero (S := S16x64) zeros2, View.ld_unit_zero (S := S16x32) zeros2, View.ld_unit_zero (S := S16x1) zeros2, View.ld_unit_zero (S := S32x1) zeros2]

theorem arr0_32 (c : Dev nD) : (dat0 V c).arrAt 32 cfg0.N
    = Taps.biasNode (V c main_v6) (V c main_v9) (V c main_v12) (V c main_v15) (V c main_v18) (V c main_v21) (V c main_v23) := by
  refine (dat0 V c).arrAt_eq_of_after_last 32 point0 (by decide +kernel) _ fun j => ?_
  rw [after0_32, View.canon_unit_zero zeros2]
  blk_simp
  simp only [block0_1, block0_7, block0_13, block0_4, block0_10, block0_16, block0_19, View.ld_unit_zero (S := S16x64) zeros2, View.ld_unit_zero (S := S16x32) zeros2, View.ld_unit_zero (S := S16x1) zeros2, View.ld_unit_zero (S := S32x1) zeros2]

theorem arr0_33 (c : Dev nD) : (dat0 V c).arrAt 33 cfg0.N
    = Taps.biasNode (V c main_v7) (V c main_v10) (V c main_v13) (V c main_v16) (V c main_v19) (V c main_v22) (V c main_v23) := by
  refine (dat0 V c).arrAt_eq_of_after_last 33 point0 (by decide +kernel) _ fun j => ?_
  rw [after0_33, View.canon_unit_zero zeros2]
  blk_simp
  simp only [block0_2, block0_8, block0_14, block0_5, block0_11, block0_17, block0_19, View.ld_unit_zero (S := S16x64) zeros2, View.ld_unit_zero (S := S16x32) zeros2, View.ld_unit_zero (S := S16x1) zeros2, View.ld_unit_zero (S := S32x1) zeros2]

theorem arr0_34 (c : Dev nD) : (dat0 V c).arrAt 34 cfg0.N
    = Taps.posBand (V c main_v5) (V c main_v8) (V c main_v11) := by
  refine (dat0 V c).arrAt_eq_of_after_last 34 point0 (by decide +kernel) _ fun j => ?_
  rw [after0_34, View.canon_unit_zero zeros2]
  blk_simp
  simp only [block0_0, block0_6, block0_12, View.ld_unit_zero (S := S16x64) zeros2, View.ld_unit_zero (S := S16x32) zeros2]

theorem arr0_35 (c : Dev nD) : (dat0 V c).arrAt 35 cfg0.N
    = Taps.posBand (V c main_v6) (V c main_v9) (V c main_v12) := by
  refine (dat0 V c).arrAt_eq_of_after_last 35 point0 (by decide +kernel) _ fun j => ?_
  rw [after0_35, View.canon_unit_zero zeros2]
  blk_simp
  simp only [block0_1, block0_7, block0_13, View.ld_unit_zero (S := S16x64) zeros2, View.ld_unit_zero (S := S16x32) zeros2]

theorem arr0_36 (c : Dev nD) : (dat0 V c).arrAt 36 cfg0.N
    = Taps.posBand (V c main_v7) (V c main_v10) (V c main_v13) := by
  refine (dat0 V c).arrAt_eq_of_after_last 36 point0 (by decide +kernel) _ fun j => ?_
  rw [after0_36, View.canon_unit_zero zeros2]
  blk_simp
  simp only [block0_2, block0_8, block0_14, View.ld_unit_zero (S := S16x64) zeros2, View.ld_unit_zero (S := S16x32) zeros2]

theorem arr0_37 (c : Dev nD) : (dat0 V c).arrAt 37 cfg0.N
    = Taps.posEdge (V c main_v5) (V c main_v8) (V c main_v11) (V c main_arg3) := by
  refine (dat0 V c).arrAt_eq_of_after_last 37 point0 (by decide +kernel) _ fun j => ?_
  rw [after0_37, View.canon_unit_zero zeros2]
  blk_simp
  simp only [block0_0, block0_6, block0_12, block0_18, View.ld_unit_zero (S := S16x64) zeros2, View.ld_unit_zero (S := S16x32) zeros2, View.ld_unit_zero (S := S32x1) zeros2]

theorem arr0_38 (c : Dev nD) : (dat0 V c).arrAt 38 cfg0.N
    = Taps.posEdge (V c main_v6) (V c main_v9) (V c main_v12) (V c main_arg3) := by
  refine (dat0 V c).arrAt_eq_of_after_last 38 point0 (by decide +kernel) _ fun j => ?_
  rw [after0_38, View.canon_unit_zero zeros2]
  blk_simp
  simp only [block0_1, block0_7, block0_13, block0_18, View.ld_unit_zero (S := S16x64) zeros2, View.ld_unit_zero (S := S16x32) zeros2, View.ld_unit_zero (S := S32x1) zeros2]

theorem arr0_39 (c : Dev nD) : (dat0 V c).arrAt 39 cfg0.N
    = Taps.posEdge (V c main_v7) (V c main_v10) (V c main_v13) (V c main_arg3) := by
  refine (dat0 V c).arrAt_eq_of_after_last 39 point0 (by decide +kernel) _ fun j => ?_
  rw [after0_39, View.canon_unit_zero zeros2]
  blk_simp
  simp only [block0_2, block0_8, block0_14, block0_18, View.ld_unit_zero (S := S16x64) zeros2, View.ld_unit_zero (S := S16x32) zeros2, View.ld_unit_zero (S := S32x1) zeros2]

theorem arr0_40 (c : Dev nD) : (dat0 V c).arrAt 40 cfg0.N
    = Taps.biasPos (V c main_v5) (V c main_v8) (V c main_v11) (V c main_v14) (V c main_v17) (V c main_v20) (V c main_v23) := by
  refine (dat0 V c).arrAt_eq_of_after_last 40 point0 (by decide +kernel) _ fun j => ?_
  rw [after0_40, View.canon_unit_zero zeros2]
  blk_simp
  simp only [block0_0, block0_6, block0_12, block0_3, block0_9, block0_15, block0_19, View.ld_unit_zero (S := S16x64) zeros2, View.ld_unit_zero (S := S16x32) zeros2, View.ld_unit_zero (S := S16x1) zeros2, View.ld_unit_zero (S := S32x1) zeros2]

theorem arr0_41 (c : Dev nD) : (dat0 V c).arrAt 41 cfg0.N
    = Taps.biasPos (V c main_v6) (V c main_v9) (V c main_v12) (V c main_v15) (V c main_v18) (V c main_v21) (V c main_v23) := by
  refine (dat0 V c).arrAt_eq_of_after_last 41 point0 (by decide +kernel) _ fun j => ?_
  rw [after0_41, View.canon_unit_zero zeros2]
  blk_simp
  simp only [block0_1, block0_7, block0_13, block0_4, block0_10, block0_16, block0_19, View.ld_unit_zero (S := S16x64) zeros2, View.ld_unit_zero (S := S16x32) zeros2, View.ld_unit_zero (S := S16x1) zeros2, View.ld_unit_zero (S := S32x1) zeros2]

theorem arr0_42 (c : Dev nD) : (dat0 V c).arrAt 42 cfg0.N
    = Taps.biasPos (V c main_v7) (V c main_v10) (V c main_v13) (V c main_v16) (V c main_v19) (V c main_v22) (V c main_v23) := by
  refine (dat0 V c).arrAt_eq_of_after_last 42 point0 (by decide +kernel) _ fun j => ?_
  rw [after0_42, View.canon_unit_zero zeros2]
  blk_simp
  simp only [block0_2, block0_8, block0_14, block0_5, block0_11, block0_17, block0_19, View.ld_unit_zero (S := S16x64) zeros2, View.ld_unit_zero (S := S16x32) zeros2, View.ld_unit_zero (S := S16x1) zeros2, View.ld_unit_zero (S := S32x1) zeros2]

theorem arr0_43 (c : Dev nD) : (dat0 V c).arrAt 43 cfg0.N
    = Taps.mixPos (V c main_arg23) := by
  refine (dat0 V c).arrAt_eq_of_after_last 43 point0 (by decide +kernel) _ fun j => ?_
  rw [after0_43, View.canon_unit_zero zeros2]
  blk_simp
  simp only [block0_20, View.ld_unit_zero (S := S32x16) zeros2]

theorem arr0_44 (c : Dev nD) : (dat0 V c).arrAt 44 cfg0.N
    = Taps.mixBias (V c main_v24) := by
  refine (dat0 V c).arrAt_eq_of_after_last 44 point0 (by decide +kernel) _ fun j => ?_
  rw [after0_44, View.canon_unit_zero zeros2]
  blk_simp
  simp only [block0_21, View.ld_unit_zero (S := S32x1) zeros2]

theorem arr0_45 (c : Dev nD) : (dat0 V c).arrAt 45 cfg0.N
    = Taps.readOut (V c main_arg31) := by
  refine (dat0 V c).arrAt_eq_of_after_last 45 point0 (by decide +kernel) _ fun j => ?_
  rw [after0_45, View.canon_unit_zero zeros2]
  blk_simp
  simp only [block0_22, View.ld_unit_zero (S := S1x8) zeros2]

theorem arr0_46 (c : Dev nD) : (dat0 V c).arrAt 46 cfg0.N
    = Taps.readBias (V c main_arg31) (V c main_v25) (V c main_arg33) (V c main_v26) (V c main_v27) := by
  refine (dat0 V c).arrAt_eq_of_after_last 46 point0 (by decide +kernel) _ fun j => ?_
  rw [after0_46, View.canon_unit_zero zeros2]
  blk_simp
  simp only [block0_22, block0_23, block0_24, block0_25, block0_26, View.ld_unit_zero (S := S1x8) zeros2, View.ld_unit_zero (S := S1x1) zeros2, View.ld_unit_zero (S := S1x62) zeros2, View.ld_unit_zero (S := S8x64) zeros2]

theorem arr0_47 (c : Dev nD) : (dat0 V c).arrAt 47 cfg0.N
    = Taps.edges (View.ld (V c main_arg2) r0_17) (View.ld (V c main_arg2) r0_18) := by
  refine (dat0 V c).arrAt_eq_of_after_last 47 point0 (by decide +kernel) _ fun j => ?_
  rw [after0_47, View.canon_unit_zero zeros2]
  blk_simp
  simp only [block0_27]

end Cert.KernelIdeal.Gen
-- ==== Proof.Arrays1.lean ====
/- What the second launch leaves in each array that it writes. -/
module

public import proofs.«01_k».proof.Proof.Arrays0
public import proofs.«01_k».proof.Proof.Launch1
public import Idealize.ShloMosaic.Lib.Pipeline.ValueKit.Geometry

@[expose] public section

set_option maxRecDepth 16384

noncomputable section

namespace Cert.KernelIdeal.Gen

open Idealize.ShloMosaic Idealize.ShloMosaic.TcCoe
open Idealize.ShloMosaic.Pipeline (Dat Cfg Window)
open Cert.KernelIdeal.Taps (zeros2 zeros3)

variable {F : FTy → Type} [FloatOps F] [Named F]
variable (V : (c : Dev nD) → (b : Ref sig .tc) → Buf (Elt F) ((c : Thread nD τ).loc b))

/-- The launch's only step. -/
abbrev point1 : Fin cfg1.N := ⟨0, by decide⟩

/-! Each input is read whole. -/

theorem block1_0 (c : Dev nD) (t : Fin cfg1.N) : iblk1 V c 0 t = V c main_v2 := by
  funext j
  show V c main_v2 (((cfg1.win 0).blk t).view.emb j) = V c main_v2 j
  congr 1
  funext a
  apply Fin.ext
  fin_cases a
  · show 0 * _ + 1 * (j 0).val = (j 0).val; omega
  · show 0 * _ + 1 * (j 1).val = (j 1).val; omega

theorem block1_1 (c : Dev nD) (t : Fin cfg1.N) : iblk1 V c 1 t = V c main_v4 := by
  funext j
  show V c main_v4 (((cfg1.win 1).blk t).view.emb j) = V c main_v4 j
  congr 1
  funext a
  apply Fin.ext
  fin_cases a
  · show 0 * _ + 1 * (j 0).val = (j 0).val; omega
  · show 0 * _ + 1 * (j 1).val = (j 1).val; omega

theorem block1_2 (c : Dev nD) (t : Fin cfg1.N) : iblk1 V c 2 t = V c main_v28_0 := by
  funext j
  show V c main_v28_0 (((cfg1.win 2).blk t).view.emb j) = V c main_v28_0 j
  congr 1
  funext a
  apply Fin.ext
  fin_cases a
  · show 0 * _ + 1 * (j 0).val = (j 0).val; omega
  · show 0 * _ + 1 * (j 1).val = (j 1).val; omega

theorem block1_3 (c : Dev nD) (t : Fin cfg1.N) : iblk1 V c 3 t = V c main_v28_1 := by
  funext j
  show V c main_v28_1 (((cfg1.win 3).blk t).view.emb j) = V c main_v28_1 j
  congr 1
  funext a
  apply Fin.ext
  fin_cases a
  · show 0 * _ + 1 * (j 0).val = (j 0).val; omega
  · show 0 * _ + 1 * (j 1).val = (j 1).val; omega

theorem block1_4 (c : Dev nD) (t : Fin cfg1.N) : iblk1 V c 4 t = V c main_v28_2 := by
  funext j
  show V c main_v28_2 (((cfg1.win 4).blk t).view.emb j) = V c main_v28_2 j
  congr 1
  funext a
  apply Fin.ext
  fin_cases a
  · show 0 * _ + 1 * (j 0).val = (j 0).val; omega
  · show 0 * _ + 1 * (j 1).val = (j 1).val; omega

theorem block1_5 (c : Dev nD) (t : Fin cfg1.N) : iblk1 V c 5 t = V c main_v29 := by
  funext j
  show V c main_v29 (((cfg1.win 5).blk t).view.emb j) = V c main_v29 j
  congr 1
  funext a
  apply Fin.ext
  fin_cases a
  · show 0 * _ + 1 * (j 0).val = (j 0).val; omega
  · show 0 * _ + 1 * (j 1).val = (j 1).val; omega

theorem block1_6 (c : Dev nD) (t : Fin cfg1.N) : iblk1 V c 6 t = V c main_v30 := by
  funext j
  show V c main_v30 (((cfg1.win 6).blk t).view.emb j) = V c main_v30 j
  congr 1
  funext a
  apply Fin.ext
  fin_cases a
  · show 0 * _ + 1 * (j 0).val = (j 0).val; omega
  · show 0 * _ + 1 * (j 1).val = (j 1).val; omega

theorem block1_7 (c : Dev nD) (t : Fin cfg1.N) : iblk1 V c 7 t = V c main_v31 := by
  funext j
  show V c main_v31 (((cfg1.win 7).blk t).view.emb j) = V c main_v31 j
  congr 1
  funext a
  apply Fin.ext
  fin_cases a
  · show 0 * _ + 1 * (j 0).val = (j 0).val; omega
  · show 0 * _ + 1 * (j 1).val = (j 1).val; omega

theorem block1_8 (c : Dev nD) (t : Fin cfg1.N) : iblk1 V c 8 t = V c main_v28_6 := by
  funext j
  show V c main_v28_6 (((cfg1.win 8).blk t).view.emb j) = V c main_v28_6 j
  congr 1
  funext a
  apply Fin.ext
  fin_cases a
  · show 0 * _ + 1 * (j 0).val = (j 0).val; omega
  · show 0 * _ + 1 * (j 1).val = (j 1).val; omega

theorem block1_9 (c : Dev nD) (t : Fin cfg1.N) : iblk1 V c 9 t = V c main_v28_7 := by
  funext j
  show V c main_v28_7 (((cfg1.win 9).blk t).view.emb j) = V c main_v28_7 j
  congr 1
  funext a
  apply Fin.ext
  fin_cases a
  · show 0 * _ + 1 * (j 0).val = (j 0).val; omega
  · show 0 * _ + 1 * (j 1).val = (j 1).val; omega

theorem block1_10 (c : Dev nD) (t : Fin cfg1.N) : iblk1 V c 10 t = V c main_v28_8 := by
  funext j
  show V c main_v28_8 (((cfg1.win 10).blk t).view.emb j) = V c main_v28_8 j
  congr 1
  funext a
  apply Fin.ext
  fin_cases a
  · show 0 * _ + 1 * (j 0).val = (j 0).val; omega
  · show 0 * _ + 1 * (j 1).val = (j 1).val; omega

theorem block1_11 (c : Dev nD) (t : Fin cfg1.N) : iblk1 V c 11 t = V c main_v28_9 := by
  funext j
  show V c main_v28_9 (((cfg1.win 11).blk t).view.emb j) = V c main_v28_9 j
  congr 1
  funext a
  apply Fin.ext
  fin_cases a
  · show 0 * _ + 1 * (j 0).val = (j 0).val; omega
  · show 0 * _ + 1 * (j 1).val = (j 1).val; omega

theorem block1_12 (c : Dev nD) (t : Fin cfg1.N) : iblk1 V c 12 t = V c main_v28_10 := by
  funext j
  show V c main_v28_10 (((cfg1.win 12).blk t).view.emb j) = V c main_v28_10 j
  congr 1
  funext a
  apply Fin.ext
  fin_cases a
  · show 0 * _ + 1 * (j 0).val = (j 0).val; omega
  · show 0 * _ + 1 * (j 1).val = (j 1).val; omega

theorem block1_13 (c : Dev nD) (t : Fin cfg1.N) : iblk1 V c 13 t = V c main_v28_11 := by
  funext j
  show V c main_v28_11 (((cfg1.win 13).blk t).view.emb j) = V c main_v28_11 j
  congr 1
  funext a
  apply Fin.ext
  fin_cases a
  · show 0 * _ + 1 * (j 0).val = (j 0).val; omega
  · show 0 * _ + 1 * (j 1).val = (j 1).val; omega

theorem block1_14 (c : Dev nD) (t : Fin cfg1.N) : iblk1 V c 14 t = V c main_v32 := by
  funext j
  show V c main_v32 (((cfg1.win 14).blk t).view.emb j) = V c main_v32 j
  congr 1
  funext a
  apply Fin.ext
  fin_cases a
  · show 0 * _ + 1 * (j 0).val = (j 0).val; omega
  · show 0 * _ + 1 * (j 1).val = (j 1).val; omega

theorem block1_15 (c : Dev nD) (t : Fin cfg1.N) : iblk1 V c 15 t = V c main_v33 := by
  funext j
  show V c main_v33 (((cfg1.win 15).blk t).view.emb j) = V c main_v33 j
  congr 1
  funext a
  apply Fin.ext
  fin_cases a
  · show 0 * _ + 1 * (j 0).val = (j 0).val; omega
  · show 0 * _ + 1 * (j 1).val = (j 1).val; omega

theorem block1_16 (c : Dev nD) (t : Fin cfg1.N) : iblk1 V c 16 t = V c main_v34 := by
  funext j
  show V c main_v34 (((cfg1.win 16).blk t).view.emb j) = V c main_v34 j
  congr 1
  funext a
  apply Fin.ext
  fin_cases a
  · show 0 * _ + 1 * (j 0).val = (j 0).val; omega
  · show 0 * _ + 1 * (j 1).val = (j 1).val; omega

theorem block1_17 (c : Dev nD) (t : Fin cfg1.N) : iblk1 V c 17 t = V c main_v28_15 := by
  funext j
  show V c main_v28_15 (((cfg1.win 17).blk t).view.emb j) = V c main_v28_15 j
  congr 1
  funext a
  apply Fin.ext
  fin_cases a
  · show 0 * _ + 1 * (j 0).val = (j 0).val; omega
  · show 0 * _ + 1 * (j 1).val = (j 1).val; omega

theorem block1_18 (c : Dev nD) (t : Fin cfg1.N) : iblk1 V c 18 t = V c main_v28_16 := by
  funext j
  show V c main_v28_16 (((cfg1.win 18).blk t).view.emb j) = V c main_v28_16 j
  congr 1
  funext a
  apply Fin.ext
  fin_cases a
  · show 0 * _ + 1 * (j 0).val = (j 0).val; omega
  · show 0 * _ + 1 * (j 1).val = (j 1).val; omega

theorem block1_19 (c : Dev nD) (t : Fin cfg1.N) : iblk1 V c 19 t = V c main_arg25 := by
  funext j
  show V c main_arg25 (((cfg1.win 19).blk t).view.emb j) = V c main_arg25 j
  congr 1
  funext a
  apply Fin.ext
  fin_cases a
  · show 0 * _ + 1 * (j 0).val = (j 0).val; omega
  · show 0 * _ + 1 * (j 1).val = (j 1).val; omega

theorem block1_20 (c : Dev nD) (t : Fin cfg1.N) : iblk1 V c 20 t = V c main_v35 := by
  funext j
  show V c main_v35 (((cfg1.win 20).blk t).view.emb j) = V c main_v35 j
  congr 1
  funext a
  apply Fin.ext
  fin_cases a
  · show 0 * _ + 1 * (j 0).val = (j 0).val; omega
  · show 0 * _ + 1 * (j 1).val = (j 1).val; omega

theorem block1_21 (c : Dev nD) (t : Fin cfg1.N) : iblk1 V c 21 t = V c main_arg27 := by
  funext j
  show V c main_arg27 (((cfg1.win 21).blk t).view.emb j) = V c main_arg27 j
  congr 1
  funext a
  apply Fin.ext
  fin_cases a
  · show 0 * _ + 1 * (j 0).val = (j 0).val; omega
  · show 0 * _ + 1 * (j 1).val = (j 1).val; omega

theorem block1_22 (c : Dev nD) (t : Fin cfg1.N) : iblk1 V c 22 t = V c main_v36 := by
  funext j
  show V c main_v36 (((cfg1.win 22).blk t).view.emb j) = V c main_v36 j
  congr 1
  funext a
  apply Fin.ext
  fin_cases a
  · show 0 * _ + 1 * (j 0).val = (j 0).val; omega
  · show 0 * _ + 1 * (j 1).val = (j 1).val; omega

/-! Each result is one function of the inputs. -/

theorem arr1_23 (c : Dev nD) : (dat1 V c).arrAt 23 cfg1.N
    = Taps.dense (Taps.nodeFeat (V c main_v2) (V c main_v28_0) (V c main_v28_1) (V c main_v28_2) (V c main_v29) (V c main_v30) (V c main_v31)) (V c main_arg25) (V c main_v35) := by
  refine (dat1 V c).arrAt_eq_of_after_last 23 point1 (by decide +kernel) _ fun j => ?_
  rw [after1_23, View.canon_unit_zero zeros2]
  blk_simp
  simp only [block1_0, block1_2, block1_3, block1_4, block1_5, block1_6, block1_7, block1_19, block1_20, View.ld_unit_zero (S := S992x64) zeros2, View.ld_unit_zero (S := S64x1024) zeros2, View.ld_unit_zero (S := S1x1024) zeros2, View.ld_unit_zero (S := S1024x512) zeros2, View.ld_unit_zero (S := S1x512) zeros2]

theorem arr1_24 (c : Dev nD) : (dat1 V c).arrAt 24 cfg1.N
    = Taps.dense (Taps.nodeFeat (V c main_v2) (V c main_v28_0) (V c main_v28_1) (V c main_v28_2) (V c main_v29) (V c main_v30) (V c main_v31)) (V c main_arg27) (V c main_v36) := by
  refine (dat1 V c).arrAt_eq_of_after_last 24 point1 (by decide +kernel) _ fun j => ?_
  rw [after1_24, View.canon_unit_zero zeros2]
  blk_simp
  simp only [block1_0, block1_2, block1_3, block1_4, block1_5, block1_6, block1_7, block1_21, block1_22, View.ld_unit_zero (S := S992x64) zeros2, View.ld_unit_zero (S := S64x1024) zeros2, View.ld_unit_zero (S := S1x1024) zeros2, View.ld_unit_zero (S := S1024x512) zeros2, View.ld_unit_zero (S := S1x512) zeros2]

theorem arr1_25 (c : Dev nD) : (dat1 V c).arrAt 25 cfg1.N
    = Taps.posDense (Taps.posFeat (V c main_v2) (V c main_v4) (V c main_v28_6) (V c main_v28_7) (V c main_v28_8) (V c main_v28_9) (V c main_v28_10) (V c main_v28_11) (V c main_v32) (V c main_v33) (V c main_v34)) (V c main_v28_15) (V c main_v28_16) := by
  refine (dat1 V c).arrAt_eq_of_after_last 25 point1 (by decide +kernel) _ fun j => ?_
  rw [after1_25, View.canon_unit_zero zeros2]
  blk_simp
  simp only [block1_0, block1_1, block1_8, block1_9, block1_10, block1_11, block1_12, block1_13, block1_14, block1_15, block1_16, block1_17, block1_18, View.ld_unit_zero (S := S992x64) zeros2, View.ld_unit_zero (S := S992x512) zeros2, View.ld_unit_zero (S := S512x256) zeros2, View.ld_unit_zero (S := S8x256) zeros2, View.ld_unit_zero (S := S1x256) zeros2, View.ld_unit_zero (S := S256x512) zeros2, View.ld_unit_zero (S := S1x512) zeros2]

end Cert.KernelIdeal.Gen
-- ==== Proof.Arrays2.lean ====
/- What the third launch leaves: for each batch entry, the prediction from that entry's rows. -/
module

public import proofs.«01_k».proof.Proof.Attend
public import Idealize.ShloMosaic.Lib.Pipeline.ValueKit.Geometry

@[expose] public section

set_option maxRecDepth 16384

noncomputable section

namespace Cert.KernelIdeal.Gen

open Idealize.ShloMosaic Idealize.ShloMosaic.TcCoe
open Idealize.ShloMosaic.Pipeline (Dat Cfg Window)

variable {F : FTy → Type} [FloatOps F] [Named F]
variable (V : (c : Dev nD) → (b : Ref sig .tc) → Buf (Elt F) ((c : Thread nD τ).loc b))

/-- One batch entry of an array. -/
def entry (x : FVec F S16x62x512 .f32) (b : Fin 16) : FVec F S1x62x512 .f32 := fun j => x (ix3 b (j 1) (j 2))

/-- The predictions of all batch entries. -/
def allOut (x0 x1 : FVec F S16x62x512 .f32) (x2 : FVec F S2x256 .f32) (x3 : FVec F S62x62 .f32) (x4 : FVec F S1x62 .f32)
    (x5 : FVec F S512x64 .f32) (x6 : FVec F S1x64 .f32) : FVec F S16x1x64 .f32 :=
  fun i => Taps.blockOut (entry x0 (i 0)) (entry x1 (i 0)) x2 x3 x4 x5 x6 (ix3 0 0 (i 2))

theorem at2_0 : ∀ t : Fin grid2.N, win2_0.index t 0 = t.val := by decide +kernel
theorem at2_1 : ∀ t : Fin grid2.N, win2_1.index t 0 = t.val := by decide +kernel
theorem at2_7 : ∀ t : Fin grid2.N, win2_7.index t 0 = t.val := by decide +kernel

theorem block2_0 (c : Dev nD) (t : Fin cfg2.N) : iblk2 V c 0 t = entry (V c main_v38) ⟨t.val, t.isLt⟩ := by
  funext j
  show V c main_v38 (((cfg2.win 0).blk t).view.emb j) = V c main_v38 _
  congr 1
  funext a
  apply Fin.ext
  fin_cases a
  · have h : (j 0).val < 1 := (j 0).isLt
    show win2_0.index t 0 * 1 + 1 * (j 0).val = t.val
    have e := at2_0 t
    omega
  · show 0 * _ + 1 * (j 1).val = (j 1).val; omega
  · show 0 * _ + 1 * (j 2).val = (j 2).val; omega

theorem block2_1 (c : Dev nD) (t : Fin cfg2.N) : iblk2 V c 1 t = entry (V c main_v39) ⟨t.val, t.isLt⟩ := by
  funext j
  show V c main_v39 (((cfg2.win 1).blk t).view.emb j) = V c main_v39 _
  congr 1
  funext a
  apply Fin.ext
  fin_cases a
  · have h : (j 0).val < 1 := (j 0).isLt
    show win2_1.index t 0 * 1 + 1 * (j 0).val = t.val
    have e := at2_1 t
    omega
  · show 0 * _ + 1 * (j 1).val = (j 1).val; omega
  · show 0 * _ + 1 * (j 2).val = (j 2).val; omega

theorem block2_2 (c : Dev nD) (t : Fin cfg2.N) : iblk2 V c 2 t = V c main_arg29 := by
  funext j
  show V c main_arg29 (((cfg2.win 2).blk t).view.emb j) = V c main_arg29 j
  congr 1
  funext a
  apply Fin.ext
  fin_cases a
  · show 0 * _ + 1 * (j 0).val = (j 0).val; omega
  · show 0 * _ + 1 * (j 1).val = (j 1).val; omega

theorem block2_3 (c : Dev nD) (t : Fin cfg2.N) : iblk2 V c 3 t = V c main_v28_19 := by
  funext j
  show V c main_v28_19 (((cfg2.win 3).blk t).view.emb j) = V c main_v28_19 j
  congr 1
  funext a
  apply Fin.ext
  fin_cases a
  · show 0 * _ + 1 * (j 0).val = (j 0).val; omega
  · show 0 * _ + 1 * (j 1).val = (j 1).val; omega

theorem block2_4 (c : Dev nD) (t : Fin cfg2.N) : iblk2 V c 4 t = V c main_arg33 := by
  funext j
  show V c main_arg33 (((cfg2.win 4).blk t).view.emb j) = V c main_arg33 j
  congr 1
  funext a
  apply Fin.ext
  fin_cases a
  · show 0 * _ + 1 * (j 0).val = (j 0).val; omega
  · show 0 * _ + 1 * (j 1).val = (j 1).val; omega

theorem block2_5 (c : Dev nD) (t : Fin cfg2.N) : iblk2 V c 5 t = V c main_v28_17 := by
  funext j
  show V c main_v28_17 (((cfg2.win 5).blk t).view.emb j) = V c main_v28_17 j
  congr 1
  funext a
  apply Fin.ext
  fin_cases a
  · show 0 * _ + 1 * (j 0).val = (j 0).val; omega
  · show 0 * _ + 1 * (j 1).val = (j 1).val; omega

theorem block2_6 (c : Dev nD) (t : Fin cfg2.N) : iblk2 V c 6 t = V c main_v28_18 := by
  funext j
  show V c main_v28_18 (((cfg2.win 6).blk t).view.emb j) = V c main_v28_18 j
  congr 1
  funext a
  apply Fin.ext
  fin_cases a
  · show 0 * _ + 1 * (j 0).val = (j 0).val; omega
  · show 0 * _ + 1 * (j 1).val = (j 1).val; omega

theorem arr2_7 (c : Dev nD) : (dat2 V c).arrAt 7 cfg2.N
    = allOut (V c main_v38) (V c main_v39) (V c main_arg29) (V c main_v28_19) (V c main_arg33) (V c main_v28_17) (V c main_v28_18) := by
  refine (dat2 V c).arrAt_eq_of_covers 7 _ (by decide +kernel) (fun t hf y => ?_)
  have e0 : (((cfg2.win 7).blk t).view.emb y) 0 = (⟨t.val, t.isLt⟩ : Fin 16) := by
    apply Fin.ext
    have h : (y 0).val < 1 := (y 0).isLt
    have e := at2_7 t
    show win2_7.index t 0 * 1 + 1 * (y 0).val = t.val
    omega
  have e2 : (((cfg2.win 7).blk t).view.emb y) 2 = y 2 := by
    apply Fin.ext
    show 0 * _ + 1 * (y 2).val = (y 2).val; omega
  have ey : y = ix3 0 0 (y 2) := by
    funext a
    apply Fin.ext
    fin_cases a
    · have h : (y 0).val < 1 := (y 0).isLt
      show (y 0).val = 0; omega
    · have h : (y 1).val < 1 := (y 1).isLt
      show (y 1).val = 0; omega
    · rfl
  unfold allOut
  rw [e0, e2, after2_7, Taps.out2_7_eq, block2_0, block2_1, block2_2, block2_3, block2_4, block2_5, block2_6]
  exact congrArg (Taps.blockOut _ _ _ _ _ _ _) ey

end Cert.KernelIdeal.Gen
-- ==== Proof.Hosts.lean ====
/- What the host steps and the launches before it put into each array that a launch reads, over the arguments. -/
module

public import proofs.«01_k».proof.Proof.Arrays1
public import proofs.«01_k».proof.Proof.Arrays2
public import proofs.«01_k».proof.Proof.Fold
public import proofs.«01_k».proof.Proof.KernelFeat
public import Idealize.ShloMosaic.Lib.Claim

@[expose] public section

set_option maxRecDepth 16384

noncomputable section

namespace Cert.KernelIdeal.Gen

open Idealize.ShloMosaic Idealize.ShloMosaic.TcCoe
open Cert.Value

variable (m : (ℓ : Loc nD τ sig) → Buf (Elt Ideal) ℓ) (ρ : Dev nD → PrngReg) (c : Dev nD)

/-- The arguments on device `c`. -/
def argsOf : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22),
   m ((c : Thread nD τ).loc main_arg23),
   m ((c : Thread nD τ).loc main_arg24),
   m ((c : Thread nD τ).loc main_arg25),
   m ((c : Thread nD τ).loc main_arg26),
   m ((c : Thread nD τ).loc main_arg27),
   m ((c : Thread nD τ).loc main_arg28),
   m ((c : Thread nD τ).loc main_arg29),
   m ((c : Thread nD τ).loc main_arg30),
   m ((c : Thread nD τ).loc main_arg31),
   m ((c : Thread nD τ).loc main_arg32),
   m ((c : Thread nD τ).loc main_arg33),
   m ((c : Thread nD τ).loc main_arg34)⟩

/-- A row of the list of edges. -/
def edgeRow (A : Args) (r : Fin 2) : IVec S1x4000 32 := fun i => A.a2 (ix2 r (i 1))

/-- The matrix that counts the edges. -/
def edgesOf (A : Args) : FVec Ideal S62x62 .f32 := Taps.edges (edgeRow A 0) (edgeRow A 1)

/-! ## Before the first launch -/

theorem v1 : V1 m ρ c main_v1 = extractStridedSlice S16x1x64 ![0, 62, 0] (argsOf m c).a0 slices_S16x63x64_S16x1x64_0_62_0 := by
  show StableHlo.after hostOps0 (W0 m ρ c) (Proc.devRef .tc main_v1) = _
  entry_read
  rfl

theorem v2 : V1 m ρ c main_v2 = Taps.series (argsOf m c) := by
  show StableHlo.after hostOps0 (W0 m ρ c) (Proc.devRef .tc main_v2) = _
  entry_read
  rfl

theorem v4 : V1 m ρ c main_v4 = Taps.places (argsOf m c) := by
  show StableHlo.after hostOps0 (W0 m ρ c) (Proc.devRef .tc main_v4) = _
  entry_read
  rfl

theorem v5 : V1 m ρ c main_v5 = Taps.flat32 (argsOf m c).a5 := by
  show StableHlo.after hostOps0 (W0 m ρ c) (Proc.devRef .tc main_v5) = _
  entry_read
  rfl

theorem v6 : V1 m ρ c main_v6 = Taps.flat32 (argsOf m c).a11 := by
  show StableHlo.after hostOps0 (W0 m ρ c) (Proc.devRef .tc main_v6) = _
  entry_read
  rfl

theorem v7 : V1 m ρ c main_v7 = Taps.flat32 (argsOf m c).a17 := by
  show StableHlo.after hostOps0 (W0 m ρ c) (Proc.devRef .tc main_v7) = _
  entry_read
  rfl

theorem v8 : V1 m ρ c main_v8 = Taps.flat16 (argsOf m c).a7 := by
  show StableHlo.after hostOps0 (W0 m ρ c) (Proc.devRef .tc main_v8) = _
  entry_read
  rfl

theorem v9 : V1 m ρ c main_v9 = Taps.flat16 (argsOf m c).a13 := by
  show StableHlo.after hostOps0 (W0 m ρ c) (Proc.devRef .tc main_v9) = _
  entry_read
  rfl

theorem v10 : V1 m ρ c main_v10 = Taps.flat16 (argsOf m c).a19 := by
  show StableHlo.after hostOps0 (W0 m ρ c) (Proc.devRef .tc main_v10) = _
  entry_read
  rfl

theorem v11 : V1 m ρ c main_v11 = Taps.flat16 (argsOf m c).a9 := by
  show StableHlo.after hostOps0 (W0 m ρ c) (Proc.devRef .tc main_v11) = _
  entry_read
  rfl

theorem v12 : V1 m ρ c main_v12 = Taps.flat16 (argsOf m c).a15 := by
  show StableHlo.after hostOps0 (W0 m ρ c) (Proc.devRef .tc main_v12) = _
  entry_read
  rfl

theorem v13 : V1 m ρ c main_v13 = Taps.flat16 (argsOf m c).a21 := by
  show StableHlo.after hostOps0 (W0 m ρ c) (Proc.devRef .tc main_v13) = _
  entry_read
  rfl

theorem v14 : V1 m ρ c main_v14 = Taps.col16 (argsOf m c).a6 := by
  show StableHlo.after hostOps0 (W0 m ρ c) (Proc.devRef .tc main_v14) = _
  entry_read
  rfl

theorem v15 : V1 m ρ c main_v15 = Taps.col16 (argsOf m c).a12 := by
  show StableHlo.after hostOps0 (W0 m ρ c) (Proc.devRef .tc main_v15) = _
  entry_read
  rfl

theorem v16 : V1 m ρ c main_v16 = Taps.col16 (argsOf m c).a18 := by
  show StableHlo.after hostOps0 (W0 m ρ c) (Proc.devRef .tc main_v16) = _
  entry_read
  rfl

theorem v17 : V1 m ρ c main_v17 = Taps.col16 (argsOf m c).a8 := by
  show StableHlo.after hostOps0 (W0 m ρ c) (Proc.devRef .tc main_v17) = _
  entry_read
  rfl

theorem v18 : V1 m ρ c main_v18 = Taps.col16 (argsOf m c).a14 := by
  show StableHlo.after hostOps0 (W0 m ρ c) (Proc.devRef .tc main_v18) = _
  entry_read
  rfl

theorem v19 : V1 m ρ c main_v19 = Taps.col16 (argsOf m c).a20 := by
  show StableHlo.after hostOps0 (W0 m ρ c) (Proc.devRef .tc main_v19) = _
  entry_read
  rfl

theorem v20 : V1 m ρ c main_v20 = Taps.col16 (argsOf m c).a10 := by
  show StableHlo.after hostOps0 (W0 m ρ c) (Proc.devRef .tc main_v20) = _
  entry_read
  rfl

theorem v21 : V1 m ρ c main_v21 = Taps.col16 (argsOf m c).a16 := by
  show StableHlo.after hostOps0 (W0 m ρ c) (Proc.devRef .tc main_v21) = _
  entry_read
  rfl

theorem v22 : V1 m ρ c main_v22 = Taps.col16 (argsOf m c).a22 := by
  show StableHlo.after hostOps0 (W0 m ρ c) (Proc.devRef .tc main_v22) = _
  entry_read
  rfl

theorem v23 : V1 m ρ c main_v23 = Taps.col32 (argsOf m c).a4 := by
  show StableHlo.after hostOps0 (W0 m ρ c) (Proc.devRef .tc main_v23) = _
  entry_read
  rfl

theorem v24 : V1 m ρ c main_v24 = Taps.col32 (argsOf m c).a24 := by
  show StableHlo.after hostOps0 (W0 m ρ c) (Proc.devRef .tc main_v24) = _
  entry_read
  rfl

theorem v25 : V1 m ρ c main_v25 = Taps.one1 (argsOf m c).a32 := by
  show StableHlo.after hostOps0 (W0 m ρ c) (Proc.devRef .tc main_v25) = _
  entry_read
  rfl

theorem v26 : V1 m ρ c main_v26 = Taps.one1 (argsOf m c).a34 := by
  show StableHlo.after hostOps0 (W0 m ρ c) (Proc.devRef .tc main_v26) = _
  entry_read
  rfl

theorem v27 : V1 m ρ c main_v27 = Taps.eight (argsOf m c).a30 := by
  show StableHlo.after hostOps0 (W0 m ρ c) (Proc.devRef .tc main_v27) = _
  entry_read
  rfl

theorem arg2_1 : V1 m ρ c main_arg2 = (argsOf m c).a2 := W1_args m ρ c main_arg2 (by decide)

theorem arg3_1 : V1 m ρ c main_arg3 = (argsOf m c).a3 := W1_args m ρ c main_arg3 (by decide)

theorem arg23_1 : V1 m ρ c main_arg23 = (argsOf m c).a23 := W1_args m ρ c main_arg23 (by decide)

theorem arg31_1 : V1 m ρ c main_arg31 = (argsOf m c).a31 := W1_args m ρ c main_arg31 (by decide)

theorem arg33_1 : V1 m ρ c main_arg33 = (argsOf m c).a33 := W1_args m ρ c main_arg33 (by decide)

/-! ## What the first launch leaves -/

theorem left0 : W2 m ρ c (Proc.devRef .tc main_v28_0) = Taps.bandN (argsOf m c).a5 (argsOf m c).a7 (argsOf m c).a9 (argsOf m c).a3 := by
  refine ((W2_arr m ρ c 28).trans (arr0_28 (V1 m ρ) c)).trans ?_
  rw [v5, v8, v11, arg3_1]
  rfl

theorem left3 : W2 m ρ c (Proc.devRef .tc main_v28_3) = Taps.biasN (argsOf m c).a5 (argsOf m c).a6 (argsOf m c).a7 (argsOf m c).a8 (argsOf m c).a9 (argsOf m c).a10 (argsOf m c).a4 := by
  refine ((W2_arr m ρ c 31).trans (arr0_31 (V1 m ρ) c)).trans ?_
  rw [v5, v8, v11, v14, v17, v20, v23]
  rfl

theorem left6 : W2 m ρ c (Proc.devRef .tc main_v28_6) = Taps.bandP (argsOf m c).a5 (argsOf m c).a7 (argsOf m c).a9 := by
  refine ((W2_arr m ρ c 34).trans (arr0_34 (V1 m ρ) c)).trans ?_
  rw [v5, v8, v11]
  rfl

theorem left9 : W2 m ρ c (Proc.devRef .tc main_v28_9) = Taps.edgeP (argsOf m c).a5 (argsOf m c).a7 (argsOf m c).a9 (argsOf m c).a3 := by
  refine ((W2_arr m ρ c 37).trans (arr0_37 (V1 m ρ) c)).trans ?_
  rw [v5, v8, v11, arg3_1]
  rfl

theorem left12 : W2 m ρ c (Proc.devRef .tc main_v28_12) = Taps.biasP (argsOf m c).a5 (argsOf m c).a6 (argsOf m c).a7 (argsOf m c).a8 (argsOf m c).a9 (argsOf m c).a10 (argsOf m c).a4 := by
  refine ((W2_arr m ρ c 40).trans (arr0_40 (V1 m ρ) c)).trans ?_
  rw [v5, v8, v11, v14, v17, v20, v23]
  rfl

theorem left1 : W2 m ρ c (Proc.devRef .tc main_v28_1) = Taps.bandN (argsOf m c).a11 (argsOf m c).a13 (argsOf m c).a15 (argsOf m c).a3 := by
  refine ((W2_arr m ρ c 29).trans (arr0_29 (V1 m ρ) c)).trans ?_
  rw [v6, v9, v12, arg3_1]
  rfl

theorem left4 : W2 m ρ c (Proc.devRef .tc main_v28_4) = Taps.biasN (argsOf m c).a11 (argsOf m c).a12 (argsOf m c).a13 (argsOf m c).a14 (argsOf m c).a15 (argsOf m c).a16 (argsOf m c).a4 := by
  refine ((W2_arr m ρ c 32).trans (arr0_32 (V1 m ρ) c)).trans ?_
  rw [v6, v9, v12, v15, v18, v21, v23]
  rfl

theorem left7 : W2 m ρ c (Proc.devRef .tc main_v28_7) = Taps.bandP (argsOf m c).a11 (argsOf m c).a13 (argsOf m c).a15 := by
  refine ((W2_arr m ρ c 35).trans (arr0_35 (V1 m ρ) c)).trans ?_
  rw [v6, v9, v12]
  rfl

theorem left10 : W2 m ρ c (Proc.devRef .tc main_v28_10) = Taps.edgeP (argsOf m c).a11 (argsOf m c).a13 (argsOf m c).a15 (argsOf m c).a3 := by
  refine ((W2_arr m ρ c 38).trans (arr0_38 (V1 m ρ) c)).trans ?_
  rw [v6, v9, v12, arg3_1]
  rfl

theorem left13 : W2 m ρ c (Proc.devRef .tc main_v28_13) = Taps.biasP (argsOf m c).a11 (argsOf m c).a12 (argsOf m c).a13 (argsOf m c).a14 (argsOf m c).a15 (argsOf m c).a16 (argsOf m c).a4 := by
  refine ((W2_arr m ρ c 41).trans (arr0_41 (V1 m ρ) c)).trans ?_
  rw [v6, v9, v12, v15, v18, v21, v23]
  rfl

theorem left2 : W2 m ρ c (Proc.devRef .tc main_v28_2) = Taps.bandN (argsOf m c).a17 (argsOf m c).a19 (argsOf m c).a21 (argsOf m c).a3 := by
  refine ((W2_arr m ρ c 30).trans (arr0_30 (V1 m ρ) c)).trans ?_
  rw [v7, v10, v13, arg3_1]
  rfl

theorem left5 : W2 m ρ c (Proc.devRef .tc main_v28_5) = Taps.biasN (argsOf m c).a17 (argsOf m c).a18 (argsOf m c).a19 (argsOf m c).a20 (argsOf m c).a21 (argsOf m c).a22 (argsOf m c).a4 := by
  refine ((W2_arr m ρ c 33).trans (arr0_33 (V1 m ρ) c)).trans ?_
  rw [v7, v10, v13, v16, v19, v22, v23]
  rfl

theorem left8 : W2 m ρ c (Proc.devRef .tc main_v28_8) = Taps.bandP (argsOf m c).a17 (argsOf m c).a19 (argsOf m c).a21 := by
  refine ((W2_arr m ρ c 36).trans (arr0_36 (V1 m ρ) c)).trans ?_
  rw [v7, v10, v13]
  rfl

theorem left11 : W2 m ρ c (Proc.devRef .tc main_v28_11) = Taps.edgeP (argsOf m c).a17 (argsOf m c).a19 (argsOf m c).a21 (argsOf m c).a3 := by
  refine ((W2_arr m ρ c 39).trans (arr0_39 (V1 m ρ) c)).trans ?_
  rw [v7, v10, v13, arg3_1]
  rfl

theorem left14 : W2 m ρ c (Proc.devRef .tc main_v28_14) = Taps.biasP (argsOf m c).a17 (argsOf m c).a18 (argsOf m c).a19 (argsOf m c).a20 (argsOf m c).a21 (argsOf m c).a22 (argsOf m c).a4 := by
  refine ((W2_arr m ρ c 42).trans (arr0_42 (V1 m ρ) c)).trans ?_
  rw [v7, v10, v13, v16, v19, v22, v23]
  rfl

theorem left15 : W2 m ρ c (Proc.devRef .tc main_v28_15) = Taps.mixPos (argsOf m c).a23 := by
  refine ((W2_arr m ρ c 43).trans (arr0_43 (V1 m ρ) c)).trans ?_
  rw [arg23_1]

theorem left16 : W2 m ρ c (Proc.devRef .tc main_v28_16) = Taps.mixBias (Taps.col32 (argsOf m c).a24) := by
  refine ((W2_arr m ρ c 44).trans (arr0_44 (V1 m ρ) c)).trans ?_
  rw [v24]

theorem left17 : W2 m ρ c (Proc.devRef .tc main_v28_17) = Taps.readOut (argsOf m c).a31 := by
  refine ((W2_arr m ρ c 45).trans (arr0_45 (V1 m ρ) c)).trans ?_
  rw [arg31_1]

theorem left18 : W2 m ρ c (Proc.devRef .tc main_v28_18) = Taps.readBias (argsOf m c).a31 (Taps.one1 (argsOf m c).a32) (argsOf m c).a33 (Taps.one1 (argsOf m c).a34) (Taps.eight (argsOf m c).a30) := by
  refine ((W2_arr m ρ c 46).trans (arr0_46 (V1 m ρ) c)).trans ?_
  rw [arg31_1, v25, arg33_1, v26, v27]

/-- The edges over the arguments. -/
theorem left19 : W2 m ρ c (Proc.devRef .tc main_v28_19) = edgesOf (argsOf m c) := by
  refine ((W2_arr m ρ c 47).trans (arr0_47 (V1 m ρ) c)).trans ?_
  have e0 : View.ld (V1 m ρ c main_arg2) r0_17 = edgeRow (argsOf m c) 0 := by
    rw [arg2_1]
    funext i
    show (argsOf m c).a2 _ = (argsOf m c).a2 _
    congr 1
    funext d
    apply Fin.ext
    fin_cases d
    · show 0 + 1 * (i 0).val = 0; have := (i 0).isLt; change (i 0).val < 1 at this; omega
    · show 0 + 1 * (i 1).val = (i 1).val; omega
  have e1 : View.ld (V1 m ρ c main_arg2) r0_18 = edgeRow (argsOf m c) 1 := by
    rw [arg2_1]
    funext i
    show (argsOf m c).a2 _ = (argsOf m c).a2 _
    congr 1
    funext d
    apply Fin.ext
    fin_cases d
    · show 1 + 1 * (i 0).val = 1; have := (i 0).isLt; change (i 0).val < 1 at this; omega
    · show 0 + 1 * (i 1).val = (i 1).val; omega
  exact congrArg₂ Taps.edges e0 e1

/-! ## Before the second launch -/

theorem at0 : V3 m ρ c main_v28_0 = Taps.bandN (argsOf m c).a5 (argsOf m c).a7 (argsOf m c).a9 (argsOf m c).a3 := (W3_of m ρ c main_v28_0 (by decide)).trans (left0 m ρ c)

theorem at1 : V3 m ρ c main_v28_1 = Taps.bandN (argsOf m c).a11 (argsOf m c).a13 (argsOf m c).a15 (argsOf m c).a3 := (W3_of m ρ c main_v28_1 (by decide)).trans (left1 m ρ c)

theorem at2 : V3 m ρ c main_v28_2 = Taps.bandN (argsOf m c).a17 (argsOf m c).a19 (argsOf m c).a21 (argsOf m c).a3 := (W3_of m ρ c main_v28_2 (by decide)).trans (left2 m ρ c)

theorem at6 : V3 m ρ c main_v28_6 = Taps.bandP (argsOf m c).a5 (argsOf m c).a7 (argsOf m c).a9 := (W3_of m ρ c main_v28_6 (by decide)).trans (left6 m ρ c)

theorem at7 : V3 m ρ c main_v28_7 = Taps.bandP (argsOf m c).a11 (argsOf m c).a13 (argsOf m c).a15 := (W3_of m ρ c main_v28_7 (by decide)).trans (left7 m ρ c)

theorem at8 : V3 m ρ c main_v28_8 = Taps.bandP (argsOf m c).a17 (argsOf m c).a19 (argsOf m c).a21 := (W3_of m ρ c main_v28_8 (by decide)).trans (left8 m ρ c)

theorem at9 : V3 m ρ c main_v28_9 = Taps.edgeP (argsOf m c).a5 (argsOf m c).a7 (argsOf m c).a9 (argsOf m c).a3 := (W3_of m ρ c main_v28_9 (by decide)).trans (left9 m ρ c)

theorem at10 : V3 m ρ c main_v28_10 = Taps.edgeP (argsOf m c).a11 (argsOf m c).a13 (argsOf m c).a15 (argsOf m c).a3 := (W3_of m ρ c main_v28_10 (by decide)).trans (left10 m ρ c)

theorem at11 : V3 m ρ c main_v28_11 = Taps.edgeP (argsOf m c).a17 (argsOf m c).a19 (argsOf m c).a21 (argsOf m c).a3 := (W3_of m ρ c main_v28_11 (by decide)).trans (left11 m ρ c)

theorem at15 : V3 m ρ c main_v28_15 = Taps.mixPos (argsOf m c).a23 := (W3_of m ρ c main_v28_15 (by decide)).trans (left15 m ρ c)

theorem at16 : V3 m ρ c main_v28_16 = Taps.mixBias (Taps.col32 (argsOf m c).a24) := (W3_of m ρ c main_v28_16 (by decide)).trans (left16 m ρ c)

theorem v2_3 : V3 m ρ c main_v2 = Taps.series (argsOf m c) :=
  ((W3_of m ρ c main_v2 (by decide)).trans (W2_of m ρ c main_v2 (by decide))).trans (v2 m ρ c)

theorem v4_3 : V3 m ρ c main_v4 = Taps.places (argsOf m c) :=
  ((W3_of m ρ c main_v4 (by decide)).trans (W2_of m ρ c main_v4 (by decide))).trans (v4 m ρ c)

theorem v29 : V3 m ρ c main_v29 = shapeCast S1x1024 (Taps.biasN (argsOf m c).a5 (argsOf m c).a6 (argsOf m c).a7 (argsOf m c).a8 (argsOf m c).a9 (argsOf m c).a10 (argsOf m c).a4) shapeCasts_S16x64_S1x1024 := by
  have e : V3 m ρ c main_v29 = shapeCast S1x1024 (W2 m ρ c (Proc.devRef .tc main_v28_3)) shapeCasts_S16x64_S1x1024 := by
    show StableHlo.after hostOps1 (W2 m ρ c) (Proc.devRef .tc main_v29) = _
    entry_read
    rfl
  rw [e, left3]

theorem v32 : V3 m ρ c main_v32 = shapeCast S1x256 (Taps.biasP (argsOf m c).a5 (argsOf m c).a6 (argsOf m c).a7 (argsOf m c).a8 (argsOf m c).a9 (argsOf m c).a10 (argsOf m c).a4) shapeCasts_S16x16_S1x256 := by
  have e : V3 m ρ c main_v32 = shapeCast S1x256 (W2 m ρ c (Proc.devRef .tc main_v28_12)) shapeCasts_S16x16_S1x256 := by
    show StableHlo.after hostOps1 (W2 m ρ c) (Proc.devRef .tc main_v32) = _
    entry_read
    rfl
  rw [e, left12]

theorem v30 : V3 m ρ c main_v30 = shapeCast S1x1024 (Taps.biasN (argsOf m c).a11 (argsOf m c).a12 (argsOf m c).a13 (argsOf m c).a14 (argsOf m c).a15 (argsOf m c).a16 (argsOf m c).a4) shapeCasts_S16x64_S1x1024 := by
  have e : V3 m ρ c main_v30 = shapeCast S1x1024 (W2 m ρ c (Proc.devRef .tc main_v28_4)) shapeCasts_S16x64_S1x1024 := by
    show StableHlo.after hostOps1 (W2 m ρ c) (Proc.devRef .tc main_v30) = _
    entry_read
    rfl
  rw [e, left4]

theorem v33 : V3 m ρ c main_v33 = shapeCast S1x256 (Taps.biasP (argsOf m c).a11 (argsOf m c).a12 (argsOf m c).a13 (argsOf m c).a14 (argsOf m c).a15 (argsOf m c).a16 (argsOf m c).a4) shapeCasts_S16x16_S1x256 := by
  have e : V3 m ρ c main_v33 = shapeCast S1x256 (W2 m ρ c (Proc.devRef .tc main_v28_13)) shapeCasts_S16x16_S1x256 := by
    show StableHlo.after hostOps1 (W2 m ρ c) (Proc.devRef .tc main_v33) = _
    entry_read
    rfl
  rw [e, left13]

theorem v31 : V3 m ρ c main_v31 = shapeCast S1x1024 (Taps.biasN (argsOf m c).a17 (argsOf m c).a18 (argsOf m c).a19 (argsOf m c).a20 (argsOf m c).a21 (argsOf m c).a22 (argsOf m c).a4) shapeCasts_S16x64_S1x1024 := by
  have e : V3 m ρ c main_v31 = shapeCast S1x1024 (W2 m ρ c (Proc.devRef .tc main_v28_5)) shapeCasts_S16x64_S1x1024 := by
    show StableHlo.after hostOps1 (W2 m ρ c) (Proc.devRef .tc main_v31) = _
    entry_read
    rfl
  rw [e, left5]

theorem v34 : V3 m ρ c main_v34 = shapeCast S1x256 (Taps.biasP (argsOf m c).a17 (argsOf m c).a18 (argsOf m c).a19 (argsOf m c).a20 (argsOf m c).a21 (argsOf m c).a22 (argsOf m c).a4) shapeCasts_S16x16_S1x256 := by
  have e : V3 m ρ c main_v34 = shapeCast S1x256 (W2 m ρ c (Proc.devRef .tc main_v28_14)) shapeCasts_S16x16_S1x256 := by
    show StableHlo.after hostOps1 (W2 m ρ c) (Proc.devRef .tc main_v34) = _
    entry_read
    rfl
  rw [e, left14]

theorem v35 : V3 m ρ c main_v35 = Taps.row512 (argsOf m c).a26 := by
  have e : V3 m ρ c main_v35 = broadcastInDim S1x512 ![1] bcast_S512_S1x512_1 (W2 m ρ c (Proc.devRef .tc main_arg26)) := by
    show StableHlo.after hostOps1 (W2 m ρ c) (Proc.devRef .tc main_v35) = _
    entry_read
    rfl
  rw [e, W2_args m ρ c main_arg26 (by decide)]
  rfl

theorem v36 : V3 m ρ c main_v36 = Taps.row512 (argsOf m c).a28 := by
  have e : V3 m ρ c main_v36 = broadcastInDim S1x512 ![1] bcast_S512_S1x512_1 (W2 m ρ c (Proc.devRef .tc main_arg28)) := by
    show StableHlo.after hostOps1 (W2 m ρ c) (Proc.devRef .tc main_v36) = _
    entry_read
    rfl
  rw [e, W2_args m ρ c main_arg28 (by decide)]
  rfl

theorem arg25_3 : V3 m ρ c main_arg25 = (argsOf m c).a25 := W3_args m ρ c main_arg25 (by decide)

theorem arg27_3 : V3 m ρ c main_arg27 = (argsOf m c).a27 := W3_args m ρ c main_arg27 (by decide)

/-! ## What the second launch leaves -/

theorem made0 : W4 m ρ c (Proc.devRef .tc main_v37_0) = Taps.dense (Taps.featN (argsOf m c)) (argsOf m c).a25 (Taps.row512 (argsOf m c).a26) := by
  refine ((W4_arr m ρ c 23).trans (arr1_23 (V3 m ρ) c)).trans ?_
  rw [v2_3, at0, at1, at2, v29, v30, v31, arg25_3, v35]
  rfl

theorem made1 : W4 m ρ c (Proc.devRef .tc main_v37_1) = Taps.dense (Taps.featN (argsOf m c)) (argsOf m c).a27 (Taps.row512 (argsOf m c).a28) := by
  refine ((W4_arr m ρ c 24).trans (arr1_24 (V3 m ρ) c)).trans ?_
  rw [v2_3, at0, at1, at2, v29, v30, v31, arg27_3, v36]
  rfl

theorem made2 : W4 m ρ c (Proc.devRef .tc main_v37_2) = Taps.posDense (Taps.featP (argsOf m c)) (Taps.mixPos (argsOf m c).a23) (Taps.mixBias (Taps.col32 (argsOf m c).a24)) := by
  refine ((W4_arr m ρ c 25).trans (arr1_25 (V3 m ρ) c)).trans ?_
  rw [v2_3, v4_3, at6, at7, at8, at9, at10, at11, v32, v33, v34, at15, at16]
  rfl

/-! ## Before the third launch -/

theorem v38 : V5 m ρ c main_v38 = shapeCast S16x62x512 (Taps.dense (Taps.featN (argsOf m c)) (argsOf m c).a25 (Taps.row512 (argsOf m c).a26)) shapeCasts_S992x512_S16x62x512 := by
  have e : V5 m ρ c main_v38 = shapeCast S16x62x512 (W4 m ρ c (Proc.devRef .tc main_v37_0)) shapeCasts_S992x512_S16x62x512 := by
    show StableHlo.after hostOps2 (W4 m ρ c) (Proc.devRef .tc main_v38) = _
    entry_read
    rfl
  rw [e, made0]

theorem v39 : V5 m ρ c main_v39 = shapeCast S16x62x512 (Taps.dense (Taps.featN (argsOf m c)) (argsOf m c).a27 (Taps.row512 (argsOf m c).a28)) shapeCasts_S992x512_S16x62x512 := by
  have e : V5 m ρ c main_v39 = shapeCast S16x62x512 (W4 m ρ c (Proc.devRef .tc main_v37_1)) shapeCasts_S992x512_S16x62x512 := by
    show StableHlo.after hostOps2 (W4 m ρ c) (Proc.devRef .tc main_v39) = _
    entry_read
    rfl
  rw [e, made1]

theorem at17 : V5 m ρ c main_v28_17 = Taps.readOut (argsOf m c).a31 :=
  (((W5_of m ρ c main_v28_17 (by decide)).trans (W4_of m ρ c main_v28_17 (by decide))).trans (W3_of m ρ c main_v28_17 (by decide))).trans (left17 m ρ c)

theorem at18 : V5 m ρ c main_v28_18 = Taps.readBias (argsOf m c).a31 (Taps.one1 (argsOf m c).a32) (argsOf m c).a33 (Taps.one1 (argsOf m c).a34) (Taps.eight (argsOf m c).a30) :=
  (((W5_of m ρ c main_v28_18 (by decide)).trans (W4_of m ρ c main_v28_18 (by decide))).trans (W3_of m ρ c main_v28_18 (by decide))).trans (left18 m ρ c)

theorem at19 : V5 m ρ c main_v28_19 = edgesOf (argsOf m c) :=
  (((W5_of m ρ c main_v28_19 (by decide)).trans (W4_of m ρ c main_v28_19 (by decide))).trans (W3_of m ρ c main_v28_19 (by decide))).trans (left19 m ρ c)

theorem arg29_5 : V5 m ρ c main_arg29 = (argsOf m c).a29 := W5_args m ρ c main_arg29 (by decide)

theorem arg33_5 : V5 m ρ c main_arg33 = (argsOf m c).a33 := W5_args m ρ c main_arg33 (by decide)

/-! ## The three results -/

theorem result1 : W7 m ρ c (Proc.devRef .tc main_v40) = allOut (shapeCast S16x62x512 (Taps.dense (Taps.featN (argsOf m c)) (argsOf m c).a25 (Taps.row512 (argsOf m c).a26)) shapeCasts_S992x512_S16x62x512) (shapeCast S16x62x512 (Taps.dense (Taps.featN (argsOf m c)) (argsOf m c).a27 (Taps.row512 (argsOf m c).a28)) shapeCasts_S992x512_S16x62x512)
    (argsOf m c).a29 (edgesOf (argsOf m c)) (argsOf m c).a33 (Taps.readOut (argsOf m c).a31)
    (Taps.readBias (argsOf m c).a31 (Taps.one1 (argsOf m c).a32) (argsOf m c).a33 (Taps.one1 (argsOf m c).a34) (Taps.eight (argsOf m c).a30)) := by
  refine ((W7_of m ρ c main_v40 (by decide)).trans ((W6_arr m ρ c 7).trans (arr2_7 (V5 m ρ) c))).trans ?_
  rw [v38, v39, arg29_5, at19, arg33_5, at17, at18]

theorem result2 : W7 m ρ c (Proc.devRef .tc main_v1) = extractStridedSlice S16x1x64 ![0, 62, 0] (argsOf m c).a0 slices_S16x63x64_S16x1x64_0_62_0 :=
  ((W7_of m ρ c main_v1 (by decide)).trans <| (W6_of m ρ c main_v1 (by decide)).trans <| (W5_of m ρ c main_v1 (by decide)).trans <|
    (W4_of m ρ c main_v1 (by decide)).trans <| (W3_of m ρ c main_v1 (by decide)).trans <| (W2_of m ρ c main_v1 (by decide))).trans (v1 m ρ c)

theorem result3 : W7 m ρ c (Proc.devRef .tc main_v42) = transpose S16x32x62x16 [0, 2, 1, 3]
    (shapeCast S16x62x32x16 (Taps.posDense (Taps.featP (argsOf m c)) (Taps.mixPos (argsOf m c).a23) (Taps.mixBias (Taps.col32 (argsOf m c).a24))) shapeCasts_S992x512_S16x62x32x16)
    transposes_S16x62x32x16_S16x32x62x16_0_2_1_3 := by
  have e : W7 m ρ c (Proc.devRef .tc main_v42) = transpose S16x32x62x16 [0, 2, 1, 3]
      (shapeCast S16x62x32x16 (W6 m ρ c (Proc.devRef .tc main_v37_2)) shapeCasts_S992x512_S16x62x32x16)
      transposes_S16x62x32x16_S16x32x62x16_0_2_1_3 := by
    show StableHlo.after hostOps3 (W6 m ρ c) (Proc.devRef .tc main_v42) = _
    entry_read
    rfl
  rw [e, W6_of m ρ c main_v37_2 (by decide), W5_of m ρ c main_v37_2 (by decide), made2]

end Cert.KernelIdeal.Gen
-- ==== Proof.RefGraph.lean ====
/- How the reference follows the edges: picking the rows of the edges' ends, and adding up over the edges into a node. -/
module

public import proofs.«01_k».proof.Proof.RefAttend
public import proofs.«01_k».proof.Proof.Softmax
public import Idealize.ShloMosaic.Lib.Pointwise
public import Idealize.ShloMosaic.Lib.ValueIdxCore
public import Idealize.ShloMosaic.Lib.Routing.OpsPair

@[expose] public section

set_option maxRecDepth 16384

noncomputable section

namespace Cert.ReferenceIdeal.Ref

open Idealize.ShloMosaic Idealize.ShloMosaic.TcCoe
open Cert.ReferenceIdeal Cert.ReferenceIdeal.Gen Cert.Value

variable (t : IVec S4062 32) (node : Fin 4062 → Fin 62)

theorem rows_apply (ht : ∀ e, t (ix1 e) = BitVec.ofNat 32 (node e).val) (e : Fin 4062) (j : Fin 1) :
    rows t (ix2 e j) = BitVec.ofNat 32 (node e).val := by
  pointwise [rows]
  rw [ht]
  generalize node e = n
  revert n
  decide +kernel

theorem toInt_node (n : Fin 62) : (BitVec.ofNat 32 n.val).toInt = n.val := by
  revert n
  decide +kernel

/-- Dimension numbers of the gathers, at any number of channels. -/
abbrev pickDims (K : ℕ) (wf : GatherDims.WF ⟨3, ![16, 62, K]⟩ ⟨2, ![4062, 1]⟩ ⟨3, ![16, 4062, K]⟩ [0, 2] [1] [] [1] [] 1 ![16, 1, K]) :
    GatherDims ⟨3, ![16, 62, K]⟩ ⟨2, ![4062, 1]⟩ ⟨3, ![16, 4062, K]⟩ where
  offsetDims := [0, 2]
  collapsedSliceDims := [1]
  operandBatchingDims := []
  startIndicesBatchingDims := []
  startIndexMap := [1]
  indexVectorDim := 1
  sliceSizes := ![16, 1, K]
  wf := wf

theorem pick_dims {K : ℕ} (wf) (x : (⟨3, ![16, 62, K]⟩ : Shape).Idx → EReal) (idx : IVec S4062x1 32)
    (hi : ∀ e, idx (ix2 e 0) = BitVec.ofNat 32 (node e).val) (b : Fin 16) (e : Fin 4062) (k : Fin K) :
    Host.gather (pickDims K wf) x idx (ix3 b e k) = x (ix3 b (node e) k) := by
  unfold Host.gather
  congr 1
  have s0 : (pickDims K wf).start (ix3 b e k) idx 0 = 0 := by
    unfold GatherDims.start; rw [dif_neg (show (0 : Fin 3) ∉ ([1] : List (Fin 3)) by decide)]
  have s2 : (pickDims K wf).start (ix3 b e k) idx 2 = 0 := by
    unfold GatherDims.start; rw [dif_neg (show (2 : Fin 3) ∉ ([1] : List (Fin 3)) by decide)]
  have s1 : (pickDims K wf).start (ix3 b e k) idx 1 = (node e).val := by
    unfold GatherDims.start
    rw [dif_pos (show (1 : Fin 3) ∈ (pickDims K wf).startIndexMap from List.mem_singleton.mpr rfl)]
    have hs : (pickDims K wf).siIdx (ix3 b e k) ⟨List.idxOf (1 : Fin 3) (pickDims K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hs, hi, toInt_node]
    show min ((node e).val : Int).toNat (62 - 1) = _
    have := (node e).isLt
    omega
  have o0 : (pickDims K wf).offCoord (ix3 b e k) 0 = b.val := rfl
  have o1 : (pickDims K wf).offCoord (ix3 b e k) 1 = 0 := rfl
  have o2 : (pickDims K wf).offCoord (ix3 b e k) 2 = k.val := rfl
  funext a
  refine Fin.ext ?_
  show (pickDims K wf).start (ix3 b e k) idx a + (pickDims K wf).batchCoord (ix3 b e k) a + (pickDims K wf).offCoord (ix3 b e k) a = _
  rw [GatherDims.batchCoord_eq_zero _ _ _ List.not_mem_nil, Nat.add_zero]
  match a with
  | ⟨0, _⟩ => exact (congrArg₂ (· + ·) s0 o0).trans (Nat.zero_add _)
  | ⟨1, _⟩ => exact congrArg₂ (· + ·) s1 o1
  | ⟨2, _⟩ => exact (congrArg₂ (· + ·) s2 o2).trans (Nat.zero_add _)

/-- Dimension numbers of the sums over edges, at any number of channels. -/
abbrev sumDims (K : ℕ) (wf : ScatterDims.WF ⟨3, ![16, 62, K]⟩ ⟨2, ![4062, 1]⟩ ⟨3, ![16, 4062, K]⟩ [0, 2] [1] [1] 1) :
    ScatterDims ⟨3, ![16, 62, K]⟩ ⟨2, ![4062, 1]⟩ ⟨3, ![16, 4062, K]⟩ where
  updateWindowDims := [0, 2]
  insertedWindowDims := [1]
  scatterDimsToOperandDims := [1]
  indexVectorDim := 1
  wf := wf

theorem lands {K : ℕ} (wf) (idx : IVec S4062x1 32)
    (hi : ∀ e, idx (ix2 e 0) = BitVec.ofNat 32 (node e).val) (b b' : Fin 16) (e : Fin 4062) (k k' : Fin K) (i : Fin 62) :
    (sumDims K wf).resultIdx? (ix3 b' e k') idx = some (ix3 b i k) ↔ b' = b ∧ node e = i ∧ k' = k := by
  have s0 : (sumDims K wf).start (ix3 b' e k') idx 0 = 0 := by
    unfold ScatterDims.start; rw [dif_neg (show (0 : Fin 3) ∉ ([1] : List (Fin 3)) by decide)]
  have s2 : (sumDims K wf).start (ix3 b' e k') idx 2 = 0 := by
    unfold ScatterDims.start; rw [dif_neg (show (2 : Fin 3) ∉ ([1] : List (Fin 3)) by decide)]
  have s1 : (sumDims K wf).start (ix3 b' e k') idx 1 = (node e).val := by
    unfold ScatterDims.start
    rw [dif_pos (show (1 : Fin 3) ∈ (sumDims K wf).scatterDimsToOperandDims from List.mem_singleton.mpr rfl)]
    have hs : (sumDims K wf).siIdx (ix3 b' e k') ⟨List.idxOf (1 : Fin 3) (sumDims K wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hs, hi, toInt_node]
  have w0 : (sumDims K wf).window (ix3 b' e k') 0 = b'.val := rfl
  have w1 : (sumDims K wf).window (ix3 b' e k') 1 = 0 := rfl
  have w2 : (sumDims K wf).window (ix3 b' e k') 2 = k'.val := rfl
  rw [Routing.resultIdx?_eq_some]
  constructor
  · intro h
    have h0 := h 0
    have h1 := h 1
    have h2 := h 2
    rw [s0, w0] at h0
    rw [s1, w1] at h1
    rw [s2, w2] at h2
    change (0 : Int) + (b'.val : Int) = (b.val : Int) at h0
    change ((node e).val : Int) + ((0 : ℕ) : Int) = (i.val : Int) at h1
    change (0 : Int) + (k'.val : Int) = (k.val : Int) at h2
    exact ⟨Fin.ext (by omega), Fin.ext (by omega), Fin.ext (by omega)⟩
  · rintro ⟨rfl, rfl, rfl⟩ a
    match a with
    | ⟨0, _⟩ => show (sumDims K wf).start (ix3 b' e k') idx 0 + ((sumDims K wf).window (ix3 b' e k') 0 : Int) = (b'.val : Int); rw [s0, w0]; omega
    | ⟨1, _⟩ => show (sumDims K wf).start (ix3 b' e k') idx 1 + ((sumDims K wf).window (ix3 b' e k') 1 : Int) = ((node e).val : Int); rw [s1, w1]; omega
    | ⟨2, _⟩ => show (sumDims K wf).start (ix3 b' e k') idx 2 + ((sumDims K wf).window (ix3 b' e k') 2 : Int) = (k'.val : Int); rw [s2, w2]; omega

theorem sum_lands {K : ℕ} (P : (⟨3, ![16, 4062, K]⟩ : Shape).Idx → Prop) [DecidablePred P] (y : (⟨3, ![16, 4062, K]⟩ : Shape).Idx → EReal)
    (b : Fin 16) (i : Fin 62) (k : Fin K)
    (hP : ∀ (b' : Fin 16) (e : Fin 4062) (k' : Fin K), P (ix3 b' e k') ↔ b' = b ∧ node e = i ∧ k' = k) :
    ∑ j ∈ Finset.univ.filter P, y j = ∑ e, if node e = i then y (ix3 b e k) else 0 := by
  rw [← Finset.sum_filter]
  symm
  have inj : Function.Injective fun e : Fin 4062 => (ix3 b e k : (⟨3, ![16, 4062, K]⟩ : Shape).Idx) := fun e e' h => congrFun h 1
  rw [show (∑ e ∈ Finset.univ.filter (fun e => node e = i), y (ix3 b e k))
    = ∑ j ∈ (Finset.univ.filter (fun e => node e = i)).map ⟨_, inj⟩, y j from (Finset.sum_map _ ⟨_, inj⟩ y).symm]
  refine Finset.sum_congr (Finset.ext fun j => ?_) fun _ _ => rfl
  obtain ⟨b', e, k', rfl⟩ : ∃ (b' : Fin 16) (e : Fin 4062) (k' : Fin K), j = ix3 b' e k' :=
    ⟨j 0, j 1, j 2, by funext a; match a with | ⟨0, _⟩ => rfl | ⟨1, _⟩ => rfl | ⟨2, _⟩ => rfl⟩
  rw [Finset.mem_filter, hP, Finset.mem_map]
  constructor
  · rintro ⟨e', he, h⟩
    have h0 : b = b' := congrFun h 0
    have h1 : e' = e := congrFun h 1
    have h2 : k = k' := congrFun h 2
    subst h0 h1 h2
    exact ⟨Finset.mem_univ _, rfl, (Finset.mem_filter.mp he).2, rfl⟩
  · rintro ⟨_, rfl, hn, rfl⟩
    exact ⟨e, Finset.mem_filter.mpr ⟨Finset.mem_univ _, hn⟩, rfl⟩

theorem sum_dims {K : ℕ} (wf) (x : FVec Ideal ⟨3, ![16, 62, K]⟩ .f32) (idx : IVec S4062x1 32) (y : FVec Ideal ⟨3, ![16, 4062, K]⟩ .f32)
    (hi : ∀ e, idx (ix2 e 0) = BitVec.ofNat 32 (node e).val) (b : Fin 16) (i : Fin 62) (k : Fin K) :
    Host.scatterAdd (sumDims K wf) x idx y (ix3 b i k) = x (ix3 b i k) + ∑ e, if node e = i then y (ix3 b e k) else 0 :=
  congrArg (x (ix3 b i k) + ·) (sum_lands node _ y b i k fun b' e k' => lands node wf idx hi b b' e k k' i)

variable (ht : ∀ e, t (ix1 e) = BitVec.ofNat 32 (node e).val)
include ht

theorem pick_apply (x : FVec Ideal S16x62x512 .f32) (b : Fin 16) (e : Fin 4062) (k : Fin 512) :
    pick x t (ix3 b e k) = x (ix3 b (node e) k) :=
  pick_dims node _ x (rows t) (fun e => rows_apply t node ht e 0) b e k

theorem pick2_apply (x : FVec Ideal S16x62x2 .f32) (b : Fin 16) (e : Fin 4062) (k : Fin 2) :
    pick2 x t (ix3 b e k) = x (ix3 b (node e) k) :=
  pick_dims node _ x (rows t) (fun e => rows_apply t node ht e 0) b e k

theorem gathered_apply (y : FVec Ideal S16x4062x512 .f32) (b : Fin 16) (i : Fin 62) (k : Fin 512) :
    gathered y t (ix3 b i k) = ∑ e, if node e = i then y (ix3 b e k) else 0 := by
  refine (sum_dims node _ _ (rows t) y (fun e => rows_apply t node ht e 0) b i k).trans ?_
  have z : (FloatOps.ofBits .f32 0x00000000#32 : Ideal .f32) = 0 := Ideal.ofBits_zero_f32
  show (FloatOps.ofBits .f32 0x00000000#32 : Ideal .f32) + _ = _
  rw [z, zero_add]

theorem total_apply (y : FVec Ideal S16x4062x2 .f32) (b : Fin 16) (i : Fin 62) (k : Fin 2) :
    total y t (ix3 b i k) = ∑ e, if node e = i then y (ix3 b e k) else 0 := by
  refine (sum_dims node _ _ (rows t) y (fun e => rows_apply t node ht e 0) b i k).trans ?_
  have z : (FloatOps.ofBits .f32 0x00000000#32 : Ideal .f32) = 0 := Ideal.ofBits_zero_f32
  show (FloatOps.ofBits .f32 0x00000000#32 : Ideal .f32) + _ = _
  rw [z, zero_add]

theorem top_apply (s : FVec Ideal S16x4062x2 .f32) (b : Fin 16) (i : Fin 62) (h : Fin 2) :
    top s t (ix3 b i h) = Finset.univ.fold max ⊥ fun e => if node e = i then s (ix3 b e h) else ⊥ := by
  pointwise [top]
  have low : Ideal.ofBits .f32 0xFF800000#32 = ⊥ := by simp [Ideal.ofBits, Ideal.ieee]
  have low' : (id (constant (F := Ideal) S_ .f32 0xFF800000#32) : FVec Ideal S_ .f32) ix0 = ⊥ := low
  rw [low, low']
  refine congrArg (fun f => Finset.fold max ⊥ f Finset.univ) (funext fun e => ?_)
  rw [ht]
  by_cases h : node e = i
  · rw [h, if_pos rfl]; simp [Scalar.select, IntOp.cmpi]
  · have hne : BitVec.ofNat 32 (node e).val ≠ BitVec.ofNat 32 i.val := fun h' => h (Fin.ext (by
      have := congrArg BitVec.toNat h'
      simp only [BitVec.toNat_ofNat] at this
      omega))
    rw [if_neg h]; simp [Scalar.select, IntOp.cmpi, beq_eq_false_iff_ne.mpr hne]

end Cert.ReferenceIdeal.Ref
-- ==== Proof.RefNodes.lean ====
/- What the reference's attention gives each node, and its readout. -/
module

public import proofs.«01_k».proof.Proof.RefGraph
public import proofs.«01_k».proof.Proof.Bands
public import proofs.«01_k».proof.Proof.Softmax

@[expose] public section

set_option maxRecDepth 16384

noncomputable section

namespace Cert.ReferenceIdeal.Ref

open Idealize.ShloMosaic Idealize.ShloMosaic.TcCoe
open Cert.ReferenceIdeal Cert.ReferenceIdeal.Gen Cert.Value
open Cert.KernelIdeal.Taps (coe_sum)

theorem scores_apply (x y : FVec Ideal S16x4062x512 .f32) (a : FVec Ideal S2x256 .f32) (b : Fin 16) (e : Fin 4062) (h : Fin 2) :
    scores (pairSum x y) a (ix3 b e h)
      = edgeScore (fun c => x (ix3 b e ⟨h.val * 256 + c.val, by omega⟩)) (fun c => y (ix3 b e ⟨h.val * 256 + c.val, by omega⟩)) (fun c => a (ix2 h c)) := by
  pointwise [scores, pairSum, edgeScore]

theorem weight_apply (s : FVec Ideal S16x4062x2 .f32) (t : IVec S4062 32)  (b : Fin 16) (e : Fin 4062) (h : Fin 2) :
    weight s t (ix3 b e h) = Ideal.exp (s (ix3 b e h) - pick2 (top s t) t (ix3 b e h)) := by
  pointwise [weight]

theorem share_apply (s : FVec Ideal S16x4062x2 .f32) (t : IVec S4062 32)  (b : Fin 16) (e : Fin 4062) (h : Fin 2) :
    share s t (ix3 b e h) = Ideal.div (s (ix3 b e h)) (pick2 (total s t) t (ix3 b e h) + Ideal.ofBits FTy.f32 0x24E69595#32) := by
  pointwise [share]

theorem message_apply (s : FVec Ideal S16x4062x2 .f32) (x : FVec Ideal S16x4062x512 .f32)  (b : Fin 16) (e : Fin 4062) (k : Fin 512) :
    message s x (ix3 b e k) = s (ix3 b e ⟨k.val / 256, by omega⟩) * x (ix3 b e k) := by
  pointwise [message]

/-- The readout at a time. -/
theorem readout_apply (y : FVec Ideal S16x62x512 .f32) (gb : FVec Ideal S512 .f32) (w2 : FVec Ideal S1x8 .f32) (b2 : FVec Ideal S1 .f32) (w1 : FVec Ideal S1x62 .f32)
    (b1 : FVec Ideal S1 .f32) (b : Fin 16) (t : Fin 64) : readout y gb w2 b2 w1 b1 (ix2 b t)
      = ∑ n : Fin 62, (∑ r : Fin 8, (y (ix3 b n ⟨r.val * 64 + t.val, by omega⟩) + gb (ix1 ⟨r.val * 64 + t.val, by omega⟩)) * w2 (ix2 0 r) + b2 (ix1 0))
          * w1 (ix2 0 n) + b1 (ix1 0) := by
  pointwise [readout]

theorem div_exp (x : EReal) : Ideal.div 1 (1 + Ideal.exp (-x)) = Ideal.logistic x := by
  induction x with
  | bot => rw [EReal.neg_bot, Ideal.exp_top, Ideal.logistic_bot, EReal.add_top_of_ne_bot (by decide)]; simp [Ideal.div]
  | top => rw [EReal.neg_top, Ideal.exp_bot, Ideal.logistic_top, add_zero]; simp [Ideal.div]
  | coe x =>
    have h : (1 + Real.exp (-x)) ≠ 0 := by positivity
    rw [← EReal.coe_neg, Ideal.exp_coe, Ideal.logistic_coe, ← EReal.coe_one, ← EReal.coe_add, Ideal.div_coe h, ← EReal.coe_mul]
    congr 1
    rw [one_mul, one_div]

/-- The prediction is the logistic function of the readout. -/
theorem predict_apply (x : FVec Ideal S16x64 .f32) (b : Fin 16) (t : Fin 64) :
    predict x (ix3 b 0 t) = Ideal.logistic (x (ix2 b t)) := by
  rw [← div_exp]
  pointwise [predict]

theorem posLearned_apply (g : FVec Ideal S16x16x62x80 .f32) (w : FVec Ideal S32x16 .f32) (c : FVec Ideal S32 .f32) (b : Fin 16) (o : Fin 32) (n : Fin 62) (u : Fin 16):
    posLearned g w c (ix4 b o n u) = ∑ x : Fin 16, g (ix4 b x n ⟨64 + u.val, by omega⟩) * w (ix2 o x) + c (ix1 o) := by
  pointwise [posLearned]

theorem proj_apply (g : FVec Ideal S16x16x62x80 .f32) (w : FVec Ideal S1024x512 .f32) (c : FVec Ideal S512 .f32) (b : Fin 16) (n : Fin 62) (k : Fin 512):
    proj (feats g) w c (ix3 b n k)
      = ∑ x : Fin 1024, g (ix4 b ⟨x.val / 64, by omega⟩ n ⟨x.val % 64, by omega⟩) * w (ix2 x k) + c (ix1 k) := by
  pointwise [proj, feats]

section
variable (src dst : Fin 4062 → Fin 62) {s t : IVec S4062 32} (hs : ∀ e, s (ix1 e) = BitVec.ofNat 32 (src e).val)
  (ht : ∀ e, t (ix1 e) = BitVec.ofNat 32 (dst e).val)
include hs ht

/-- An edge's score: the score of its pair of nodes. -/
theorem edge_score (l r : FVec Ideal S16x62x512 .f32) (a : FVec Ideal S2x256 .f32) (b : Fin 16) (e : Fin 4062) (k : Fin 512) :
    scores (pairSum (pick l s) (pick r t)) a (ix3 b e ⟨k.val / 256, by omega⟩)
      = colScore (fun j x => l (ix3 b j x)) (fun i x => r (ix3 b i x)) (fun h x => a (ix2 h x)) k (dst e) (src e) := by
  rw [scores_apply, colScore]
  simp only [pick_apply s src hs, pick_apply t dst ht]

/-- What the attention gathers at a node. -/
theorem attend_real {l r : FVec Ideal S16x62x512 .f32} {a : FVec Ideal S2x256 .f32} {b : Fin 16} {L : Fin 62 → Fin 512 → ℝ}
    (hl : ∀ j x, l (ix3 b j x) = (L j x : EReal)) (i : Fin 62) (k : Fin 512) :
    attend l r a s t (ix3 b i k)
      = (gain src dst (colScore (fun j x => l (ix3 b j x)) (fun i x => r (ix3 b i x)) (fun h x => a (ix2 h x)) k) tiny (fun j => L j k) i : ℝ) := by
  set z := scores (pairSum (pick l s) (pick r t)) a with hz
  set q := colScore (fun j x => l (ix3 b j x)) (fun i x => r (ix3 b i x)) (fun h x => a (ix2 h x)) k with hq
  have e1 : ∀ e, z (ix3 b e ⟨k.val / 256, by omega⟩) = q (dst e) (src e) := fun e => edge_score src dst hs ht l r a b e k
  have e2 : ∀ i, top z t (ix3 b i ⟨k.val / 256, by omega⟩) = most src dst q i := fun i => by
    rw [top_apply t dst ht]
    simp only [e1]
    exact most_edges src dst q i
  have e3 : ∀ e, weight z t (ix3 b e ⟨k.val / 256, by omega⟩) = (soft src dst q (dst e) (src e) : EReal) := fun e => by
    rw [weight_apply, pick2_apply t dst ht, e1, e2]
    exact exp_edge src dst q e
  have e4 : ∀ i, total (weight z t) t (ix3 b i ⟨k.val / 256, by omega⟩) = (norm src dst q i : EReal) := fun i => by
    rw [total_apply t dst ht]
    simp only [e3]
    rw [← norm_edges, coe_sum]
    refine Finset.sum_congr rfl fun e _ => ?_
    split <;> rfl
  have e5 : ∀ e, share (weight z t) t (ix3 b e ⟨k.val / 256, by omega⟩)
      = (soft src dst q (dst e) (src e) * (1 / (norm src dst q (dst e) + tiny)) : ℝ) := fun e => by
    rw [share_apply, pick2_apply t dst ht, e3, e4, tiny_word.1, ← EReal.coe_add,
      Ideal.div_coe (ne_of_gt (add_pos_of_nonneg_of_pos (norm_nonneg src dst q _) tiny_word.2)), ← EReal.coe_mul]
  rw [attend, gathered_apply t dst ht, ← gain_edges, coe_sum]
  refine Finset.sum_congr rfl fun e _ => ?_
  split
  · rw [message_apply, ← hz, e5, pick_apply s src hs, hl, ← EReal.coe_mul]
  · rfl

end

end Cert.ReferenceIdeal.Ref
-- ==== Proof.RefFeat.lean ====
/- The reference's features, dense layers and positional layer, on arguments that are numbers. -/
module

public import proofs.«01_k».proof.Proof.Args
public import proofs.«01_k».proof.Proof.RefNodes

@[expose] public section

set_option maxRecDepth 16384

noncomputable section

namespace Cert.ReferenceIdeal.Ref

open Idealize.ShloMosaic Idealize.ShloMosaic.TcCoe
open Cert.ReferenceIdeal Cert.ReferenceIdeal.Gen Cert.Value

/-- The reference's features. -/
def refFeat (A : Args) : FVec Ideal S16x16x62x80 .f32 :=
  glu (dcn (signal A.a0 A.a3 A.a4 A.a1) A.a5 A.a6 A.a7 A.a8 A.a9 A.a10)
    (dcn (signal A.a0 A.a3 A.a4 A.a1) A.a11 A.a12 A.a13 A.a14 A.a15 A.a16)
    (dcn (signal A.a0 A.a3 A.a4 A.a1) A.a17 A.a18 A.a19 A.a20 A.a21 A.a22)

theorem lay32_word {w : FVec Ideal S16x32x1x2 .f32} (h : Num w) (o : Fin 16) (i : Fin 32) (c : Fin 2) :
    w (ix4 o i 0 c) = (lay32 w o ⟨2 * i.val + c.val, by omega⟩ : EReal) := by
  have e1 : ∀ h, (⟨(2 * i.val + c.val) / 2, h⟩ : Fin 32) = i := fun h => Fin.ext (by show (2 * i.val + c.val) / 2 = i.val; omega)
  have e2 : ∀ h, (⟨(2 * i.val + c.val) % 2, h⟩ : Fin 2) = c := fun h => Fin.ext (by show (2 * i.val + c.val) % 2 = c.val; omega)
  simp only [lay32, e1, e2]
  exact h _

theorem lay16_word {w : FVec Ideal S16x16x1x2 .f32} (h : Num w) (o : Fin 16) (i : Fin 16) (c : Fin 2) :
    w (ix4 o i 0 c) = (lay16 w o ⟨2 * i.val + c.val, by omega⟩ : EReal) := by
  have e1 : ∀ h, (⟨(2 * i.val + c.val) / 2, h⟩ : Fin 16) = i := fun h => Fin.ext (by show (2 * i.val + c.val) / 2 = i.val; omega)
  have e2 : ∀ h, (⟨(2 * i.val + c.val) % 2, h⟩ : Fin 2) = c := fun h => Fin.ext (by show (2 * i.val + c.val) % 2 = c.val; omega)
  simp only [lay16, e1, e2]
  exact h _

theorem line_ref {A : Args} (hA : Fine A) {w0 : FVec Ideal S16x32x1x2 .f32} {b0 : FVec Ideal S16 .f32} {w1 : FVec Ideal S16x16x1x2 .f32}
    {b1 : FVec Ideal S16 .f32} {w2 : FVec Ideal S16x16x1x2 .f32} {b2 : FVec Ideal S16 .f32} (h0 : Num w0) (k0 : Num b0) (h1 : Num w1)
    (k1 : Num b1) (h2 : Num w2) (k2 : Num b2) (b : Fin 16) (o : Fin 16) (n : Fin 62) (t : Fin 80) :
    dcn (signal A.a0 A.a3 A.a4 A.a1) w0 b0 w1 b1 w2 b2 (ix4 b o n t) = (line w0 b0 w1 b1 w2 b2 (wave A b n) t.val o : EReal) :=
  dcn_real b n (X := wave A b n)
    (fun i w => signal_real b n (fun k => hA.n0 b n k) (fun i => hA.n3 _) (fun i => hA.n4 _) (fun i v => hA.n1 _) i w)
    (lay32_word h0) (lay16_word h1) (lay16_word h2) (fun o => k0 _) (fun o => k1 _) (fun o => k2 _) o t

theorem refFeat_real {A : Args} (hA : Fine A) (b : Fin 16) (o : Fin 16) (n : Fin 62) (t : Fin 80) :
    refFeat A (ix4 b o n t) = (feat A b n t.val o : EReal) :=
  glu_real (line_ref hA hA.n5 hA.n6 hA.n7 hA.n8 hA.n9 hA.n10 b o n t)
    (line_ref hA hA.n11 hA.n12 hA.n13 hA.n14 hA.n15 hA.n16 b o n t) (line_ref hA hA.n17 hA.n18 hA.n19 hA.n20 hA.n21 hA.n22 b o n t)

theorem proj_lin {A : Args} (hA : Fine A) (W : FVec Ideal S1024x512 .f32) (c : FVec Ideal S512 .f32) (b : Fin 16) (n : Fin 62) (k : Fin 512) :
    proj (feats (refFeat A)) W c (ix3 b n k) = lin A W c b n k := by
  rw [proj_apply, lin]
  simp only [refFeat_real hA]

theorem posLearned_mixed {A : Args} (hA : Fine A) (b : Fin 16) (o : Fin 32) (n : Fin 62) (u : Fin 16) :
    posLearned (refFeat A) A.a23 A.a24 (ix4 b o n u) = mixed A b o n u := by
  rw [posLearned_apply, mixed]
  simp only [refFeat_real hA]

end Cert.ReferenceIdeal.Ref
-- ==== Proof.Join.lean ====
/- The kernel's results and the reference's, over the same arguments, are the same arrays. -/
module

public import proofs.«01_k».proof.Proof.KernelFeat
public import proofs.«01_k».proof.Proof.Hosts
public import proofs.«01_k».proof.Proof.Attend
public import proofs.«01_k».proof.Proof.RefFeat
public import proofs.«01_k».proof.Proof.RefNodes

@[expose] public section

set_option maxRecDepth 16384

noncomputable section

namespace Cert.Value

open Idealize.ShloMosaic Idealize.ShloMosaic.TcCoe
open Cert.KernelIdeal Cert.KernelIdeal.Gen

/-! ## The kernel's arrays over the arguments -/

/-- The attention's left or right input. -/
def side (A : Args) (W : FVec Ideal S1024x512 .f32) (c : FVec Ideal S512 .f32) : FVec Ideal S16x62x512 .f32 :=
  shapeCast S16x62x512 (Taps.dense (Taps.featN A) W (Taps.row512 c)) shapeCasts_S992x512_S16x62x512

/-- The kernel's first result. -/
def kernelPre (A : Args) : FVec Ideal S16x1x64 .f32 :=
  allOut (side A A.a25 A.a26) (side A A.a27 A.a28) A.a29 (edgesOf A) A.a33 (Taps.readOut A.a31)
    (Taps.readBias A.a31 (Taps.one1 A.a32) A.a33 (Taps.one1 A.a34) (Taps.eight A.a30))

/-- The kernel's third result. -/
def kernelPos (A : Args) : FVec Ideal S16x32x62x16 .f32 :=
  transpose S16x32x62x16 [0, 2, 1, 3]
    (shapeCast S16x62x32x16 (Taps.posDense (Taps.featP A) (Taps.mixPos A.a23) (Taps.mixBias (Taps.col32 A.a24))) shapeCasts_S992x512_S16x62x32x16)
    transposes_S16x62x32x16_S16x32x62x16_0_2_1_3

/-- The reference's attended features. -/
def refAttended (A : Args) : FVec Ideal S16x62x512 .f32 :=
  ReferenceIdeal.Ref.attend (ReferenceIdeal.Ref.proj (ReferenceIdeal.Ref.feats (ReferenceIdeal.Ref.refFeat A)) A.a25 A.a26)
    (ReferenceIdeal.Ref.proj (ReferenceIdeal.Ref.feats (ReferenceIdeal.Ref.refFeat A)) A.a27 A.a28) A.a29
    (ReferenceIdeal.Ref.sources A.a2) (ReferenceIdeal.Ref.targets A.a2)

/-- The reference's first result. -/
def refPre (A : Args) : FVec Ideal S16x1x64 .f32 :=
  ReferenceIdeal.Ref.predict (ReferenceIdeal.Ref.readout (refAttended A) A.a30 A.a31 A.a32 A.a33 A.a34)

/-- The reference's third result. -/
def refPos (A : Args) : FVec Ideal S16x32x62x16 .f32 :=
  ReferenceIdeal.Ref.posLearned (ReferenceIdeal.Ref.refFeat A) A.a23 A.a24

section
variable {A : Args} (hA : Fine A)
include hA

/-- An input of the attention holds the layer's numbers. -/
theorem side_lin (W : FVec Ideal S1024x512 .f32) (c : FVec Ideal S512 .f32) (b : Fin 16) (n : Fin 62) (k : Fin 512) :
    side A W c (ix3 b n k) = lin A W c b n k := by
  rw [← Taps.dense_lin hA W c b n k]
  pointwise [side]

/-- The kernel's third result is the layer on the positional features. -/
theorem kernelPos_mixed (b : Fin 16) (o : Fin 32) (n : Fin 62) (u : Fin 16) : kernelPos A (ix4 b o n u) = mixed A b o n u := by
  rw [← Taps.posDense_mixed hA b n o u]
  pointwise [kernelPos]

/-- The third results agree. -/
theorem pos_eq : kernelPos A = refPos A := by
  funext i
  rw [← ix4_eta i]
  exact (kernelPos_mixed hA _ _ _ _).trans (ReferenceIdeal.Ref.posLearned_mixed hA _ _ _ _).symm

/-- A batch entry of an input of the attention holds the layer's numbers. -/
theorem entry_side (W : FVec Ideal S1024x512 .f32) (c : FVec Ideal S512 .f32) (b : Fin 16) (n : Fin 62) (k : Fin 512) :
    shapeCast S62x512 (entry (side A W c) b) shapeCasts_S1x62x512_S62x512 (ix2 n k) = lin A W c b n k := by
  rw [← side_lin hA W c b n k]
  pointwise [entry]

/-- What the attention gives a node, its left input read as numbers. -/
def gained (A : Args) (b : Fin 16) (n : Fin 62) (k : Fin 512) : ℝ :=
  gain (ends (node A 0)) (ends (node A 1))
    (colScore (fun j x => lin A A.a25 A.a26 b j x) (fun i x => lin A A.a27 A.a28 b i x) (fun h x => A.a29 (ix2 h x)) k) tiny
    (fun j => (lin A A.a25 A.a26 b j k).toReal) n

/-- The reference's attention gives a node the softmax over the edges into it. -/
theorem refAttended_real (b : Fin 16) (n : Fin 62) (k : Fin 512) : refAttended A (ix3 b n k) = (gained A b n k : EReal) := by
  have hL : ∀ j x, ReferenceIdeal.Ref.proj (ReferenceIdeal.Ref.feats (ReferenceIdeal.Ref.refFeat A)) A.a25 A.a26 (ix3 b j x)
      = ((lin A A.a25 A.a26 b j x).toReal : EReal) :=
    fun j x => (ReferenceIdeal.Ref.proj_lin hA A.a25 A.a26 b j x).trans (lin_real A hA.n25 hA.n26 b j x)
  rw [refAttended, ReferenceIdeal.Ref.attend_real (ends (node A 0)) (ends (node A 1)) (sources_apply (node A 0) fun e => node_word hA 0 e)
    (targets_apply (node A 1) fun e => node_word hA 1 e) hL n k, gained]
  simp only [ReferenceIdeal.Ref.proj_lin hA]

/-- The kernel's row of a batch entry is the nodes' gains, weighted by the last layer. -/
theorem heads_gained (b : Fin 16) (k : Fin 512) :
    Taps.heads (shapeCast S62x512 (entry (side A A.a25 A.a26) b) shapeCasts_S1x62x512_S62x512)
      (shapeCast S62x512 (entry (side A A.a27 A.a28) b) shapeCasts_S1x62x512_S62x512) A.a29 (edgesOf A) A.a33 (ix2 0 k)
      = (∑ n, (A.a33 (ix2 0 n)).toReal * gained A b n k : ℝ) := by
  have hM : ∀ i j, edgesOf A (ix2 i j) = (count (ends (node A 0)) (ends (node A 1)) i j : EReal) :=
    fun i j => edges_real (node A 0) (node A 1) (fun e => node_word hA 0 e) (fun e => node_word hA 1 e) i j
  have hL : ∀ j x, shapeCast S62x512 (entry (side A A.a25 A.a26) b) shapeCasts_S1x62x512_S62x512 (ix2 j x)
      = ((lin A A.a25 A.a26 b j x).toReal : EReal) := fun j x => (entry_side hA _ _ b j x).trans (lin_real A hA.n25 hA.n26 b j x)
  rw [Taps.heads_real (ends (node A 0)) (ends (node A 1)) hM hL (fun i => hA.n33 (ix2 0 i)) k]
  simp only [entry_side hA]
  rfl

/-- The first results agree at an entry. -/
theorem pre_at (b : Fin 16) (t : Fin 64) : kernelPre A (ix3 b 0 t) = refPre A (ix3 b 0 t) := by
  rw [refPre, ReferenceIdeal.Ref.predict_apply, ReferenceIdeal.Ref.readout_apply]
  refine (Taps.blockOut_apply (entry (side A A.a25 A.a26) b) (entry (side A A.a27 A.a28) b) A.a29 (edgesOf A) A.a33 _ _ t).trans (congrArg Ideal.logistic ?_)
  simp only [heads_gained hA, refAttended_real hA, Taps.readOut_apply, Taps.readBias_apply, Taps.one1_apply, Taps.eight_apply]
  have h30 := fun k => hA.n30 (ix1 k)
  have h31 := fun r => hA.n31 (ix2 0 r)
  have h32 := hA.n32 (ix1 0)
  have h33 := fun n => hA.n33 (ix2 0 n)
  have key := Taps.readout_split (gained A b) (fun k => (A.a30 (ix1 k)).toReal) (fun r => (A.a31 (ix2 0 r)).toReal) (A.a32 (ix1 0)).toReal
    (fun n => (A.a33 (ix2 0 n)).toReal) (A.a34 (ix1 0)) t
  simp only [← h30, ← h31, ← h32, ← h33] at key
  exact key

/-- The first results agree. -/
theorem pre_eq : kernelPre A = refPre A := by
  funext i
  have e : i = ix3 (i 0) 0 (i 2) :=
    (ix3_eta i).symm.trans (congrArg (fun z : Fin 1 => ix3 (i 0) z (i 2)) (Subsingleton.elim _ _))
  exact (congrArg (kernelPre A) e).trans ((pre_at hA (i 0) (i 2)).trans (congrArg (refPre A) e.symm))

end

end Cert.Value
-- ==== Proof.Finite.lean ====
/- What the precondition says of the arguments: the ends of the edges are nodes, and the arrays it names hold numbers. -/
module

public import proofs.«01_k».proof.Defs
public import proofs.«01_k».proof.Proof.Hosts
public import Idealize.ShloMosaic.Lib.ReduceAll

@[expose] public section

set_option maxRecDepth 16384

noncomputable section

namespace Cert.Value

open Idealize.ShloMosaic Idealize.ShloMosaic.TcCoe
open Cert.KernelIdeal Cert.KernelIdeal.Gen

/-- The shapes that the precondition is written over fit. -/
theorem pre_facts : Cert.Pre_finite.Facts := by
  constructor <;> decide

/-- A word that is the `and` of two words of one bit is one if both are. -/
theorem both_words {a b : BitVec 1} (h : IntOp.andi a b = 1#1) : a = 1#1 ∧ b = 1#1 := by
  revert a b; decide

/-- The ones of two arrays' `and`. -/
theorem both_ones {s : Shape} {x y : IVec s 1} (h : andi x y = fun _ => 1#1) : (x = fun _ => 1#1) ∧ y = fun _ => 1#1 :=
  ⟨funext fun i => (both_words (congrFun h i)).1, funext fun i => (both_words (congrFun h i)).2⟩

instance : Subsingleton Pre_finite.S_.Idx := ⟨fun _ _ => funext fun i => i.elim0⟩

/-- An array whose `and` is one holds ones. -/
theorem all_ones {s u : Shape} {axes : List (Fin s.rank)} {x : IVec s 1} {v : IVec u 1} {hr : s.ReducesTo axes Pre_finite.S_} {hu : 0 < u.numel}
    (h : Host.reduce IntOp.andi x v hr hu = fun _ => 1#1) : x = fun _ => 1#1 :=
  funext fun i => Host.reduce_andi_all x v hr hu (fun k => k.elim0) (congrFun h _) i

/-- Below the top and above the bottom: numbers. -/
theorem num_of {s u : Shape} {axes : List (Fin s.rank)} {x : FVec Ideal s .f32} {hb : Pre_finite.S_.BroadcastsInDim s (![] : Fin 0 → Fin s.rank)}
    {v : IVec u 1} {hr : s.ReducesTo axes Pre_finite.S_} {hu : 0 < u.numel}
    (h : Host.reduce IntOp.andi (andi (cmpf .olt x (broadcastInDim s ![] hb (constant Pre_finite.S_ .f32 0x7F800000#32)))
      (cmpf .ogt x (broadcastInDim s ![] hb (constant Pre_finite.S_ .f32 0xFF800000#32)))) v hr hu = fun _ => 1#1) : Num x := by
  intro i
  obtain ⟨h1, h2⟩ := both_ones (all_ones h)
  replace h1 := congrFun h1 i
  replace h2 := congrFun h2 i
  have t : Ideal.ofBits .f32 0x7F800000#32 = ⊤ := by simp [Ideal.ofBits, Ideal.ieee]
  have b : Ideal.ofBits .f32 0xFF800000#32 = ⊥ := by simp [Ideal.ofBits, Ideal.ieee]
  change Ideal.cmp .olt (x i) (Ideal.ofBits .f32 0x7F800000#32) = 1#1 at h1
  change Ideal.cmp .ogt (x i) (Ideal.ofBits .f32 0xFF800000#32) = 1#1 at h2
  rw [t] at h1
  rw [b] at h2
  refine (EReal.coe_toReal ?_ ?_).symm
  · intro e; rw [e] at h1; simp [Ideal.cmp] at h1
  · intro e; rw [e] at h2; simp [Ideal.cmp] at h2

/-- Between nought and sixty-two: a node. -/
theorem node_of {x : BitVec 32} (h1 : IntOp.cmpi .sge x 0#32 = 1#1) (h2 : IntOp.cmpi .slt x 62#32 = 1#1) :
    ∃ n : Fin 62, x = BitVec.ofNat 32 n.val := by
  have one : ∀ b : Bool, BitVec.ofBool b = 1#1 → b = true := by decide
  replace h1 := one _ h1
  replace h2 := one _ h2
  simp only [BitVec.sle_eq_decide, BitVec.slt_eq_decide, decide_eq_true_eq] at h1 h2
  have z : (0#32 : BitVec 32).toInt = 0 := by decide
  have s : (62#32 : BitVec 32).toInt = 62 := by decide
  rw [z] at h1
  rw [s] at h2
  have k : x.toNat < 62 := by
    have := x.isLt
    rw [BitVec.toInt_eq_toNat_cond] at h1 h2
    split at h1 <;> omega
  exact ⟨⟨x.toNat, k⟩, by simp⟩

set_option maxHeartbeats 4000000 in
/-- The precondition's arguments. -/
theorem fine_of [Cert.Pre_finite.Facts] {m : (ℓ : Loc nD τ sig) → Buf (Elt Ideal) ℓ} (hm : Cert.Pre_KernelIdeal_finite m) (c : Dev nD) :
    Fine (argsOf m c) := by
  have h := hm c
  obtain ⟨h, h33⟩ := both_ones h
  obtain ⟨h, h32⟩ := both_ones h
  obtain ⟨h, h31⟩ := both_ones h
  obtain ⟨h, h30⟩ := both_ones h
  obtain ⟨h, h26⟩ := both_ones h
  obtain ⟨h, h25⟩ := both_ones h
  obtain ⟨h, h22⟩ := both_ones h
  obtain ⟨h, h21⟩ := both_ones h
  obtain ⟨h, h20⟩ := both_ones h
  obtain ⟨h, h19⟩ := both_ones h
  obtain ⟨h, h18⟩ := both_ones h
  obtain ⟨h, h17⟩ := both_ones h
  obtain ⟨h, h16⟩ := both_ones h
  obtain ⟨h, h15⟩ := both_ones h
  obtain ⟨h, h14⟩ := both_ones h
  obtain ⟨h, h13⟩ := both_ones h
  obtain ⟨h, h12⟩ := both_ones h
  obtain ⟨h, h11⟩ := both_ones h
  obtain ⟨h, h10⟩ := both_ones h
  obtain ⟨h, h9⟩ := both_ones h
  obtain ⟨h, h8⟩ := both_ones h
  obtain ⟨h, h7⟩ := both_ones h
  obtain ⟨h, h6⟩ := both_ones h
  obtain ⟨h, h5⟩ := both_ones h
  obtain ⟨h, h4⟩ := both_ones h
  obtain ⟨h, h3⟩ := both_ones h
  obtain ⟨h, h1⟩ := both_ones h
  obtain ⟨h, h0⟩ := both_ones h
  obtain ⟨hg, hl⟩ := both_ones (all_ones h)
  have n0 := num_of h0
  refine { n0 := fun b n k => ?_, n1 := num_of h1, n3 := num_of h3, n4 := num_of h4, n5 := num_of h5, n6 := num_of h6, n7 := num_of h7, n8 := num_of h8, n9 := num_of h9, n10 := num_of h10, n11 := num_of h11, n12 := num_of h12, n13 := num_of h13, n14 := num_of h14, n15 := num_of h15, n16 := num_of h16, n17 := num_of h17, n18 := num_of h18, n19 := num_of h19, n20 := num_of h20, n21 := num_of h21, n22 := num_of h22, n25 := num_of h25, n26 := num_of h26, n30 := num_of h30, n31 := num_of h31, n32 := num_of h32, n33 := num_of h33, edge := fun r e => node_of (congrFun hg (ix2 r e)) (congrFun hl (ix2 r e)) }
  have := n0 (ix3 b n k)
  have e : extractStridedSlice Pre_finite.S16x62x64 ![0, 0, 0] (argsOf m c).a0 Pre_finite.Facts.slices_S16x63x64_S16x62x64_0_0_0 (ix3 b n k)
      = (argsOf m c).a0 (ix3 b ⟨n.val, by omega⟩ k) := by pointwise
  rw [← e]
  exact this

end Cert.Value
-- ==== Proof.RefRun.lean ====
/- What a run of the reference leaves: its three results, as the plain functions of the arguments. -/
module

public import proofs.«01_k».proof.Proof.RefConv
public import proofs.«01_k».proof.Proof.RefAttend
public import proofs.«01_k».proof.Proof.Gen.ReferenceIdeal.Run

@[expose] public section

set_option maxRecDepth 16384

noncomputable section

namespace Cert.ReferenceIdeal.Ref

open Idealize.ShloMosaic Idealize.ShloMosaic.TcCoe
open Cert.ReferenceIdeal Cert.ReferenceIdeal.Gen Cert.ReferenceIdeal.Value Idealize.ShloMosaic.StableHlo

variable {F : FTy → Type} [FloatOps F]

/-- The features at every channel, node and time, from the arguments. -/
def features (V : Valuation τ sig (Elt F)) : FVec F S16x16x62x80 .f32 :=
  let x := signal (F := F) (V (Proc.devRef .tc main_arg0)) (V (Proc.devRef .tc main_arg3)) (V (Proc.devRef .tc main_arg4)) (V (Proc.devRef .tc main_arg1))
  glu (dcn x (V (Proc.devRef .tc main_arg5)) (V (Proc.devRef .tc main_arg6)) (V (Proc.devRef .tc main_arg7)) (V (Proc.devRef .tc main_arg8)) (V (Proc.devRef .tc main_arg9)) (V (Proc.devRef .tc main_arg10)))
    (dcn x (V (Proc.devRef .tc main_arg11)) (V (Proc.devRef .tc main_arg12)) (V (Proc.devRef .tc main_arg13)) (V (Proc.devRef .tc main_arg14)) (V (Proc.devRef .tc main_arg15)) (V (Proc.devRef .tc main_arg16)))
    (dcn x (V (Proc.devRef .tc main_arg17)) (V (Proc.devRef .tc main_arg18)) (V (Proc.devRef .tc main_arg19)) (V (Proc.devRef .tc main_arg20)) (V (Proc.devRef .tc main_arg21)) (V (Proc.devRef .tc main_arg22)))

theorem features_eq (V : Valuation τ sig (Elt F)) : res_main_v148 V = features V := rfl

/-- The attended features, from the arguments. -/
def attended (V : Valuation τ sig (Elt F)) : FVec F S16x62x512 .f32 :=
  attend (proj (feats (features V)) (V (Proc.devRef .tc main_arg25)) (V (Proc.devRef .tc main_arg26)))
    (proj (feats (features V)) (V (Proc.devRef .tc main_arg27)) (V (Proc.devRef .tc main_arg28)))
    (V (Proc.devRef .tc main_arg29)) (sources (V (Proc.devRef .tc main_arg2))) (targets (V (Proc.devRef .tc main_arg2)))

/-- The reference's results. -/
theorem run_results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v272) = predict (readout (attended (launchContents m c)) (launchContents m c (Proc.devRef .tc main_arg30))
          (launchContents m c (Proc.devRef .tc main_arg31)) (launchContents m c (Proc.devRef .tc main_arg32))
          (launchContents m c (Proc.devRef .tc main_arg33)) (launchContents m c (Proc.devRef .tc main_arg34)))
      ∧ r.2.mem ((c.tc : Thread nD τ).loc main_v1)
          = extractStridedSlice S16x1x64 ![0, 62, 0] (launchContents m c (Proc.devRef .tc main_arg0)) slices_S16x63x64_S16x1x64_0_62_0
      ∧ r.2.mem ((c.tc : Thread nD τ).loc main_v157)
          = posLearned (features (launchContents m c)) (launchContents m c (Proc.devRef .tc main_arg23)) (launchContents m c (Proc.devRef .tc main_arg24)) :=
  (θ_run _ _ _).mono (fun r h c => ⟨(h c).1, (h c).2.1, (h c).2.2.1⟩) (Cert.ReferenceIdeal.Value.run m ρ)

end Cert.ReferenceIdeal.Ref
-- ==== Proof.Values.lean ====
/- The two programs, run over the same arguments, end with the same results. -/
module

public import proofs.«01_k».proof.Defs
public import proofs.«01_k».proof.Proof.Join
public import proofs.«01_k».proof.Proof.Finite
public import proofs.«01_k».proof.Proof.Run
public import proofs.«01_k».proof.Proof.RefRun

@[expose] public section

set_option maxRecDepth 16384
set_option maxHeartbeats 4000000

noncomputable section

namespace Cert.ReferenceIdeal.Ref

open Idealize.ShloMosaic Idealize.ShloMosaic.TcCoe
open Cert.ReferenceIdeal Cert.Value

/-- The reference's arguments on device `c`. -/
def refArgs (m : (ℓ : Loc nD τ sig) → Buf (Elt Ideal) ℓ) (c : Dev nD) : Args :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14),
   m ((c : Thread nD τ).loc main_arg15),
   m ((c : Thread nD τ).loc main_arg16),
   m ((c : Thread nD τ).loc main_arg17),
   m ((c : Thread nD τ).loc main_arg18),
   m ((c : Thread nD τ).loc main_arg19),
   m ((c : Thread nD τ).loc main_arg20),
   m ((c : Thread nD τ).loc main_arg21),
   m ((c : Thread nD τ).loc main_arg22),
   m ((c : Thread nD τ).loc main_arg23),
   m ((c : Thread nD τ).loc main_arg24),
   m ((c : Thread nD τ).loc main_arg25),
   m ((c : Thread nD τ).loc main_arg26),
   m ((c : Thread nD τ).loc main_arg27),
   m ((c : Thread nD τ).loc main_arg28),
   m ((c : Thread nD τ).loc main_arg29),
   m ((c : Thread nD τ).loc main_arg30),
   m ((c : Thread nD τ).loc main_arg31),
   m ((c : Thread nD τ).loc main_arg32),
   m ((c : Thread nD τ).loc main_arg33),
   m ((c : Thread nD τ).loc main_arg34)⟩

end Cert.ReferenceIdeal.Ref

namespace Cert.Proof

open Idealize.ShloMosaic Idealize.ShloMosaic.TcCoe Idealize.SL.Sem
open Cert.KernelIdeal Cert.KernelIdeal.Gen Cert.Value
open Cert.ReferenceIdeal.Ref (refArgs)

/-- The kernel's run: its results over its arguments. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v40) = kernelPre (argsOf m c)
      ∧ r.2.mem ((c.tc : Thread nD τ).loc main_v1)
          = extractStridedSlice S16x1x64 ![0, 62, 0] (argsOf m c).a0 slices_S16x63x64_S16x1x64_0_62_0
      ∧ r.2.mem ((c.tc : Thread nD τ).loc main_v42) = kernelPos (argsOf m c)
      ∧ ∀ a ∈ argRefs, r.2.mem ((c.tc : Thread nD τ).loc a) = m ((c.tc : Thread nD τ).loc a) :=
  (θ_run _ _ _).mono (fun r h c => ⟨(h.1 c _ (mem_uc main_v40 (by decide))).trans (result1 m g c),
    (h.1 c _ (mem_uc main_v1 (by decide))).trans (result2 m g c), (h.1 c _ (mem_uc main_v42 (by decide))).trans (result3 m g c),
    fun a ha => (h.1 c _ (mem_uc a ((show ∀ a ∈ argRefs, ¬ (Proc.devRef .tc a : DevRef τ sig).isScoped by decide) a ha))).trans
      (W7_args m g c a ha)⟩) (run_ends m g)

/-- The results are the reference's, on arguments that meet the precondition. -/
theorem values (hp : Cert.Pre_finite.Facts) : Cert.algebraic_KernelIdeal_ReferenceIdeal_pre_finite := by
  intro m g m' g' hpre hagree
  refine ⟨fun c => kernelPre (argsOf m c), fun c => extractStridedSlice S16x1x64 ![0, 62, 0] (argsOf m c).a0 slices_S16x63x64_S16x1x64_0_62_0,
    fun c => kernelPos (argsOf m c), ?_, ?_⟩
  · refine (θ_run _ _ _).mono (fun r h c => ?_) (kernel_run m g)
    obtain ⟨h1, h2, h3, e⟩ := h c
    refine ⟨h1, h2, h3, ?_⟩
    and_intros <;> exact e _ (by decide)
  · refine (θ_run _ _ _).mono (fun r h c => ?_) (Cert.ReferenceIdeal.Value.run m' g')
    have hA := fine_of hpre c
    have eA : refArgs m' c = argsOf m c := by
      obtain ⟨e0, e1, e2, e3, e4, e5, e6, e7, e8, e9, e10, e11, e12, e13, e14, e15, e16, e17, e18, e19, e20, e21, e22, e23, e24, e25, e26, e27, e28, e29, e30, e31, e32, e33, e34⟩ := hagree c
      rw [refArgs, argsOf, e0, e1, e2, e3, e4, e5, e6, e7, e8, e9, e10, e11, e12, e13, e14, e15, e16, e17, e18, e19, e20, e21, e22, e23, e24, e25, e26, e27, e28, e29, e30, e31, e32, e33, e34]
    obtain ⟨h1, h2, h3, e⟩ := h c
    refine ⟨h1.trans ?_, h2.trans ?_, h3.trans ?_, e⟩
    · show refPre (refArgs m' c) = kernelPre (argsOf m c)
      rw [eA, pre_eq hA]
    · show extractStridedSlice S16x1x64 ![0, 62, 0] (refArgs m' c).a0 slices_S16x63x64_S16x1x64_0_62_0 = _
      rw [eA]
    · show refPos (refArgs m' c) = kernelPos (argsOf m c)
      rw [eA, pos_eq hA]

end Cert.Proof
-- ==== Proof.lean ====
/- The claims about the programs: every run ends and leaves the arguments as they were, the one named constant stands for
   the mask, and the kernel's results are the reference's. -/
module

public import proofs.«01_k».proof.Defs
public import proofs.«01_k».proof.Proof.Frames
public import proofs.«01_k».proof.Proof.ReferenceFrame
public import proofs.«01_k».proof.Proof.Values
public import Idealize.ShloMosaic.Adequacy
public import Idealize.ShloMosaic.Init

@[expose] public section

noncomputable section

namespace Cert.Proof

open Idealize.ShloMosaic Idealize.SL.Sem

/-- The frame of the program with the named constant, on arguments that meet the precondition. -/
theorem kernel_ideal_frame_pre [hPre_finite : Cert.Pre_finite.Facts] : Cert.quiescent_KernelIdeal_pre_finite :=
  fun m g _ => kernel_ideal_frame m g trivial

/-- The reference's frame, on arguments that meet the precondition. -/
theorem reference_frame_pre [hPre_finite : Cert.Pre_finite.Facts] : Cert.quiescent_ReferenceIdeal_pre_finite :=
  fun m g _ => reference_frame m g trivial

theorem claim : Cert.Claim := ⟨Cert.Kernel.Gen.facts, Cert.KernelIdeal.Gen.facts, Cert.ReferenceIdeal.Gen.facts, Cert.Value.pre_facts,
  kernel_frame, kernel_ideal_frame, kernel_ideal_frame_pre (hPre_finite := Cert.Value.pre_facts), reference_frame,
  reference_frame_pre (hPre_finite := Cert.Value.pre_facts),
  IdealRules.named_const.statement Cert.KernelIdeal.κ "mask" .f32 0xF149F2CA#32 ⊥ rfl, values Cert.Value.pre_facts⟩

end Cert.Proof

end
